-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_weights_finite [hPre_weights_finite : Cert.Pre_weights_finite.Facts] (m : (ℓ : Loc Cert.ProjIdeal.nD Cert.ProjIdeal.τ Cert.ProjIdeal.sig) → Buf (Elt Ideal) ℓ) : Prop :=
  ∀ c : Dev Cert.ProjIdeal.nD,
    (Cert.Pre_weights_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5))) = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_weights_finite [hPre_weights_finite : Cert.Pre_weights_finite.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_weights_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5))) = (fun _ => 1#1)

def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_RetNew (m : (ℓ : Loc Cert.RetNew.nD Cert.RetNew.τ Cert.RetNew.sig) → Buf (Elt Bits) ℓ) : Prop :=
  True

def Pre_RetNewIdeal (m : (ℓ : Loc Cert.RetNewIdeal.nD Cert.RetNewIdeal.τ Cert.RetNewIdeal.sig) → Buf (Elt Ideal) ℓ) : Prop :=
  True

def Pre_RetNewRefIdeal (m : (ℓ : Loc Cert.RetNewRefIdeal.nD Cert.RetNewRefIdeal.τ Cert.RetNewRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjIdeal_pre_weights_finite [hProjIdeal : Cert.ProjIdeal.Facts] [hPre_weights_finite : Cert.Pre_weights_finite.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_weights_finite m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_ProjRefIdeal_pre_weights_finite [hProjRefIdeal : Cert.ProjRefIdeal.Facts] [hPre_weights_finite : Cert.Pre_weights_finite.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_weights_finite m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2)
      ∧ r.2.mem ((c.tc : Thread Cert.Ret.nD Cert.Ret.τ).loc Cert.Ret.main_arg3) = m ((c.tc : Thread Cert.Ret.nD Cert.Ret.τ).loc Cert.Ret.main_arg3)
      ∧ r.2.mem ((c.tc : Thread Cert.Ret.nD Cert.Ret.τ).loc Cert.Ret.main_arg4) = m ((c.tc : Thread Cert.Ret.nD Cert.Ret.τ).loc Cert.Ret.main_arg4))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
      ∧ r.2.mem ((c.tc : Thread Cert.RetIdeal.nD Cert.RetIdeal.τ).loc Cert.RetIdeal.main_arg3) = m ((c.tc : Thread Cert.RetIdeal.nD Cert.RetIdeal.τ).loc Cert.RetIdeal.main_arg3)
      ∧ r.2.mem ((c.tc : Thread Cert.RetIdeal.nD Cert.RetIdeal.τ).loc Cert.RetIdeal.main_arg4) = m ((c.tc : Thread Cert.RetIdeal.nD Cert.RetIdeal.τ).loc Cert.RetIdeal.main_arg4))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)
      ∧ r.2.mem ((c.tc : Thread Cert.RetRefIdeal.nD Cert.RetRefIdeal.τ).loc Cert.RetRefIdeal.main_arg3) = m ((c.tc : Thread Cert.RetRefIdeal.nD Cert.RetRefIdeal.τ).loc Cert.RetRefIdeal.main_arg3)
      ∧ r.2.mem ((c.tc : Thread Cert.RetRefIdeal.nD Cert.RetRefIdeal.τ).loc Cert.RetRefIdeal.main_arg4) = m ((c.tc : Thread Cert.RetRefIdeal.nD Cert.RetRefIdeal.τ).loc Cert.RetRefIdeal.main_arg4))
      ∧ r.2.sem = fun _ => 0)

def quiescent_RetNew [hRetNew : Cert.RetNew.Facts] : Prop :=
  ∀ (m : (ℓ : Loc Cert.RetNew.nD Cert.RetNew.τ Cert.RetNew.sig) → Buf (Elt Bits) ℓ) (g : Dev Cert.RetNew.nD → PrngReg), Pre_RetNew m →
    θ_run (Cert.RetNew.defs (F := Bits)) (onTc (τ := Cert.RetNew.τ) (Cert.RetNew.main (F := Bits))) ⟨m, fun _ => 0, g⟩ (fun r => (∀ c : Dev Cert.RetNew.nD,
      r.2.mem ((c.tc : Thread Cert.RetNew.nD Cert.RetNew.τ).loc Cert.RetNew.main_arg0) = m ((c.tc : Thread Cert.RetNew.nD Cert.RetNew.τ).loc Cert.RetNew.main_arg0)
      ∧ r.2.mem ((c.tc : Thread Cert.RetNew.nD Cert.RetNew.τ).loc Cert.RetNew.main_arg1) = m ((c.tc : Thread Cert.RetNew.nD Cert.RetNew.τ).loc Cert.RetNew.main_arg1)
      ∧ r.2.mem ((c.tc : Thread Cert.RetNew.nD Cert.RetNew.τ).loc Cert.RetNew.main_arg2) = m ((c.tc : Thread Cert.RetNew.nD Cert.RetNew.τ).loc Cert.RetNew.main_arg2)
      ∧ r.2.mem ((c.tc : Thread Cert.RetNew.nD Cert.RetNew.τ).loc Cert.RetNew.main_arg3) = m ((c.tc : Thread Cert.RetNew.nD Cert.RetNew.τ).loc Cert.RetNew.main_arg3)
      ∧ r.2.mem ((c.tc : Thread Cert.RetNew.nD Cert.RetNew.τ).loc Cert.RetNew.main_arg4) = m ((c.tc : Thread Cert.RetNew.nD Cert.RetNew.τ).loc Cert.RetNew.main_arg4)
      ∧ r.2.mem ((c.tc : Thread Cert.RetNew.nD Cert.RetNew.τ).loc Cert.RetNew.main_arg5) = m ((c.tc : Thread Cert.RetNew.nD Cert.RetNew.τ).loc Cert.RetNew.main_arg5))
      ∧ r.2.sem = fun _ => 0)

def quiescent_RetNewIdeal [hRetNewIdeal : Cert.RetNewIdeal.Facts] : Prop :=
  ∀ (m : (ℓ : Loc Cert.RetNewIdeal.nD Cert.RetNewIdeal.τ Cert.RetNewIdeal.sig) → Buf (Elt Ideal) ℓ) (g : Dev Cert.RetNewIdeal.nD → PrngReg), Pre_RetNewIdeal m →
    θ_run (Cert.RetNewIdeal.defs (F := Ideal)) (onTc (τ := Cert.RetNewIdeal.τ) (Cert.RetNewIdeal.main (F := Ideal))) ⟨m, fun _ => 0, g⟩ (fun r => (∀ c : Dev Cert.RetNewIdeal.nD,
      r.2.mem ((c.tc : Thread Cert.RetNewIdeal.nD Cert.RetNewIdeal.τ).loc Cert.RetNewIdeal.main_arg0) = m ((c.tc : Thread Cert.RetNewIdeal.nD Cert.RetNewIdeal.τ).loc Cert.RetNewIdeal.main_arg0)
      ∧ r.2.mem ((c.tc : Thread Cert.RetNewIdeal.nD Cert.RetNewIdeal.τ).loc Cert.RetNewIdeal.main_arg1) = m ((c.tc : Thread Cert.RetNewIdeal.nD Cert.RetNewIdeal.τ).loc Cert.RetNewIdeal.main_arg1)
      ∧ r.2.mem ((c.tc : Thread Cert.RetNewIdeal.nD Cert.RetNewIdeal.τ).loc Cert.RetNewIdeal.main_arg2) = m ((c.tc : Thread Cert.RetNewIdeal.nD Cert.RetNewIdeal.τ).loc Cert.RetNewIdeal.main_arg2)
      ∧ r.2.mem ((c.tc : Thread Cert.RetNewIdeal.nD Cert.RetNewIdeal.τ).loc Cert.RetNewIdeal.main_arg3) = m ((c.tc : Thread Cert.RetNewIdeal.nD Cert.RetNewIdeal.τ).loc Cert.RetNewIdeal.main_arg3)
      ∧ r.2.mem ((c.tc : Thread Cert.RetNewIdeal.nD Cert.RetNewIdeal.τ).loc Cert.RetNewIdeal.main_arg4) = m ((c.tc : Thread Cert.RetNewIdeal.nD Cert.RetNewIdeal.τ).loc Cert.RetNewIdeal.main_arg4)
      ∧ r.2.mem ((c.tc : Thread Cert.RetNewIdeal.nD Cert.RetNewIdeal.τ).loc Cert.RetNewIdeal.main_arg5) = m ((c.tc : Thread Cert.RetNewIdeal.nD Cert.RetNewIdeal.τ).loc Cert.RetNewIdeal.main_arg5))
      ∧ r.2.sem = fun _ => 0)

def quiescent_RetNewRefIdeal [hRetNewRefIdeal : Cert.RetNewRefIdeal.Facts] : Prop :=
  ∀ (m : (ℓ : Loc Cert.RetNewRefIdeal.nD Cert.RetNewRefIdeal.τ Cert.RetNewRefIdeal.sig) → Buf (Elt Ideal) ℓ) (g : Dev Cert.RetNewRefIdeal.nD → PrngReg), Pre_RetNewRefIdeal m →
    θ_run (Cert.RetNewRefIdeal.defs (F := Ideal)) (onTc (τ := Cert.RetNewRefIdeal.τ) (Cert.RetNewRefIdeal.main (F := Ideal))) ⟨m, fun _ => 0, g⟩ (fun r => (∀ c : Dev Cert.RetNewRefIdeal.nD,
      r.2.mem ((c.tc : Thread Cert.RetNewRefIdeal.nD Cert.RetNewRefIdeal.τ).loc Cert.RetNewRefIdeal.main_arg0) = m ((c.tc : Thread Cert.RetNewRefIdeal.nD Cert.RetNewRefIdeal.τ).loc Cert.RetNewRefIdeal.main_arg0)
      ∧ r.2.mem ((c.tc : Thread Cert.RetNewRefIdeal.nD Cert.RetNewRefIdeal.τ).loc Cert.RetNewRefIdeal.main_arg1) = m ((c.tc : Thread Cert.RetNewRefIdeal.nD Cert.RetNewRefIdeal.τ).loc Cert.RetNewRefIdeal.main_arg1)
      ∧ r.2.mem ((c.tc : Thread Cert.RetNewRefIdeal.nD Cert.RetNewRefIdeal.τ).loc Cert.RetNewRefIdeal.main_arg2) = m ((c.tc : Thread Cert.RetNewRefIdeal.nD Cert.RetNewRefIdeal.τ).loc Cert.RetNewRefIdeal.main_arg2)
      ∧ r.2.mem ((c.tc : Thread Cert.RetNewRefIdeal.nD Cert.RetNewRefIdeal.τ).loc Cert.RetNewRefIdeal.main_arg3) = m ((c.tc : Thread Cert.RetNewRefIdeal.nD Cert.RetNewRefIdeal.τ).loc Cert.RetNewRefIdeal.main_arg3)
      ∧ r.2.mem ((c.tc : Thread Cert.RetNewRefIdeal.nD Cert.RetNewRefIdeal.τ).loc Cert.RetNewRefIdeal.main_arg4) = m ((c.tc : Thread Cert.RetNewRefIdeal.nD Cert.RetNewRefIdeal.τ).loc Cert.RetNewRefIdeal.main_arg4)
      ∧ r.2.mem ((c.tc : Thread Cert.RetNewRefIdeal.nD Cert.RetNewRefIdeal.τ).loc Cert.RetNewRefIdeal.main_arg5) = m ((c.tc : Thread Cert.RetNewRefIdeal.nD Cert.RetNewRefIdeal.τ).loc Cert.RetNewRefIdeal.main_arg5))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v38) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v4) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_Proj_ProjIdeal : Prop :=
  True

def algebraic_ProjIdeal_ProjRefIdeal_pre_weights_finite [hProjIdeal : Cert.ProjIdeal.Facts] [hProjRefIdeal : Cert.ProjRefIdeal.Facts] [hPre_weights_finite : Cert.Pre_weights_finite.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_weights_finite m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v47_0)) (v1 : (c : Dev Cert.ProjIdeal.nD) → Buf (Elt Ideal) ((c.tc : Thread Cert.ProjIdeal.nD Cert.ProjIdeal.τ).loc Cert.ProjIdeal.main_v47_1)) (v2 : (c : Dev Cert.ProjIdeal.nD) → Buf (Elt Ideal) ((c.tc : Thread Cert.ProjIdeal.nD Cert.ProjIdeal.τ).loc Cert.ProjIdeal.main_v47_2)) (v3 : (c : Dev Cert.ProjIdeal.nD) → Buf (Elt Ideal) ((c.tc : Thread Cert.ProjIdeal.nD Cert.ProjIdeal.τ).loc Cert.ProjIdeal.main_v47_3)) (v4 : (c : Dev Cert.ProjIdeal.nD) → Buf (Elt Ideal) ((c.tc : Thread Cert.ProjIdeal.nD Cert.ProjIdeal.τ).loc Cert.ProjIdeal.main_v47_4)) (v5 : (c : Dev Cert.ProjIdeal.nD) → Buf (Elt Ideal) ((c.tc : Thread Cert.ProjIdeal.nD Cert.ProjIdeal.τ).loc Cert.ProjIdeal.main_v47_5)) (v6 : (c : Dev Cert.ProjIdeal.nD) → Buf (Elt Ideal) ((c.tc : Thread Cert.ProjIdeal.nD Cert.ProjIdeal.τ).loc Cert.ProjIdeal.main_v47_6)) (v7 : (c : Dev Cert.ProjIdeal.nD) → Buf (Elt Ideal) ((c.tc : Thread Cert.ProjIdeal.nD Cert.ProjIdeal.τ).loc Cert.ProjIdeal.main_v47_7)) (v8 : (c : Dev Cert.ProjIdeal.nD) → Buf (Elt Ideal) ((c.tc : Thread Cert.ProjIdeal.nD Cert.ProjIdeal.τ).loc Cert.ProjIdeal.main_v47_8)) (v9 : (c : Dev Cert.ProjIdeal.nD) → Buf (Elt Ideal) ((c.tc : Thread Cert.ProjIdeal.nD Cert.ProjIdeal.τ).loc Cert.ProjIdeal.main_v47_9)) (v10 : (c : Dev Cert.ProjIdeal.nD) → Buf (Elt Ideal) ((c.tc : Thread Cert.ProjIdeal.nD Cert.ProjIdeal.τ).loc Cert.ProjIdeal.main_v47_10)) (v11 : (c : Dev Cert.ProjIdeal.nD) → Buf (Elt Ideal) ((c.tc : Thread Cert.ProjIdeal.nD Cert.ProjIdeal.τ).loc Cert.ProjIdeal.main_v47_11)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v47_0) = v0 c
          ∧ r.2.mem ((c.tc : Thread Cert.ProjIdeal.nD Cert.ProjIdeal.τ).loc Cert.ProjIdeal.main_v47_1) = v1 c
          ∧ r.2.mem ((c.tc : Thread Cert.ProjIdeal.nD Cert.ProjIdeal.τ).loc Cert.ProjIdeal.main_v47_2) = v2 c
          ∧ r.2.mem ((c.tc : Thread Cert.ProjIdeal.nD Cert.ProjIdeal.τ).loc Cert.ProjIdeal.main_v47_3) = v3 c
          ∧ r.2.mem ((c.tc : Thread Cert.ProjIdeal.nD Cert.ProjIdeal.τ).loc Cert.ProjIdeal.main_v47_4) = v4 c
          ∧ r.2.mem ((c.tc : Thread Cert.ProjIdeal.nD Cert.ProjIdeal.τ).loc Cert.ProjIdeal.main_v47_5) = v5 c
          ∧ r.2.mem ((c.tc : Thread Cert.ProjIdeal.nD Cert.ProjIdeal.τ).loc Cert.ProjIdeal.main_v47_6) = v6 c
          ∧ r.2.mem ((c.tc : Thread Cert.ProjIdeal.nD Cert.ProjIdeal.τ).loc Cert.ProjIdeal.main_v47_7) = v7 c
          ∧ r.2.mem ((c.tc : Thread Cert.ProjIdeal.nD Cert.ProjIdeal.τ).loc Cert.ProjIdeal.main_v47_8) = v8 c
          ∧ r.2.mem ((c.tc : Thread Cert.ProjIdeal.nD Cert.ProjIdeal.τ).loc Cert.ProjIdeal.main_v47_9) = v9 c
          ∧ r.2.mem ((c.tc : Thread Cert.ProjIdeal.nD Cert.ProjIdeal.τ).loc Cert.ProjIdeal.main_v47_10) = v10 c
          ∧ r.2.mem ((c.tc : Thread Cert.ProjIdeal.nD Cert.ProjIdeal.τ).loc Cert.ProjIdeal.main_v47_11) = v11 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v136) = v0 c
          ∧ r.2.mem ((c.tc : Thread Cert.ProjRefIdeal.nD Cert.ProjRefIdeal.τ).loc Cert.ProjRefIdeal.main_v137) = v1 c
          ∧ r.2.mem ((c.tc : Thread Cert.ProjRefIdeal.nD Cert.ProjRefIdeal.τ).loc Cert.ProjRefIdeal.main_v138) = v2 c
          ∧ r.2.mem ((c.tc : Thread Cert.ProjRefIdeal.nD Cert.ProjRefIdeal.τ).loc Cert.ProjRefIdeal.main_v140) = v3 c
          ∧ r.2.mem ((c.tc : Thread Cert.ProjRefIdeal.nD Cert.ProjRefIdeal.τ).loc Cert.ProjRefIdeal.main_v141) = v4 c
          ∧ r.2.mem ((c.tc : Thread Cert.ProjRefIdeal.nD Cert.ProjRefIdeal.τ).loc Cert.ProjRefIdeal.main_v128) = v5 c
          ∧ r.2.mem ((c.tc : Thread Cert.ProjRefIdeal.nD Cert.ProjRefIdeal.τ).loc Cert.ProjRefIdeal.main_v142) = v6 c
          ∧ r.2.mem ((c.tc : Thread Cert.ProjRefIdeal.nD Cert.ProjRefIdeal.τ).loc Cert.ProjRefIdeal.main_v20) = v7 c
          ∧ r.2.mem ((c.tc : Thread Cert.ProjRefIdeal.nD Cert.ProjRefIdeal.τ).loc Cert.ProjRefIdeal.main_v143) = v8 c
          ∧ r.2.mem ((c.tc : Thread Cert.ProjRefIdeal.nD Cert.ProjRefIdeal.τ).loc Cert.ProjRefIdeal.main_v145) = v9 c
          ∧ r.2.mem ((c.tc : Thread Cert.ProjRefIdeal.nD Cert.ProjRefIdeal.τ).loc Cert.ProjRefIdeal.main_v146) = v10 c
          ∧ r.2.mem ((c.tc : Thread Cert.ProjRefIdeal.nD Cert.ProjRefIdeal.τ).loc Cert.ProjRefIdeal.main_v147) = v11 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def preserves_Ret_RetIdeal : Prop :=
  True

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)
      ∧ m' ((c.tc : Thread Cert.RetRefIdeal.nD Cert.RetRefIdeal.τ).loc Cert.RetRefIdeal.main_arg3) = m ((c.tc : Thread Cert.RetIdeal.nD Cert.RetIdeal.τ).loc Cert.RetIdeal.main_arg3)
      ∧ m' ((c.tc : Thread Cert.RetRefIdeal.nD Cert.RetRefIdeal.τ).loc Cert.RetRefIdeal.main_arg4) = m ((c.tc : Thread Cert.RetIdeal.nD Cert.RetIdeal.τ).loc Cert.RetIdeal.main_arg4)) →
    ∃ (v0 : (c : Dev Cert.RetIdeal.nD) → Buf (Elt Ideal) ((c.tc : Thread Cert.RetIdeal.nD Cert.RetIdeal.τ).loc Cert.RetIdeal.main_v56_0)) (v1 : (c : Dev Cert.RetIdeal.nD) → Buf (Elt Ideal) ((c.tc : Thread Cert.RetIdeal.nD Cert.RetIdeal.τ).loc Cert.RetIdeal.main_v56_1)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v56_0) = v0 c
          ∧ r.2.mem ((c.tc : Thread Cert.RetIdeal.nD Cert.RetIdeal.τ).loc Cert.RetIdeal.main_v56_1) = v1 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
          ∧ r.2.mem ((c.tc : Thread Cert.RetIdeal.nD Cert.RetIdeal.τ).loc Cert.RetIdeal.main_arg3) = m ((c.tc : Thread Cert.RetIdeal.nD Cert.RetIdeal.τ).loc Cert.RetIdeal.main_arg3)
          ∧ r.2.mem ((c.tc : Thread Cert.RetIdeal.nD Cert.RetIdeal.τ).loc Cert.RetIdeal.main_arg4) = m ((c.tc : Thread Cert.RetIdeal.nD Cert.RetIdeal.τ).loc Cert.RetIdeal.main_arg4))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v72) = v0 c
          ∧ r.2.mem ((c.tc : Thread Cert.RetRefIdeal.nD Cert.RetRefIdeal.τ).loc Cert.RetRefIdeal.main_v52_8) = v1 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2)
          ∧ r.2.mem ((c.tc : Thread Cert.RetRefIdeal.nD Cert.RetRefIdeal.τ).loc Cert.RetRefIdeal.main_arg3) = m' ((c.tc : Thread Cert.RetRefIdeal.nD Cert.RetRefIdeal.τ).loc Cert.RetRefIdeal.main_arg3)
          ∧ r.2.mem ((c.tc : Thread Cert.RetRefIdeal.nD Cert.RetRefIdeal.τ).loc Cert.RetRefIdeal.main_arg4) = m' ((c.tc : Thread Cert.RetRefIdeal.nD Cert.RetRefIdeal.τ).loc Cert.RetRefIdeal.main_arg4))

def preserves_RetNew_RetNewIdeal : Prop :=
  True

def algebraic_RetNewIdeal_RetNewRefIdeal [hRetNewIdeal : Cert.RetNewIdeal.Facts] [hRetNewRefIdeal : Cert.RetNewRefIdeal.Facts] : Prop :=
  ∀ (m : (ℓ : Loc Cert.RetNewIdeal.nD Cert.RetNewIdeal.τ Cert.RetNewIdeal.sig) → Buf (Elt Ideal) ℓ) (g : Dev Cert.RetNewIdeal.nD → PrngReg)
    (m' : (ℓ : Loc Cert.RetNewRefIdeal.nD Cert.RetNewRefIdeal.τ Cert.RetNewRefIdeal.sig) → Buf (Elt Ideal) ℓ) (g' : Dev Cert.RetNewRefIdeal.nD → PrngReg), Pre_RetNewIdeal m →
    (∀ c : Dev Cert.RetNewIdeal.nD,
      m' ((c.tc : Thread Cert.RetNewRefIdeal.nD Cert.RetNewRefIdeal.τ).loc Cert.RetNewRefIdeal.main_arg0) = m ((c.tc : Thread Cert.RetNewIdeal.nD Cert.RetNewIdeal.τ).loc Cert.RetNewIdeal.main_arg0)
      ∧ m' ((c.tc : Thread Cert.RetNewRefIdeal.nD Cert.RetNewRefIdeal.τ).loc Cert.RetNewRefIdeal.main_arg1) = m ((c.tc : Thread Cert.RetNewIdeal.nD Cert.RetNewIdeal.τ).loc Cert.RetNewIdeal.main_arg1)
      ∧ m' ((c.tc : Thread Cert.RetNewRefIdeal.nD Cert.RetNewRefIdeal.τ).loc Cert.RetNewRefIdeal.main_arg2) = m ((c.tc : Thread Cert.RetNewIdeal.nD Cert.RetNewIdeal.τ).loc Cert.RetNewIdeal.main_arg2)
      ∧ m' ((c.tc : Thread Cert.RetNewRefIdeal.nD Cert.RetNewRefIdeal.τ).loc Cert.RetNewRefIdeal.main_arg3) = m ((c.tc : Thread Cert.RetNewIdeal.nD Cert.RetNewIdeal.τ).loc Cert.RetNewIdeal.main_arg3)
      ∧ m' ((c.tc : Thread Cert.RetNewRefIdeal.nD Cert.RetNewRefIdeal.τ).loc Cert.RetNewRefIdeal.main_arg4) = m ((c.tc : Thread Cert.RetNewIdeal.nD Cert.RetNewIdeal.τ).loc Cert.RetNewIdeal.main_arg4)
      ∧ m' ((c.tc : Thread Cert.RetNewRefIdeal.nD Cert.RetNewRefIdeal.τ).loc Cert.RetNewRefIdeal.main_arg5) = m ((c.tc : Thread Cert.RetNewIdeal.nD Cert.RetNewIdeal.τ).loc Cert.RetNewIdeal.main_arg5)) →
    ∃ (v0 : (c : Dev Cert.RetNewIdeal.nD) → Buf (Elt Ideal) ((c.tc : Thread Cert.RetNewIdeal.nD Cert.RetNewIdeal.τ).loc Cert.RetNewIdeal.main_v59_0)) (v1 : (c : Dev Cert.RetNewIdeal.nD) → Buf (Elt Ideal) ((c.tc : Thread Cert.RetNewIdeal.nD Cert.RetNewIdeal.τ).loc Cert.RetNewIdeal.main_v59_1)),
      θ_run (Cert.RetNewIdeal.defs (F := Ideal)) (onTc (τ := Cert.RetNewIdeal.τ) (Cert.RetNewIdeal.main (F := Ideal))) ⟨m, fun _ => 0, g⟩ (fun r => ∀ c : Dev Cert.RetNewIdeal.nD,
          r.2.mem ((c.tc : Thread Cert.RetNewIdeal.nD Cert.RetNewIdeal.τ).loc Cert.RetNewIdeal.main_v59_0) = v0 c
          ∧ r.2.mem ((c.tc : Thread Cert.RetNewIdeal.nD Cert.RetNewIdeal.τ).loc Cert.RetNewIdeal.main_v59_1) = v1 c
          ∧ r.2.mem ((c.tc : Thread Cert.RetNewIdeal.nD Cert.RetNewIdeal.τ).loc Cert.RetNewIdeal.main_arg0) = m ((c.tc : Thread Cert.RetNewIdeal.nD Cert.RetNewIdeal.τ).loc Cert.RetNewIdeal.main_arg0)
          ∧ r.2.mem ((c.tc : Thread Cert.RetNewIdeal.nD Cert.RetNewIdeal.τ).loc Cert.RetNewIdeal.main_arg1) = m ((c.tc : Thread Cert.RetNewIdeal.nD Cert.RetNewIdeal.τ).loc Cert.RetNewIdeal.main_arg1)
          ∧ r.2.mem ((c.tc : Thread Cert.RetNewIdeal.nD Cert.RetNewIdeal.τ).loc Cert.RetNewIdeal.main_arg2) = m ((c.tc : Thread Cert.RetNewIdeal.nD Cert.RetNewIdeal.τ).loc Cert.RetNewIdeal.main_arg2)
          ∧ r.2.mem ((c.tc : Thread Cert.RetNewIdeal.nD Cert.RetNewIdeal.τ).loc Cert.RetNewIdeal.main_arg3) = m ((c.tc : Thread Cert.RetNewIdeal.nD Cert.RetNewIdeal.τ).loc Cert.RetNewIdeal.main_arg3)
          ∧ r.2.mem ((c.tc : Thread Cert.RetNewIdeal.nD Cert.RetNewIdeal.τ).loc Cert.RetNewIdeal.main_arg4) = m ((c.tc : Thread Cert.RetNewIdeal.nD Cert.RetNewIdeal.τ).loc Cert.RetNewIdeal.main_arg4)
          ∧ r.2.mem ((c.tc : Thread Cert.RetNewIdeal.nD Cert.RetNewIdeal.τ).loc Cert.RetNewIdeal.main_arg5) = m ((c.tc : Thread Cert.RetNewIdeal.nD Cert.RetNewIdeal.τ).loc Cert.RetNewIdeal.main_arg5))
      ∧ θ_run (Cert.RetNewRefIdeal.defs (F := Ideal)) (onTc (τ := Cert.RetNewRefIdeal.τ) (Cert.RetNewRefIdeal.main (F := Ideal))) ⟨m', fun _ => 0, g'⟩ (fun r => ∀ c : Dev Cert.RetNewRefIdeal.nD,
          r.2.mem ((c.tc : Thread Cert.RetNewRefIdeal.nD Cert.RetNewRefIdeal.τ).loc Cert.RetNewRefIdeal.main_v88) = v0 c
          ∧ r.2.mem ((c.tc : Thread Cert.RetNewRefIdeal.nD Cert.RetNewRefIdeal.τ).loc Cert.RetNewRefIdeal.main_v68) = v1 c
          ∧ r.2.mem ((c.tc : Thread Cert.RetNewRefIdeal.nD Cert.RetNewRefIdeal.τ).loc Cert.RetNewRefIdeal.main_arg0) = m' ((c.tc : Thread Cert.RetNewRefIdeal.nD Cert.RetNewRefIdeal.τ).loc Cert.RetNewRefIdeal.main_arg0)
          ∧ r.2.mem ((c.tc : Thread Cert.RetNewRefIdeal.nD Cert.RetNewRefIdeal.τ).loc Cert.RetNewRefIdeal.main_arg1) = m' ((c.tc : Thread Cert.RetNewRefIdeal.nD Cert.RetNewRefIdeal.τ).loc Cert.RetNewRefIdeal.main_arg1)
          ∧ r.2.mem ((c.tc : Thread Cert.RetNewRefIdeal.nD Cert.RetNewRefIdeal.τ).loc Cert.RetNewRefIdeal.main_arg2) = m' ((c.tc : Thread Cert.RetNewRefIdeal.nD Cert.RetNewRefIdeal.τ).loc Cert.RetNewRefIdeal.main_arg2)
          ∧ r.2.mem ((c.tc : Thread Cert.RetNewRefIdeal.nD Cert.RetNewRefIdeal.τ).loc Cert.RetNewRefIdeal.main_arg3) = m' ((c.tc : Thread Cert.RetNewRefIdeal.nD Cert.RetNewRefIdeal.τ).loc Cert.RetNewRefIdeal.main_arg3)
          ∧ r.2.mem ((c.tc : Thread Cert.RetNewRefIdeal.nD Cert.RetNewRefIdeal.τ).loc Cert.RetNewRefIdeal.main_arg4) = m' ((c.tc : Thread Cert.RetNewRefIdeal.nD Cert.RetNewRefIdeal.τ).loc Cert.RetNewRefIdeal.main_arg4)
          ∧ r.2.mem ((c.tc : Thread Cert.RetNewRefIdeal.nD Cert.RetNewRefIdeal.τ).loc Cert.RetNewRefIdeal.main_arg5) = m' ((c.tc : Thread Cert.RetNewRefIdeal.nD Cert.RetNewRefIdeal.τ).loc Cert.RetNewRefIdeal.main_arg5))

def Claim : Prop :=
  ∃ (hAttn : Cert.Attn.Facts) (hAttnIdeal : Cert.AttnIdeal.Facts) (hAttnRefIdeal : Cert.AttnRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hRet : Cert.Ret.Facts) (hRetIdeal : Cert.RetIdeal.Facts) (hRetRefIdeal : Cert.RetRefIdeal.Facts) (hRetNew : Cert.RetNew.Facts) (hRetNewIdeal : Cert.RetNewIdeal.Facts) (hRetNewRefIdeal : Cert.RetNewRefIdeal.Facts) (hPre_finite : Cert.Pre_finite.Facts) (hPre_weights_finite : Cert.Pre_weights_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjIdeal_pre_weights_finite (hProjIdeal := hProjIdeal) (hPre_weights_finite := hPre_weights_finite)
    ∧ quiescent_ProjRefIdeal (hProjRefIdeal := hProjRefIdeal)
    ∧ quiescent_ProjRefIdeal_pre_weights_finite (hProjRefIdeal := hProjRefIdeal) (hPre_weights_finite := hPre_weights_finite)
    ∧ quiescent_Ret (hRet := hRet)
    ∧ quiescent_RetIdeal (hRetIdeal := hRetIdeal)
    ∧ quiescent_RetRefIdeal (hRetRefIdeal := hRetRefIdeal)
    ∧ quiescent_RetNew (hRetNew := hRetNew)
    ∧ quiescent_RetNewIdeal (hRetNewIdeal := hRetNewIdeal)
    ∧ quiescent_RetNewRefIdeal (hRetNewRefIdeal := hRetNewRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal_pre_weights_finite (hProjIdeal := hProjIdeal) (hProjRefIdeal := hProjRefIdeal) (hPre_weights_finite := hPre_weights_finite)
    ∧ preserves_Ret_RetIdeal
    ∧ algebraic_RetIdeal_RetRefIdeal (hRetIdeal := hRetIdeal) (hRetRefIdeal := hRetRefIdeal)
    ∧ preserves_RetNew_RetNewIdeal
    ∧ algebraic_RetNewIdeal_RetNewRefIdeal (hRetNewIdeal := hRetNewIdeal) (hRetNewRefIdeal := hRetNewRefIdeal)
-- ==== Pre_finite.lean ====
abbrev S16384x512 : Shape := ⟨2, ![16384, 512]⟩
abbrev S8x16384 : Shape := ⟨2, ![8, 16384]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  h_S_ : 0 < S_.numel
  bcast_S_S8x16384 : S_.BroadcastsInDim S8x16384 (![] : Fin 0 → Fin S8x16384.rank)
  reducesTo_S8x16384_S_d0_1 : S8x16384.ReducesTo [0, 1] S_

variable [Facts]

def fn {F : FTy → Type} [FloatOps F] (main_arg0 : FVec F S16384x512 .bf16) (main_arg1 : FVec F S16384x512 .bf16) (main_arg2 : FVec F S16384x512 .bf16) (main_arg3 : FVec F S8x16384 .f32) (main_arg4 : FVec F S16384x512 .bf16) : IVec S_ 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S16384x512 .f32 := (extf .f32 · bitsLt_bf16_f32) main_arg1
  let main_v6 : FVec F S16384x512 .f32 := Host.absf main_v5
  let main_cst_0 : FVec F S_ .f32 := constant S_ .f32 0x7F800000#32
  let main_v7 : FVec F S16384x512 .f32 := broadcastInDim S16384x512 ![] bcast_S_S16384x512 main_cst_0
  let main_v8 : IVec S16384x512 1 := cmpf .olt main_v6 main_v7
  let main_c_1 : IVec S_ 1 := constantI S_ 1 1#1
  let main_v9 : IVec S_ 1 := (fun x v => Host.reduce IntOp.andi x v reducesTo_S16384x512_S_d0_1 h_S_) main_v8 main_c_1
  let main_v10 : IVec S_ 1 := andi main_v4 main_v9
  let main_v11 : FVec F S8x16384 .f32 := Host.absf main_arg3
  let main_cst_2 : FVec F S_ .f32 := constant S_ .f32 0x7F800000#32
  let main_v12 : FVec F S8x16384 .f32 := broadcastInDim S8x16384 ![] bcast_S_S8x16384 main_cst_2
  let main_v13 : IVec S8x16384 1 := cmpf .olt main_v11 main_v12
  let main_c_3 : IVec S_ 1 := constantI S_ 1 1#1
  let main_v14 : IVec S_ 1 := (fun x v => Host.reduce IntOp.andi x v reducesTo_S8x16384_S_d0_1 h_S_) main_v13 main_c_3
  let main_v15 : IVec S_ 1 := andi main_v10 main_v14
  main_v15
-- ==== Pre_weights_finite.lean ====
abbrev S16384x1024 : Shape := ⟨2, ![16384, 1024]⟩
abbrev S1024 : Shape := ⟨1, ![1024]⟩
abbrev S1024x4104 : Shape := ⟨2, ![1024, 4104]⟩
abbrev S64 : Shape := ⟨1, ![64]⟩
abbrev S8 : Shape := ⟨1, ![8]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4104 : S_.BroadcastsInDim S1024x4104 (![] : Fin 0 → Fin S1024x4104.rank)
  reducesTo_S1024x4104_S_d0_1 : S1024x4104.ReducesTo [0, 1] S_

variable [Facts]

def fn {F : FTy → Type} [FloatOps F] (main_arg0 : FVec F S16384x1024 .f32) (main_arg1 : FVec F S1024 .f32) (main_arg2 : FVec F S1024x4104 .f32) (main_arg3 : FVec F S64 .f32) (main_arg4 : FVec F S64 .f32) (main_arg5 : FVec F S8 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4104 .f32 := Host.absf main_arg2
  let main_cst_2 : FVec F S_ .f32 := constant S_ .f32 0x7F800000#32
  let main_v10 : FVec F S1024x4104 .f32 := broadcastInDim S1024x4104 ![] bcast_S_S1024x4104 main_cst_2
  let main_v11 : IVec S1024x4104 1 := cmpf .olt main_v9 main_v10
  let main_c_3 : IVec S_ 1 := constantI S_ 1 1#1
  let main_v12 : IVec S_ 1 := (fun x v => Host.reduce IntOp.andi x v reducesTo_S1024x4104_S_d0_1 h_S_) main_v11 main_c_3
  let main_v13 : IVec S_ 1 := andi main_v8 main_v12
  main_v13
-- ==== Attn.lean ====
abbrev S16384x512 : Shape := ⟨2, ![16384, 512]⟩
abbrev S8x16384 : Shape := ⟨2, ![8, 16384]⟩
abbrev S256x128 : Shape := ⟨2, ![256, 128]⟩
abbrev S4096x128 : Shape := ⟨2, ![4096, 128]⟩
abbrev S8x4096 : Shape := ⟨2, ![8, 4096]⟩
abbrev S2x256x1 : Shape := ⟨3, ![2, 256, 1]⟩
abbrev S1x256 : Shape := ⟨2, ![1, 256]⟩
abbrev S256x256 : Shape := ⟨2, ![256, 256]⟩
abbrev S1x256x1 : Shape := ⟨3, ![1, 256, 1]⟩
abbrev S256x1 : Shape := ⟨2, ![256, 1]⟩
abbrev S256 : Shape := ⟨1, ![256]⟩

abbrev nBuf : Space → Nat
  | .hbm => 6
  | .vmem => 15
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S8x16384, .f32⟩
  | .hbm, ⟨4, _⟩ => ⟨S16384x512, .bf16⟩
  | .hbm, ⟨5, _⟩ => ⟨S16384x512, .bf16⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S8x4096, .f32⟩
  | .local _ .vmem, ⟨7, _⟩ => ⟨S8x4096, .f32⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S2x256x1, .f32⟩
  | .local _ .vmem, ⟨13, _⟩ => ⟨S2x256x1, .f32⟩
  | .local _ .vmem, ⟨14, _⟩ => ⟨S256x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 16], ![false, false, false]⟩

@[reducible] def k0_t1_loop (i : grid0.Coords) : Scf.Loop 32 :=
  let c0_i32_12 : BitVec 32 := 0#32
  let arg2 : BitVec 32 := BitVec.ofNat 32 (i 2).val
  let c1_i32 : BitVec 32 := 1#32
  let v19 : BitVec 32 := Scalar.muli arg2 c1_i32
  let v20 : BitVec 32 := Scalar.subi v19 c0_i32_12
  let c1_i32_13 : BitVec 32 := 1#32
  let v22 : BitVec 32 := Scalar.divsi v20 c1_i32_13
  let v23 : BitVec 32 := Scalar.muli v22 c1_i32_13
  let v24 : BitVec 32 := Scalar.addi c0_i32_12 v23
  let c1_i32_14 : BitVec 32 := 1#32
  ⟨c0_i32_12, v24, c1_i32_14⟩
def k0_mult1 (i : grid0.Coords) (k0_t1 : Fin (k0_t1_loop i).trips) : BitVec 32 :=
  let c0_i32_12 : BitVec 32 := 0#32
  let c1_i32_14 : BitVec 32 := 1#32
  let arg12 : BitVec 32 := Scf.iv c0_i32_12 c1_i32_14 k0_t1
  let c256_i32_72 : BitVec 32 := 256#32
  let v133 : BitVec 32 := Scalar.muli arg12 c256_i32_72
  v133
def k0_off1 (i : grid0.Coords) (k0_t1 : Fin (k0_t1_loop i).trips) : Fin 2 → Nat :=
  let c0_i32_12 : BitVec 32 := 0#32
  let c1_i32_14 : BitVec 32 := 1#32
  let arg12 : BitVec 32 := Scf.iv c0_i32_12 c1_i32_14 k0_t1
  let c256_i32_72 : BitVec 32 := 256#32
  let v133 : BitVec 32 := Scalar.muli arg12 c256_i32_72
  let v134 : BitVec 32 := v133
  let v135 : Index := Scalar.indexCast v134
  let c0_73 : Index := 0#32
  ![v135.toNat, 0]
def k0_off2 (i : grid0.Coords) (k0_t1 : Fin (k0_t1_loop i).trips) (c0_i32_76 : BitVec 32) : Fin 2 → Nat :=
  let c2_i32_75 : BitVec 32 := 2#32
  let arg1 : BitVec 32 := BitVec.ofNat 32 (i 1).val
  let v139 : BitVec 32 := Scalar.muli c2_i32_75 arg1
  let v140 : BitVec 32 := Scalar.addi v139 c0_i32_76
  let v141 : Index := Scalar.indexCast v140
  let c0_i32_12 : BitVec 32 := 0#32
  let c1_i32_14 : BitVec 32 := 1#32
  let arg12 : BitVec 32 := Scf.iv c0_i32_12 c1_i32_14 k0_t1
  let c256_i32_72 : BitVec 32 := 256#32
  let v133 : BitVec 32 := Scalar.muli arg12 c256_i32_72
  let v134 : BitVec 32 := v133
  let v142 : Index := Scalar.indexCast v134
  ![v141.toNat, v142.toNat]
@[reducible] def k0_t2_loop (i : grid0.Coords) : Scf.Loop 32 :=
  let c0_i32_12 : BitVec 32 := 0#32
  let arg2 : BitVec 32 := BitVec.ofNat 32 (i 2).val
  let c1_i32 : BitVec 32 := 1#32
  let v19 : BitVec 32 := Scalar.muli arg2 c1_i32
  let v20 : BitVec 32 := Scalar.subi v19 c0_i32_12
  let c1_i32_13 : BitVec 32 := 1#32
  let v22 : BitVec 32 := Scalar.divsi v20 c1_i32_13
  let v23 : BitVec 32 := Scalar.muli v22 c1_i32_13
  let v24 : BitVec 32 := Scalar.addi c0_i32_12 v23
  let v21 : BitVec 32 := Scalar.addi c0_i32_12 v20
  let c1_i32_15 : BitVec 32 := 1#32
  ⟨v24, v21, c1_i32_15⟩
def k0_mult2 (i : grid0.Coords) (k0_t2 : Fin (k0_t2_loop i).trips) : BitVec 32 :=
  let c0_i32_12 : BitVec 32 := 0#32
  let arg2 : BitVec 32 := BitVec.ofNat 32 (i 2).val
  let c1_i32 : BitVec 32 := 1#32
  let v19 : BitVec 32 := Scalar.muli arg2 c1_i32
  let v20 : BitVec 32 := Scalar.subi v19 c0_i32_12
  let c1_i32_13 : BitVec 32 := 1#32
  let v22 : BitVec 32 := Scalar.divsi v20 c1_i32_13
  let v23 : BitVec 32 := Scalar.muli v22 c1_i32_13
  let v24 : BitVec 32 := Scalar.addi c0_i32_12 v23
  let c1_i32_15 : BitVec 32 := 1#32
  let arg12 : BitVec 32 := Scf.iv v24 c1_i32_15 k0_t2
  let c256_i32_72 : BitVec 32 := 256#32
  let v133 : BitVec 32 := Scalar.muli arg12 c256_i32_72
  v133
def k0_off3 (i : grid0.Coords) (k0_t2 : Fin (k0_t2_loop i).trips) : Fin 2 → Nat :=
  let c0_i32_12 : BitVec 32 := 0#32
  let arg2 : BitVec 32 := BitVec.ofNat 32 (i 2).val
  let c1_i32 : BitVec 32 := 1#32
  let v19 : BitVec 32 := Scalar.muli arg2 c1_i32
  let v20 : BitVec 32 := Scalar.subi v19 c0_i32_12
  let c1_i32_13 : BitVec 32 := 1#32
  let v22 : BitVec 32 := Scalar.divsi v20 c1_i32_13
  let v23 : BitVec 32 := Scalar.muli v22 c1_i32_13
  let v24 : BitVec 32 := Scalar.addi c0_i32_12 v23
  let c1_i32_15 : BitVec 32 := 1#32
  let arg12 : BitVec 32 := Scf.iv v24 c1_i32_15 k0_t2
  let c256_i32_72 : BitVec 32 := 256#32
  let v133 : BitVec 32 := Scalar.muli arg12 c256_i32_72
  let v134 : BitVec 32 := v133
  let v135 : Index := Scalar.indexCast v134
  let c0_73 : Index := 0#32
  ![v135.toNat, 0]
def k0_off4 (i : grid0.Coords) (k0_t2 : Fin (k0_t2_loop i).trips) (c0_i32_76 : BitVec 32) : Fin 2 → Nat :=
  let c2_i32_75 : BitVec 32 := 2#32
  let arg1 : BitVec 32 := BitVec.ofNat 32 (i 1).val
  let v139 : BitVec 32 := Scalar.muli c2_i32_75 arg1
  let v140 : BitVec 32 := Scalar.addi v139 c0_i32_76
  let v141 : Index := Scalar.indexCast v140
  let c0_i32_12 : BitVec 32 := 0#32
  let arg2 : BitVec 32 := BitVec.ofNat 32 (i 2).val
  let c1_i32 : BitVec 32 := 1#32
  let v19 : BitVec 32 := Scalar.muli arg2 c1_i32
  let v20 : BitVec 32 := Scalar.subi v19 c0_i32_12
  let c1_i32_13 : BitVec 32 := 1#32
  let v22 : BitVec 32 := Scalar.divsi v20 c1_i32_13
  let v23 : BitVec 32 := Scalar.muli v22 c1_i32_13
  let v24 : BitVec 32 := Scalar.addi c0_i32_12 v23
  let c1_i32_15 : BitVec 32 := 1#32
  let arg12 : BitVec 32 := Scf.iv v24 c1_i32_15 k0_t2
  let c256_i32_72 : BitVec 32 := 256#32
  let v133 : BitVec 32 := Scalar.muli arg12 c256_i32_72
  let v134 : BitVec 32 := v133
  let v142 : Index := Scalar.indexCast v134
  ![v141.toNat, v142.toNat]
def k0_mult3 (i : grid0.Coords) : BitVec 32 :=
  let arg2 : BitVec 32 := BitVec.ofNat 32 (i 2).val
  let c1_i32 : BitVec 32 := 1#32
  let v19 : BitVec 32 := Scalar.muli arg2 c1_i32
  let c0_i32_16 : BitVec 32 := 0#32
  let v27 : BitVec 32 := Scalar.addi v19 c0_i32_16
  let c256_i32 : BitVec 32 := 256#32
  let v31 : BitVec 32 := Scalar.muli v27 c256_i32
  v31
def k0_off5 (i : grid0.Coords) : Fin 2 → Nat :=
  let arg2 : BitVec 32 := BitVec.ofNat 32 (i 2).val
  let c1_i32 : BitVec 32 := 1#32
  let v19 : BitVec 32 := Scalar.muli arg2 c1_i32
  let c0_i32_16 : BitVec 32 := 0#32
  let v27 : BitVec 32 := Scalar.addi v19 c0_i32_16
  let c256_i32 : BitVec 32 := 256#32
  let v31 : BitVec 32 := Scalar.muli v27 c256_i32
  let v32 : BitVec 32 := v31
  let v33 : Index := Scalar.indexCast v32
  let c0_18 : Index := 0#32
  ![v33.toNat, 0]
def k0_off6 (i : grid0.Coords) (c0_i32_20 : BitVec 32) : Fin 2 → Nat :=
  let c2_i32 : BitVec 32 := 2#32
  let arg1 : BitVec 32 := BitVec.ofNat 32 (i 1).val
  let v37 : BitVec 32 := Scalar.muli c2_i32 arg1
  let v38 : BitVec 32 := Scalar.addi v37 c0_i32_20
  let v39 : Index := Scalar.indexCast v38
  let arg2 : BitVec 32 := BitVec.ofNat 32 (i 2).val
  let c1_i32 : BitVec 32 := 1#32
  let v19 : BitVec 32 := Scalar.muli arg2 c1_i32
  let c0_i32_16 : BitVec 32 := 0#32
  let v27 : BitVec 32 := Scalar.addi v19 c0_i32_16
  let c256_i32 : BitVec 32 := 256#32
  let v31 : BitVec 32 := Scalar.muli v27 c256_i32
  let v32 : BitVec 32 := v31
  let v40 : Index := Scalar.indexCast v32
  ![v39.toNat, v40.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnIdeal.lean ====
variable {F : FTy → Type} [FloatOps F] [Named F]
def κ : String → Option EReal := fun
  | "mask" => some ⊥
  | _ => none
-- ==== AttnRefIdeal.lean ====
abbrev S16384x512 : Shape := ⟨2, ![16384, 512]⟩
abbrev S8x16384 : Shape := ⟨2, ![8, 16384]⟩
abbrev S4x4096x8x64 : Shape := ⟨4, ![4, 4096, 8, 64]⟩
abbrev S8x4x4096 : Shape := ⟨3, ![8, 4, 4096]⟩
abbrev S4x8x4096 : Shape := ⟨3, ![4, 8, 4096]⟩
abbrev S4x8x4096x4096 : Shape := ⟨4, ![4, 8, 4096, 4096]⟩
abbrev S4x8x4096x1 : Shape := ⟨4, ![4, 8, 4096, 1]⟩
abbrev S4x8x1x4096 : Shape := ⟨4, ![4, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S4x8x64x4096 : Shape := ⟨4, ![4, 8, 64, 4096]⟩

abbrev nBuf : Space → Nat
  | .hbm => 51
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S8x16384, .f32⟩
  | .hbm, ⟨4, _⟩ => ⟨S16384x512, .bf16⟩
  | .hbm, ⟨5, _⟩ => ⟨S16384x512, .f32⟩
  | .hbm, ⟨6, _⟩ => ⟨S4x4096x8x64, .f32⟩
  | .hbm, ⟨7, _⟩ => ⟨S16384x512, .f32⟩
  | .hbm, ⟨8, _⟩ => ⟨S4x4096x8x64, .f32⟩
  | .hbm, ⟨9, _⟩ => ⟨S16384x512, .f32⟩
  | .hbm, ⟨10, _⟩ => ⟨S4x4096x8x64, .f32⟩
  | .hbm, ⟨11, _⟩ => ⟨S8x4x4096, .f32⟩
  | .hbm, ⟨12, _⟩ => ⟨S4x8x4096, .f32⟩
  | .hbm, ⟨13, _⟩ => ⟨S4x8x4096x4096, .f32⟩
  | .hbm, ⟨14, _⟩ => ⟨S4x8x4096x1, .f32⟩
  | .hbm, ⟨15, _⟩ => ⟨S4x8x4096x4096, .f32⟩
  | .hbm, ⟨16, _⟩ => ⟨S4x8x4096x4096, .f32⟩
  | .hbm, ⟨17, _⟩ => ⟨S4x8x1x4096, .f32⟩
  | .hbm, ⟨18, _⟩ => ⟨S4x8x4096x4096, .f32⟩
  | .hbm, ⟨19, _⟩ => ⟨S4x8x4096x4096, .f32⟩
  | .hbm, ⟨20, _⟩ => ⟨S4096, .i32⟩
  | .hbm, ⟨21, _⟩ => ⟨S1x4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S4x8x4096x4096, .i1⟩
  | .hbm, ⟨29, _⟩ => ⟨S4x8x4096x4096, .f32⟩
  | .hbm, ⟨30, _⟩ => ⟨S4x8x4096x4096, .f32⟩
  | .hbm, ⟨31, _⟩ => ⟨S_, .f32⟩
  | .hbm, ⟨32, _⟩ => ⟨S4x8x4096, .f32⟩
  | .hbm, ⟨33, _⟩ => ⟨S_, .f32⟩
  | .hbm, ⟨34, _⟩ => ⟨S4x8x4096, .f32⟩
  | .hbm, ⟨35, _⟩ => ⟨S4x8x4096, .f32⟩
  | .hbm, ⟨36, _⟩ => ⟨S4x8x4096x1, .f32⟩
  | .hbm, ⟨37, _⟩ => ⟨S4x8x4096x4096, .f32⟩
  | .hbm, ⟨38, _⟩ => ⟨S4x8x4096x4096, .f32⟩
  | .hbm, ⟨39, _⟩ => ⟨S4x8x4096x4096, .f32⟩
  | .hbm, ⟨40, _⟩ => ⟨S_, .f32⟩
  | .hbm, ⟨41, _⟩ => ⟨S4x8x4096, .f32⟩
  | .hbm, ⟨42, _⟩ => ⟨S4x8x4096x1, .f32⟩
  | .hbm, ⟨43, _⟩ => ⟨S4x8x4096x4096, .f32⟩
  | .hbm, ⟨44, _⟩ => ⟨S4x8x4096x4096, .f32⟩
  | .hbm, ⟨45, _⟩ => ⟨S4x8x64x4096, .f32⟩
  | .hbm, ⟨46, _⟩ => ⟨S4x4096x8x64, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024x1024, .bf16⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeRefIdeal.lean ====
abbrev S16384x1024 : Shape := ⟨2, ![16384, 1024]⟩
abbrev S16384x512 : Shape := ⟨2, ![16384, 512]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S16384x512, .f32⟩
  | .hbm, ⟨5, _⟩ => ⟨S16384x512, .f32⟩
  | .hbm, ⟨6, _⟩ => ⟨S16384x1024, .f32⟩
  | .hbm, ⟨7, _⟩ => ⟨S16384x1024, .f32⟩
  | .hbm, ⟨8, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proj.lean ====
abbrev S16384x1024 : Shape := ⟨2, ![16384, 1024]⟩
abbrev S1024 : Shape := ⟨1, ![1024]⟩
abbrev S1024x4104 : Shape := ⟨2, ![1024, 4104]⟩
abbrev S64 : Shape := ⟨1, ![64]⟩
abbrev S8 : Shape := ⟨1, ![8]⟩
abbrev S1024x4096 : Shape := ⟨2, ![1024, 4096]⟩
abbrev S1024x8 : Shape := ⟨2, ![1024, 8]⟩
abbrev S8x1024 : Shape := ⟨2, ![8, 1024]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S8x64 : Shape := ⟨2, ![8, 64]⟩
abbrev S1x1024 : Shape := ⟨2, ![1, 1024]⟩
abbrev S8x1 : Shape := ⟨2, ![8, 1]⟩
abbrev S16384x512 : Shape := ⟨2, ![16384, 512]⟩
abbrev S8x16384 : Shape := ⟨2, ![8, 16384]⟩
abbrev S512x1024 : Shape := ⟨2, ![512, 1024]⟩
abbrev S512x128 : Shape := ⟨2, ![512, 128]⟩
abbrev S8x512 : Shape := ⟨2, ![8, 512]⟩
abbrev S1024x512 : Shape := ⟨2, ![1024, 512]⟩

abbrev nBuf : Space → Nat
  | .hbm => 88
  | .vmem => 38
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4104, .f32⟩
  | .hbm, ⟨3, _⟩ => ⟨S64, .f32⟩
  | .hbm, ⟨4, _⟩ => ⟨S64, .f32⟩
  | .hbm, ⟨5, _⟩ => ⟨S8, .f32⟩
  | .hbm, ⟨6, _⟩ => ⟨S1024x4096, .f32⟩
  | .hbm, ⟨7, _⟩ => ⟨S1024x4096, .bf16⟩
  | .hbm, ⟨8, _⟩ => ⟨S1024x8, .f32⟩
  | .hbm, ⟨9, _⟩ => ⟨S8x1024, .f32⟩
  | .hbm, ⟨10, _⟩ => ⟨S8x1024, .bf16⟩
  | .hbm, ⟨11, _⟩ => ⟨S512, .i32⟩
  | .hbm, ⟨12, _⟩ => ⟨S_, .i32⟩
  | .hbm, ⟨13, _⟩ => ⟨S_, .i32⟩
  | .hbm, ⟨14, _⟩ => ⟨S512, .i32⟩
  | .hbm, ⟨15, _⟩ => ⟨S512, .i32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S512, .i32⟩
  | .hbm, ⟨21, _⟩ => ⟨S512, .i32⟩
  | .hbm, ⟨22, _⟩ => ⟨S_, .i32⟩
  | .hbm, ⟨23, _⟩ => ⟨S512, .i32⟩
  | .hbm, ⟨24, _⟩ => ⟨S512, .i1⟩
  | .hbm, ⟨25, _⟩ => ⟨S512, .i1⟩
  | .hbm, ⟨26, _⟩ => ⟨S_, .i32⟩
  | .hbm, ⟨27, _⟩ => ⟨S512, .i32⟩
  | .hbm, ⟨28, _⟩ => ⟨S512, .i32⟩
  | .hbm, ⟨29, _⟩ => ⟨S512, .i32⟩
  | .hbm, ⟨30, _⟩ => ⟨S512x1, .i32⟩
  | .hbm, ⟨31, _⟩ => ⟨S1x512, .i32⟩
  | .hbm, ⟨32, _⟩ => ⟨S512x512, .i32⟩
  | .hbm, ⟨33, _⟩ => ⟨S512x512, .i32⟩
  | .hbm, ⟨34, _⟩ => ⟨S512x512, .i1⟩
  | .hbm, ⟨35, _⟩ => ⟨S512x512, .bf16⟩
  | .hbm, ⟨36, _⟩ => ⟨S4096, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S4096x1, .f32⟩
  | .hbm, ⟨54, _⟩ => ⟨S1x64, .f32⟩
  | .hbm, ⟨55, _⟩ => ⟨S4096x64, .f32⟩
  | .hbm, ⟨56, _⟩ => ⟨S4096x64, .f32⟩
  | .hbm, ⟨57, _⟩ => ⟨S4096x64, .f32⟩
  | .hbm, ⟨58, _⟩ => ⟨S4096x64, .f32⟩
  | .hbm, ⟨59, _⟩ => ⟨S4096x64, .f32⟩
  | .hbm, ⟨60, _⟩ => ⟨S4096x128, .f32⟩
  | .hbm, ⟨61, _⟩ => ⟨S4096x64, .f32⟩
  | .hbm, ⟨62, _⟩ => ⟨S4096x128, .f32⟩
  | .hbm, ⟨63, _⟩ => ⟨S1x64, .f32⟩
  | .hbm, ⟨64, _⟩ => ⟨S8x64, .f32⟩
  | .hbm, ⟨65, _⟩ => ⟨S512, .f32⟩
  | .hbm, ⟨66, _⟩ => ⟨S_, .f32⟩
  | .hbm, ⟨67, _⟩ => ⟨S512, .f32⟩
  | .hbm, ⟨68, _⟩ => ⟨S512, .f32⟩
  | .hbm, ⟨69, _⟩ => ⟨S1x64, .f32⟩
  | .hbm, ⟨70, _⟩ => ⟨S8x64, .f32⟩
  | .hbm, ⟨71, _⟩ => ⟨S512, .f32⟩
  | .hbm, ⟨72, _⟩ => ⟨S1x1024, .f32⟩
  | .hbm, ⟨73, _⟩ => ⟨S8x1, .f32⟩
  | .hbm, ⟨74, _⟩ => ⟨S1x512, .f32⟩
  | .hbm, ⟨75, _⟩ => ⟨S1x512, .f32⟩
  | .hbm, ⟨76, _⟩ => ⟨S16384x512, .bf16⟩
  | .hbm, ⟨77, _⟩ => ⟨S16384x512, .bf16⟩
  | .hbm, ⟨78, _⟩ => ⟨S16384x512, .bf16⟩
  | .hbm, ⟨79, _⟩ => ⟨S16384x512, .bf16⟩
  | .hbm, ⟨80, _⟩ => ⟨S16384x512, .bf16⟩
  | .hbm, ⟨81, _⟩ => ⟨S16384x512, .f32⟩
  | .hbm, ⟨82, _⟩ => ⟨S16384x512, .bf16⟩
  | .hbm, ⟨83, _⟩ => ⟨S16384x512, .f32⟩
  | .hbm, ⟨84, _⟩ => ⟨S16384x512, .bf16⟩
  | .hbm, ⟨85, _⟩ => ⟨S16384x512, .bf16⟩
  | .hbm, ⟨86, _⟩ => ⟨S8x16384, .f32⟩
  | .hbm, ⟨87, _⟩ => ⟨S8x16384, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S8x1024, .bf16⟩
  | .local _ .vmem, ⟨5, _⟩ => ⟨S8x1, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .f32⟩
  | .local _ .vmem, ⟨24, _⟩ => ⟨S512x512, .f32⟩
  | .local _ .vmem, ⟨25, _⟩ => ⟨S512x512, .bf16⟩
  | .local _ .vmem, ⟨26, _⟩ => ⟨S512x512, .bf16⟩
  | .local _ .vmem, ⟨27, _⟩ => ⟨S512x512, .f32⟩
  | .local _ .vmem, ⟨28, _⟩ => ⟨S512x512, .f32⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S8x512, .f32⟩
  | .local _ .vmem, ⟨34, _⟩ => ⟨S8x512, .f32⟩
  | .local _ .vmem, ⟨35, _⟩ => ⟨S8x512, .f32⟩
  | .local _ .vmem, ⟨36, _⟩ => ⟨S8x512, .f32⟩
  | .local _ .vmem, ⟨37, _⟩ => ⟨S8x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst : Ref sig .tc := ⟨.hbm, 38, rfl⟩
abbrev main_v15 : Ref sig .tc := ⟨.hbm, 39, rfl⟩
abbrev main_v16 : Ref sig .tc := ⟨.hbm, 40, rfl⟩
abbrev main_cst_0 : Ref sig .tc := ⟨.hbm, 41, rfl⟩
abbrev main_v17 : Ref sig .tc := ⟨.hbm, 42, rfl⟩
abbrev main_v18 : Ref sig .tc := ⟨.hbm, 43, rfl⟩
abbrev main_cst_1 : Ref sig .tc := ⟨.hbm, 44, rfl⟩
abbrev main_v19 : Ref sig .tc := ⟨.hbm, 45, rfl⟩
abbrev main_v20 : Ref sig .tc := ⟨.hbm, 46, rfl⟩
abbrev main_cst_2 : Ref sig .tc := ⟨.hbm, 47, rfl⟩
abbrev main_v21 : Ref sig .tc := ⟨.hbm, 48, rfl⟩
abbrev main_v22 : Ref sig .tc := ⟨.hbm, 49, rfl⟩
abbrev main_cst_3 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_4 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47_0 : Ref sig .tc := ⟨.hbm, 76, rfl⟩
abbrev main_v47_1 : Ref sig .tc := ⟨.hbm, 77, rfl⟩
abbrev main_v47_2 : Ref sig .tc := ⟨.hbm, 78, rfl⟩
abbrev main_v47_3 : Ref sig .tc := ⟨.hbm, 79, rfl⟩
abbrev main_v47_4 : Ref sig .tc := ⟨.hbm, 80, rfl⟩
abbrev main_v47_5 : Ref sig .tc := ⟨.hbm, 81, rfl⟩
abbrev main_v47_6 : Ref sig .tc := ⟨.hbm, 82, rfl⟩
abbrev main_v47_7 : Ref sig .tc := ⟨.hbm, 83, rfl⟩
abbrev main_v47_8 : Ref sig .tc := ⟨.hbm, 84, rfl⟩
abbrev main_v47_9 : Ref sig .tc := ⟨.hbm, 85, rfl⟩
abbrev main_v47_10 : Ref sig .tc := ⟨.hbm, 86, rfl⟩
abbrev main_v47_11 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_scratch0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S8x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== ProjRefIdeal.lean ====
abbrev S16384x1024 : Shape := ⟨2, ![16384, 1024]⟩
abbrev S1024 : Shape := ⟨1, ![1024]⟩
abbrev S1024x4104 : Shape := ⟨2, ![1024, 4104]⟩
abbrev S64 : Shape := ⟨1, ![64]⟩
abbrev S8 : Shape := ⟨1, ![8]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4104 : Shape := ⟨2, ![16384, 4104]⟩
abbrev S16384x512 : Shape := ⟨2, ![16384, 512]⟩
abbrev S16384x8 : Shape := ⟨2, ![16384, 8]⟩
abbrev S4x4096x4x128 : Shape := ⟨4, ![4, 4096, 4, 128]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S4x4096x4x64 : Shape := ⟨4, ![4, 4096, 4, 64]⟩
abbrev S16384x8x64 : Shape := ⟨3, ![16384, 8, 64]⟩
abbrev S16384x8x1 : Shape := ⟨3, ![16384, 8, 1]⟩
abbrev S1x1x64 : Shape := ⟨3, ![1, 1, 64]⟩
abbrev S1x8 : Shape := ⟨2, ![1, 8]⟩
abbrev S4x4096x8 : Shape := ⟨3, ![4, 4096, 8]⟩
abbrev S8x16384 : Shape := ⟨2, ![8, 16384]⟩

abbrev nBuf : Space → Nat
  | .hbm => 208
  | .vmem => 0
  | .smem => 0
  | _ => 0

abbrev hbmTy0_0 (i : Nat) : BufTy := match i % 128 with
  | 0 => ⟨S16384x1024, .f32⟩
  | 1 => ⟨S1024, .f32⟩
  | 2 => ⟨S1024x4104, .f32⟩
  | 3 => ⟨S64, .f32⟩
  | 4 => ⟨S64, .f32⟩
  | 5 => ⟨S8, .f32⟩
  | 6 => ⟨S16384x1024, .f32⟩
  | 7 => ⟨S_, .f32⟩
  | 8 => ⟨S16384, .f32⟩
  | 9 => ⟨S16384x1, .f32⟩
  | 10 => ⟨S_, .f32⟩
  | 11 => ⟨S16384x1, .f32⟩
  | 12 => ⟨S16384x1, .f32⟩
  | 13 => ⟨S_, .f32⟩
  | 14 => ⟨S16384x1, .f32⟩
  | 15 => ⟨S16384x1, .f32⟩
  | 16 => ⟨S16384x1, .f32⟩
  | 17 => ⟨S16384x1024, .f32⟩
  | 18 => ⟨S16384x1024, .f32⟩
  | 19 => ⟨S1x1024, .f32⟩
  | 20 => ⟨S16384x1024, .f32⟩
  | 21 => ⟨S16384x1024, .f32⟩
  | 22 => ⟨S16384x4104, .f32⟩
  | 23 => ⟨S16384x512, .f32⟩
  | 24 => ⟨S16384x512, .f32⟩
  | 25 => ⟨S16384x512, .f32⟩
  | 26 => ⟨S16384x512, .f32⟩
  | 27 => ⟨S16384x512, .f32⟩
  | 28 => ⟨S16384x512, .f32⟩
  | 29 => ⟨S16384x512, .f32⟩
  | 30 => ⟨S16384x512, .f32⟩
  | 31 => ⟨S16384x8, .f32⟩
  | 32 => ⟨S4x4096x4x128, .f32⟩
  | 33 => ⟨S64, .f32⟩
  | 34 => ⟨S_, .f32⟩
  | 35 => ⟨S64, .f32⟩
  | 36 => ⟨S64, .f32⟩
  | 37 => ⟨S_, .f32⟩
  | 38 => ⟨S64, .f32⟩
  | 39 => ⟨S64, .f32⟩
  | 40 => ⟨S_, .f32⟩
  | 41 => ⟨S64, .f32⟩
  | 42 => ⟨S64, .f32⟩
  | 43 => ⟨S_, .f32⟩
  | 44 => ⟨S64, .f32⟩
  | 45 => ⟨S64, .f32⟩
  | 46 => ⟨S_, .f32⟩
  | 47 => ⟨S64, .f32⟩
  | 48 => ⟨S64, .f32⟩
  | 49 => ⟨S4096, .f32⟩
  | 50 => ⟨S4096x1, .f32⟩
  | 51 => ⟨S1x64, .f32⟩
  | 52 => ⟨S4096x64, .f32⟩
  | 53 => ⟨S4096x64, .f32⟩
  | 54 => ⟨S4096x64, .f32⟩
  | 55 => ⟨S4096x64, .f32⟩
  | 56 => ⟨S1x4096x1x64, .f32⟩
  | 57 => ⟨S4096x64, .f32⟩
  | 58 => ⟨S1x4096x1x64, .f32⟩
  | 59 => ⟨S4x4096x4x64, .f32⟩
  | 60 => ⟨S4x4096x4x64, .f32⟩
  | 61 => ⟨S4x4096x4x64, .f32⟩
  | 62 => ⟨S4x4096x4x64, .f32⟩
  | 63 => ⟨S4x4096x4x64, .f32⟩
  | 64 => ⟨S4x4096x4x64, .f32⟩
  | 65 => ⟨S4x4096x4x64, .f32⟩
  | 66 => ⟨S4x4096x4x64, .f32⟩
  | 67 => ⟨S4x4096x4x64, .f32⟩
  | 68 => ⟨S4x4096x4x64, .f32⟩
  | 69 => ⟨S4x4096x4x64, .f32⟩
  | 70 => ⟨S4x4096x4x64, .f32⟩
  | 71 => ⟨S4x4096x4x128, .f32⟩
  | 72 => ⟨S16384x512, .f32⟩
  | 73 => ⟨S4x4096x4x128, .f32⟩
  | 74 => ⟨S64, .f32⟩
  | 75 => ⟨S_, .f32⟩
  | 76 => ⟨S64, .f32⟩
  | 77 => ⟨S64, .f32⟩
  | 78 => ⟨S_, .f32⟩
  | 79 => ⟨S64, .f32⟩
  | 80 => ⟨S64, .f32⟩
  | 81 => ⟨S_, .f32⟩
  | 82 => ⟨S64, .f32⟩
  | 83 => ⟨S64, .f32⟩
  | 84 => ⟨S_, .f32⟩
  | 85 => ⟨S64, .f32⟩
  | 86 => ⟨S64, .f32⟩
  | 87 => ⟨S_, .f32⟩
  | 88 => ⟨S64, .f32⟩
  | 89 => ⟨S64, .f32⟩
  | 90 => ⟨S4096, .f32⟩
  | 91 => ⟨S4096x1, .f32⟩
  | 92 => ⟨S1x64, .f32⟩
  | 93 => ⟨S4096x64, .f32⟩
  | 94 => ⟨S4096x64, .f32⟩
  | 95 => ⟨S4096x64, .f32⟩
  | 96 => ⟨S4096x64, .f32⟩
  | 97 => ⟨S1x4096x1x64, .f32⟩
  | 98 => ⟨S4096x64, .f32⟩
  | 99 => ⟨S1x4096x1x64, .f32⟩
  | 100 => ⟨S4x4096x4x64, .f32⟩
  | 101 => ⟨S4x4096x4x64, .f32⟩
  | 102 => ⟨S4x4096x4x64, .f32⟩
  | 103 => ⟨S4x4096x4x64, .f32⟩
  | 104 => ⟨S4x4096x4x64, .f32⟩
  | 105 => ⟨S4x4096x4x64, .f32⟩
  | 106 => ⟨S4x4096x4x64, .f32⟩
  | 107 => ⟨S4x4096x4x64, .f32⟩
  | 108 => ⟨S4x4096x4x64, .f32⟩
  | 109 => ⟨S4x4096x4x64, .f32⟩
  | 110 => ⟨S4x4096x4x64, .f32⟩
  | 111 => ⟨S4x4096x4x64, .f32⟩
  | 112 => ⟨S4x4096x4x128, .f32⟩
  | 113 => ⟨S_, .f32⟩
  | 114 => ⟨S4x4096x4x128, .f32⟩
  | 115 => ⟨S4x4096x4x128, .f32⟩
  | 116 => ⟨S16384x512, .f32⟩
  | 117 => ⟨S16384x8x64, .f32⟩
  | 118 => ⟨S16384x8x64, .f32⟩
  | 119 => ⟨S_, .f32⟩
  | 120 => ⟨S16384x8, .f32⟩
  | 121 => ⟨S16384x8x1, .f32⟩
  | 122 => ⟨S_, .f32⟩
  | 123 => ⟨S16384x8x1, .f32⟩
  | 124 => ⟨S16384x8x1, .f32⟩
  | 125 => ⟨S_, .f32⟩
  | 126 => ⟨S16384x8x1, .f32⟩
  | 127 => ⟨S16384x8x1, .f32⟩
  | _ => ⟨S16384x1024, .f32⟩

abbrev hbmTy0_1 (i : Nat) : BufTy := match i % 128 with
  | 0 => ⟨S16384x8x1, .f32⟩
  | 1 => ⟨S16384x8x64, .f32⟩
  | 2 => ⟨S16384x8x64, .f32⟩
  | 3 => ⟨S1x1x64, .f32⟩
  | 4 => ⟨S16384x8x64, .f32⟩
  | 5 => ⟨S16384x8x64, .f32⟩
  | 6 => ⟨S_, .f32⟩
  | 7 => ⟨S16384x8x64, .f32⟩
  | 8 => ⟨S16384x8x64, .f32⟩
  | 9 => ⟨S16384x512, .f32⟩
  | 10 => ⟨S16384x8x64, .f32⟩
  | 11 => ⟨S16384x8x64, .f32⟩
  | 12 => ⟨S_, .f32⟩
  | 13 => ⟨S16384x8, .f32⟩
  | 14 => ⟨S16384x8x1, .f32⟩
  | 15 => ⟨S_, .f32⟩
  | 16 => ⟨S16384x8x1, .f32⟩
  | 17 => ⟨S16384x8x1, .f32⟩
  | 18 => ⟨S_, .f32⟩
  | 19 => ⟨S16384x8x1, .f32⟩
  | 20 => ⟨S16384x8x1, .f32⟩
  | 21 => ⟨S16384x8x1, .f32⟩
  | 22 => ⟨S16384x8x64, .f32⟩
  | 23 => ⟨S16384x8x64, .f32⟩
  | 24 => ⟨S1x1x64, .f32⟩
  | 25 => ⟨S16384x8x64, .f32⟩
  | 26 => ⟨S16384x8x64, .f32⟩
  | 27 => ⟨S16384x512, .f32⟩
  | 28 => ⟨S1x8, .f32⟩
  | 29 => ⟨S16384x8, .f32⟩
  | 30 => ⟨S16384x8, .f32⟩
  | 31 => ⟨S16384x8, .f32⟩
  | 32 => ⟨S_, .f32⟩
  | 33 => ⟨S16384x8, .f32⟩
  | 34 => ⟨S16384x8, .f32⟩
  | 35 => ⟨S16384x8, .f32⟩
  | 36 => ⟨S16384x8, .f32⟩
  | 37 => ⟨S16384x8, .i1⟩
  | 38 => ⟨S16384x8, .f32⟩
  | 39 => ⟨S16384x8, .f32⟩
  | 40 => ⟨S16384x8, .f32⟩
  | 41 => ⟨S16384x8, .f32⟩
  | 42 => ⟨S16384x8, .f32⟩
  | 43 => ⟨S16384x8, .f32⟩
  | 44 => ⟨S16384x8, .f32⟩
  | 45 => ⟨S16384x8, .f32⟩
  | 46 => ⟨S16384x8, .f32⟩
  | 47 => ⟨S4x4096x8, .f32⟩
  | 48 => ⟨S_, .f32⟩
  | 49 => ⟨S_, .f32⟩
  | 50 => ⟨S4x4096x8, .f32⟩
  | 51 => ⟨S16384x8, .f32⟩
  | 52 => ⟨S16384x512, .bf16⟩
  | 53 => ⟨S16384x512, .bf16⟩
  | 54 => ⟨S16384x512, .bf16⟩
  | 55 => ⟨S16384x512, .f32⟩
  | 56 => ⟨S16384x512, .f32⟩
  | 57 => ⟨S_, .f32⟩
  | 58 => ⟨S16384x512, .f32⟩
  | 59 => ⟨S16384x512, .f32⟩
  | 60 => ⟨S_, .f32⟩
  | 61 => ⟨S16384x512, .f32⟩
  | 62 => ⟨S16384x512, .f32⟩
  | 63 => ⟨S16384x512, .f32⟩
  | 64 => ⟨S16384x512, .bf16⟩
  | 65 => ⟨S16384x512, .bf16⟩
  | 66 => ⟨S16384x512, .bf16⟩
  | 67 => ⟨S16384x512, .bf16⟩
  | 68 => ⟨S16384x512, .f32⟩
  | 69 => ⟨S16384x512, .f32⟩
  | 70 => ⟨S_, .f32⟩
  | 71 => ⟨S16384x512, .f32⟩
  | 72 => ⟨S16384x512, .f32⟩
  | 73 => ⟨S_, .f32⟩
  | 74 => ⟨S16384x512, .f32⟩
  | 75 => ⟨S16384x512, .f32⟩
  | 76 => ⟨S16384x512, .f32⟩
  | 77 => ⟨S16384x512, .bf16⟩
  | 78 => ⟨S8x16384, .f32⟩
  | 79 => ⟨S8x16384, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_7 : Ref sig .tc := ⟨.hbm, 75, rfl⟩
abbrev main_v61 : Ref sig .tc := ⟨.hbm, 76, rfl⟩
abbrev main_v62 : Ref sig .tc := ⟨.hbm, 77, rfl⟩
abbrev main_cst_8 : Ref sig .tc := ⟨.hbm, 78, rfl⟩
abbrev main_v63 : Ref sig .tc := ⟨.hbm, 79, rfl⟩
abbrev main_v64 : Ref sig .tc := ⟨.hbm, 80, rfl⟩
abbrev main_cst_9 : Ref sig .tc := ⟨.hbm, 81, rfl⟩
abbrev main_v65 : Ref sig .tc := ⟨.hbm, 82, rfl⟩
abbrev main_v66 : Ref sig .tc := ⟨.hbm, 83, rfl⟩
abbrev main_cst_10 : Ref sig .tc := ⟨.hbm, 84, rfl⟩
abbrev main_v67 : Ref sig .tc := ⟨.hbm, 85, rfl⟩
abbrev main_v68 : Ref sig .tc := ⟨.hbm, 86, rfl⟩
abbrev main_cst_11 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_cst_12 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_cst_13 : Ref sig .tc := ⟨.hbm, 119, rfl⟩
abbrev main_v99 : Ref sig .tc := ⟨.hbm, 120, rfl⟩
abbrev main_v100 : Ref sig .tc := ⟨.hbm, 121, rfl⟩
abbrev main_cst_14 : Ref sig .tc := ⟨.hbm, 122, rfl⟩
abbrev main_v101 : Ref sig .tc := ⟨.hbm, 123, rfl⟩
abbrev main_v102 : Ref sig .tc := ⟨.hbm, 124, rfl⟩
abbrev main_cst_15 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_cst_16 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_cst_17 : Ref sig .tc := ⟨.hbm, 140, rfl⟩
abbrev main_v116 : Ref sig .tc := ⟨.hbm, 141, rfl⟩
abbrev main_v117 : Ref sig .tc := ⟨.hbm, 142, rfl⟩
abbrev main_cst_18 : Ref sig .tc := ⟨.hbm, 143, rfl⟩
abbrev main_v118 : Ref sig .tc := ⟨.hbm, 144, rfl⟩
abbrev main_v119 : Ref sig .tc := ⟨.hbm, 145, rfl⟩
abbrev main_cst_19 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_call0_v0 : Ref sig .tc := ⟨.hbm, 159, rfl⟩
abbrev main_call0_call0_cst : Ref sig .tc := ⟨.hbm, 160, rfl⟩
abbrev main_call0_call0_v0 : Ref sig .tc := ⟨.hbm, 161, rfl⟩
abbrev main_call0_call0_v1 : Ref sig .tc := ⟨.hbm, 162, rfl⟩
abbrev main_call0_call0_v2 : Ref sig .tc := ⟨.hbm, 163, rfl⟩
abbrev main_call0_call0_v3 : Ref sig .tc := ⟨.hbm, 164, rfl⟩
abbrev main_call0_call0_v4 : Ref sig .tc := ⟨.hbm, 165, rfl⟩
abbrev main_call0_call0_v5 : Ref sig .tc := ⟨.hbm, 166, rfl⟩
abbrev main_call0_call0_v6 : Ref sig .tc := ⟨.hbm, 167, rfl⟩
abbrev main_call0_call0_v7 : Ref sig .tc := ⟨.hbm, 168, rfl⟩
abbrev main_call0_call0_v8 : Ref sig .tc := ⟨.hbm, 169, rfl⟩
abbrev main_call0_call0_v9 : Ref sig .tc := ⟨.hbm, 170, rfl⟩
abbrev main_call0_call0_v10 : Ref sig .tc := ⟨.hbm, 171, rfl⟩
abbrev main_call0_call0_v11 : Ref sig .tc := ⟨.hbm, 172, rfl⟩
abbrev main_call0_v1 : Ref sig .tc := ⟨.hbm, 173, rfl⟩
abbrev main_v132 : Ref sig .tc := ⟨.hbm, 174, rfl⟩
abbrev main_v133 : Ref sig .tc := ⟨.hbm, 175, rfl⟩
abbrev main_call1_cst : Ref sig .tc := ⟨.hbm, 176, rfl⟩
abbrev main_call1_v0 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_call2_v0 : Ref sig .tc := ⟨.hbm, 183, rfl⟩
abbrev main_call2_v1 : Ref sig .tc := ⟨.hbm, 184, rfl⟩
abbrev main_call2_cst : Ref sig .tc := ⟨.hbm, 185, rfl⟩
abbrev main_call2_v2 : Ref sig .tc := ⟨.hbm, 186, rfl⟩
abbrev main_call2_v3 : Ref sig .tc := ⟨.hbm, 187, rfl⟩
abbrev main_call2_cst_0 : Ref sig .tc := ⟨.hbm, 188, rfl⟩
abbrev main_call2_v4 : Ref sig .tc := ⟨.hbm, 189, rfl⟩
abbrev main_call2_v5 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_call3_v0 : Ref sig .tc := ⟨.hbm, 196, rfl⟩
abbrev main_call3_v1 : Ref sig .tc := ⟨.hbm, 197, rfl⟩
abbrev main_call3_cst : Ref sig .tc := ⟨.hbm, 198, rfl⟩
abbrev main_call3_v2 : Ref sig .tc := ⟨.hbm, 199, rfl⟩
abbrev main_call3_v3 : Ref sig .tc := ⟨.hbm, 200, rfl⟩
abbrev main_call3_cst_0 : Ref sig .tc := ⟨.hbm, 201, rfl⟩
abbrev main_call3_v4 : Ref sig .tc := ⟨.hbm, 202, rfl⟩
abbrev main_call3_v5 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩

abbrev nD : Nat := 1
abbrev τ : Topo := Topo.v7x

variable {F : FTy → Type} [FloatOps F]
-- ==== Ret.lean ====
abbrev S16384x512 : Shape := ⟨2, ![16384, 512]⟩
abbrev S4x128 : Shape := ⟨2, ![4, 128]⟩
abbrev S_ : Shape := ⟨0, ![]⟩
abbrev S4x4x128x128 : Shape := ⟨4, ![4, 4, 128, 128]⟩
abbrev S1x512 : Shape := ⟨2, ![1, 512]⟩
abbrev S4x4096x512 : Shape := ⟨3, ![4, 4096, 512]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128x1 : Shape := ⟨3, ![4, 128, 1]⟩
abbrev S4x1x128 : Shape := ⟨3, ![4, 1, 128]⟩
abbrev S1x512x512 : Shape := ⟨3, ![1, 512, 512]⟩
abbrev S1x4x128x128 : Shape := ⟨4, ![1, 4, 128, 128]⟩
abbrev S1x1x128 : Shape := ⟨3, ![1, 1, 128]⟩

abbrev nBuf : Space → Nat
  | .hbm => 76
  | .vmem => 20
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S4x128, .f32⟩
  | .hbm, ⟨5, _⟩ => ⟨S_, .f32⟩
  | .hbm, ⟨6, _⟩ => ⟨S4x4x128x128, .f32⟩
  | .hbm, ⟨7, _⟩ => ⟨S1x512, .f32⟩
  | .hbm, ⟨8, _⟩ => ⟨S4x4096x512, .bf16⟩
  | .hbm, ⟨9, _⟩ => ⟨S4x4096x512, .bf16⟩
  | .hbm, ⟨10, _⟩ => ⟨S4x4096x512, .bf16⟩
  | .hbm, ⟨11, _⟩ => ⟨S4x4096x512, .bf16⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S_, .f32⟩
  | .hbm, ⟨17, _⟩ => ⟨S4, .f32⟩
  | .hbm, ⟨18, _⟩ => ⟨S4, .f32⟩
  | .hbm, ⟨19, _⟩ => ⟨S_, .f32⟩
  | .hbm, ⟨20, _⟩ => ⟨S4, .f32⟩
  | .hbm, ⟨21, _⟩ => ⟨S4, .f32⟩
  | .hbm, ⟨22, _⟩ => ⟨S4, .f32⟩
  | .hbm, ⟨23, _⟩ => ⟨S128, .f32⟩
  | .hbm, ⟨24, _⟩ => ⟨S128x1, .f32⟩
  | .hbm, ⟨25, _⟩ => ⟨S1x128, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S_, .f32⟩
  | .hbm, ⟨30, _⟩ => ⟨S128x128, .f32⟩
  | .hbm, ⟨31, _⟩ => ⟨S128x128, .i1⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S1x128x128, .f32⟩
  | .hbm, ⟨36, _⟩ => ⟨S4x1x1, .f32⟩
  | .hbm, ⟨37, _⟩ => ⟨S4x128x128, .f32⟩
  | .hbm, ⟨38, _⟩ => ⟨S4x128x128, .f32⟩
  | .hbm, ⟨39, _⟩ => ⟨S4x128x128, .f32⟩
  | .hbm, ⟨40, _⟩ => ⟨S4x128x128, .f32⟩
  | .hbm, ⟨41, _⟩ => ⟨S_, .f32⟩
  | .hbm, ⟨42, _⟩ => ⟨S_, .f32⟩
  | .hbm, ⟨43, _⟩ => ⟨S4x128x128, .i1⟩
  | .hbm, ⟨44, _⟩ => ⟨S4x128x128, .f32⟩
  | .hbm, ⟨45, _⟩ => ⟨S4x128x128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S1x128, .f32⟩
  | .hbm, ⟨50, _⟩ => ⟨S4x1, .f32⟩
  | .hbm, ⟨51, _⟩ => ⟨S4x128, .f32⟩
  | .hbm, ⟨52, _⟩ => ⟨S4x128, .f32⟩
  | .hbm, ⟨53, _⟩ => ⟨S4x128, .f32⟩
  | .hbm, ⟨54, _⟩ => ⟨S4x128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S1x128, .f32⟩
  | .hbm, ⟨59, _⟩ => ⟨S4x1, .f32⟩
  | .hbm, ⟨60, _⟩ => ⟨S4x128, .f32⟩
  | .hbm, ⟨61, _⟩ => ⟨S4x128, .f32⟩
  | .hbm, ⟨62, _⟩ => ⟨S4x128, .f32⟩
  | .hbm, ⟨63, _⟩ => ⟨S4x128, .f32⟩
  | .hbm, ⟨64, _⟩ => ⟨S_, .f32⟩
  | .hbm, ⟨65, _⟩ => ⟨S4, .f32⟩
  | .hbm, ⟨66, _⟩ => ⟨S4, .f32⟩
  | .hbm, ⟨67, _⟩ => ⟨S4, .f32⟩
  | .hbm, ⟨68, _⟩ => ⟨S4x128x1, .f32⟩
  | .hbm, ⟨69, _⟩ => ⟨S4x128x128, .f32⟩
  | .hbm, ⟨70, _⟩ => ⟨S4x128x1, .f32⟩
  | .hbm, ⟨71, _⟩ => ⟨S4x128x128, .f32⟩
  | .hbm, ⟨72, _⟩ => ⟨S4x1x1, .f32⟩
  | .hbm, ⟨73, _⟩ => ⟨S4x1x128, .f32⟩
  | .hbm, ⟨74, _⟩ => ⟨S4x4096x512, .bf16⟩
  | .hbm, ⟨75, _⟩ => ⟨S4x4x128x128, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x4x128x128, .f32⟩
  | .local _ .vmem, ⟨9, _⟩ => ⟨S1x4x128x128, .f32⟩
  | .local _ .vmem, ⟨10, _⟩ => ⟨S4x128x128, .f32⟩
  | .local _ .vmem, ⟨11, _⟩ => ⟨S4x128x128, .f32⟩
  | .local _ .vmem, ⟨12, _⟩ => ⟨S4x128x128, .f32⟩
  | .local _ .vmem, ⟨13, _⟩ => ⟨S4x1x128, .f32⟩
  | .local _ .vmem, ⟨14, _⟩ => ⟨S1x512, .f32⟩
  | .local _ .vmem, ⟨15, _⟩ => ⟨S1x512x512, .bf16⟩
  | .local _ .vmem, ⟨16, _⟩ => ⟨S1x512x512, .bf16⟩
  | .local _ .vmem, ⟨17, _⟩ => ⟨S1x4x128x128, .f32⟩
  | .local _ .vmem, ⟨18, _⟩ => ⟨S1x4x128x128, .f32⟩
  | .local _ .vmem, ⟨19, _⟩ => ⟨S4x128x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56_0 : Ref sig .tc := ⟨.hbm, 74, rfl⟩
abbrev main_v56_1 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v899 : BitVec 1 := Scalar.cmpi .eq arg1 c7_i32
  let v900 : BitVec 32 := Scalar.extui v899
  let c0_i32_665 : BitVec 32 := 0#32
  let v901 : BitVec 1 := Scalar.cmpi .ne v900 c0_i32_665
  v901

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== RetRefIdeal.lean ====
abbrev S16384x512 : Shape := ⟨2, ![16384, 512]⟩
abbrev S4x128 : Shape := ⟨2, ![4, 128]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x4 : Shape := ⟨2, ![1, 4]⟩
abbrev S128x4 : Shape := ⟨2, ![128, 4]⟩
abbrev S4x4x128x128 : Shape := ⟨4, ![4, 4, 128, 128]⟩
abbrev S4x32x128x4x128 : Shape := ⟨5, ![4, 32, 128, 4, 128]⟩
abbrev S32x4x128x4x128 : Shape := ⟨5, ![32, 4, 128, 4, 128]⟩
abbrev S1x4x128x4x128 : Shape := ⟨5, ![1, 4, 128, 4, 128]⟩
abbrev S4x128x4x128 : Shape := ⟨4, ![4, 128, 4, 128]⟩
abbrev S1x4x128x128 : Shape := ⟨4, ![1, 4, 128, 128]⟩
abbrev S1x128x4x1 : Shape := ⟨4, ![1, 128, 4, 1]⟩
abbrev S1x4x1x1 : Shape := ⟨4, ![1, 4, 1, 1]⟩
abbrev S4x4096x4x128 : Shape := ⟨4, ![4, 4096, 4, 128]⟩
abbrev S4x4096x4 : Shape := ⟨3, ![4, 4096, 4]⟩
abbrev S4x4096x4x1 : Shape := ⟨4, ![4, 4096, 4, 1]⟩
abbrev S1x1x4x128 : Shape := ⟨4, ![1, 1, 4, 128]⟩
abbrev S4x4096x512 : Shape := ⟨3, ![4, 4096, 512]⟩

abbrev nBuf : Space → Nat
  | .hbm => 156
  | .vmem => 0
  | .smem => 0
  | _ => 0

abbrev hbmTy0_0 (i : Nat) : BufTy := match i % 128 with
  | 0 => ⟨S16384x512, .bf16⟩
  | 1 => ⟨S16384x512, .bf16⟩
  | 2 => ⟨S16384x512, .bf16⟩
  | 3 => ⟨S16384x512, .bf16⟩
  | 4 => ⟨S4x128, .f32⟩
  | 5 => ⟨S4, .f32⟩
  | 6 => ⟨S_, .f32⟩
  | 7 => ⟨S4, .f32⟩
  | 8 => ⟨S4, .f32⟩
  | 9 => ⟨S_, .f32⟩
  | 10 => ⟨S4, .f32⟩
  | 11 => ⟨S4, .f32⟩
  | 12 => ⟨S_, .f32⟩
  | 13 => ⟨S4, .f32⟩
  | 14 => ⟨S4, .f32⟩
  | 15 => ⟨S4, .f32⟩
  | 16 => ⟨S128, .f32⟩
  | 17 => ⟨S128x1, .f32⟩
  | 18 => ⟨S1x128, .f32⟩
  | 19 => ⟨S128x128, .f32⟩
  | 20 => ⟨S128x128, .f32⟩
  | 21 => ⟨S128x128, .f32⟩
  | 22 => ⟨S_, .f32⟩
  | 23 => ⟨S128x128, .f32⟩
  | 24 => ⟨S128x128, .i1⟩
  | 25 => ⟨S_, .f32⟩
  | 26 => ⟨S128x128, .f32⟩
  | 27 => ⟨S128x128, .f32⟩
  | 28 => ⟨S1x128x128, .f32⟩
  | 29 => ⟨S4x1x1, .f32⟩
  | 30 => ⟨S4x128x128, .f32⟩
  | 31 => ⟨S4x128x128, .f32⟩
  | 32 => ⟨S4x128x128, .f32⟩
  | 33 => ⟨S4x128x128, .f32⟩
  | 34 => ⟨S_, .f32⟩
  | 35 => ⟨S_, .f32⟩
  | 36 => ⟨S4x128x128, .i1⟩
  | 37 => ⟨S4x128x128, .f32⟩
  | 38 => ⟨S4x128x128, .f32⟩
  | 39 => ⟨S_, .f32⟩
  | 40 => ⟨S128, .f32⟩
  | 41 => ⟨S128, .f32⟩
  | 42 => ⟨S128x1, .f32⟩
  | 43 => ⟨S1x4, .f32⟩
  | 44 => ⟨S128x4, .f32⟩
  | 45 => ⟨S128x4, .f32⟩
  | 46 => ⟨S128x4, .f32⟩
  | 47 => ⟨S128x4, .f32⟩
  | 48 => ⟨S_, .f32⟩
  | 49 => ⟨S128, .f32⟩
  | 50 => ⟨S128, .f32⟩
  | 51 => ⟨S128x1, .f32⟩
  | 52 => ⟨S1x4, .f32⟩
  | 53 => ⟨S128x4, .f32⟩
  | 54 => ⟨S128x4, .f32⟩
  | 55 => ⟨S128x4, .f32⟩
  | 56 => ⟨S128x4, .f32⟩
  | 57 => ⟨S_, .f32⟩
  | 58 => ⟨S4x4x128x128, .f32⟩
  | 59 => ⟨S16384x512, .f32⟩
  | 60 => ⟨S4x32x128x4x128, .f32⟩
  | 61 => ⟨S32x4x128x4x128, .f32⟩
  | 62 => ⟨S16384x512, .f32⟩
  | 63 => ⟨S4x32x128x4x128, .f32⟩
  | 64 => ⟨S32x4x128x4x128, .f32⟩
  | 65 => ⟨S16384x512, .f32⟩
  | 66 => ⟨S4x32x128x4x128, .f32⟩
  | 67 => ⟨S32x4x128x4x128, .f32⟩
  | 68 => ⟨S_, .f32⟩
  | 69 => ⟨S32x4x128x4x128, .f32⟩
  | 70 => ⟨S_, .i32⟩
  | 71 => ⟨S32x4x128x4x128, .f32⟩
  | 72 => ⟨S32x4x128x4x128, .f32⟩
  | 73 => ⟨S32x4x128x4x128, .f32⟩
  | 74 => ⟨S4x128x128, .f32⟩
  | 75 => ⟨S128x4, .f32⟩
  | 76 => ⟨S4, .f32⟩
  | 77 => ⟨S128x4, .f32⟩
  | 78 => ⟨S_, .i32⟩
  | 79 => ⟨S4x4x128x128, .f32⟩
  | 80 => ⟨S32x4x128x4x128, .f32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S1x4x128x4x128, .f32⟩
  | 88 => ⟨S4x128x4x128, .f32⟩
  | 89 => ⟨S_, .i32⟩
  | 90 => ⟨S_, .i32⟩
  | 91 => ⟨S_, .i32⟩
  | 92 => ⟨S_, .i32⟩
  | 93 => ⟨S1x4x128x4x128, .f32⟩
  | 94 => ⟨S4x128x4x128, .f32⟩
  | 95 => ⟨S_, .i32⟩
  | 96 => ⟨S_, .i32⟩
  | 97 => ⟨S_, .i32⟩
  | 98 => ⟨S_, .i32⟩
  | 99 => ⟨S1x4x128x4x128, .f32⟩
  | 100 => ⟨S4x128x4x128, .f32⟩
  | 101 => ⟨S4x4x128x128, .f32⟩
  | 102 => ⟨S1x4x128x128, .f32⟩
  | 103 => ⟨S4x4x128x128, .f32⟩
  | 104 => ⟨S4x4x128x128, .f32⟩
  | 105 => ⟨S4x4x128x128, .f32⟩
  | 106 => ⟨S4x128x4x128, .f32⟩
  | 107 => ⟨S4x4x128x128, .f32⟩
  | 108 => ⟨S4x128x4x128, .f32⟩
  | 109 => ⟨S1x128x4x1, .f32⟩
  | 110 => ⟨S4x128x4x128, .f32⟩
  | 111 => ⟨S4x128x4x128, .f32⟩
  | 112 => ⟨S_, .f32⟩
  | 113 => ⟨S4, .f32⟩
  | 114 => ⟨S4, .f32⟩
  | 115 => ⟨S4, .f32⟩
  | 116 => ⟨S1x4x1x1, .f32⟩
  | 117 => ⟨S4x4x128x128, .f32⟩
  | 118 => ⟨S4x4x128x128, .f32⟩
  | 119 => ⟨S1x128x4x1, .f32⟩
  | 120 => ⟨S4x128x4x128, .f32⟩
  | 121 => ⟨S4x128x4x128, .f32⟩
  | 122 => ⟨S4x4x128x128, .f32⟩
  | 123 => ⟨S4x4x128x128, .f32⟩
  | 124 => ⟨S4x128x4x128, .f32⟩
  | 125 => ⟨S1x4x128x4x128, .f32⟩
  | 126 => ⟨S_, .i32⟩
  | 127 => ⟨S_, .i32⟩
  | _ => ⟨S16384x512, .bf16⟩

abbrev hbmTy0_1 (i : Nat) : BufTy := match i % 128 with
  | 0 => ⟨S_, .i32⟩
  | 1 => ⟨S_, .i32⟩
  | 2 => ⟨S32x4x128x4x128, .f32⟩
  | 3 => ⟨S_, .i32⟩
  | 4 => ⟨S_, .i32⟩
  | 5 => ⟨S4x32x128x4x128, .f32⟩
  | 6 => ⟨S4x4096x4x128, .f32⟩
  | 7 => ⟨S4x4096x4x128, .f32⟩
  | 8 => ⟨S_, .f32⟩
  | 9 => ⟨S4x4096x4, .f32⟩
  | 10 => ⟨S4x4096x4x1, .f32⟩
  | 11 => ⟨S_, .f32⟩
  | 12 => ⟨S4x4096x4x1, .f32⟩
  | 13 => ⟨S4x4096x4x1, .f32⟩
  | 14 => ⟨S_, .f32⟩
  | 15 => ⟨S4x4096x4x1, .f32⟩
  | 16 => ⟨S4x4096x4x1, .f32⟩
  | 17 => ⟨S4x4096x4x1, .f32⟩
  | 18 => ⟨S4x4096x4x128, .f32⟩
  | 19 => ⟨S4x4096x4x128, .f32⟩
  | 20 => ⟨S1x1x4x128, .f32⟩
  | 21 => ⟨S4x4096x4x128, .f32⟩
  | 22 => ⟨S4x4096x4x128, .f32⟩
  | 23 => ⟨S4x4096x512, .f32⟩
  | 24 => ⟨S16384x512, .f32⟩
  | 25 => ⟨S4x4096x512, .f32⟩
  | 26 => ⟨S4x4096x512, .f32⟩
  | 27 => ⟨S4x4096x512, .bf16⟩
  | _ => ⟨S16384x512, .bf16⟩

abbrev hbmTy (i : Nat) : BufTy := match i / 128 with
  | 0 => hbmTy0_0 i
  | 1 => hbmTy0_1 i
  | _ => ⟨S16384x512, .bf16⟩

abbrev bufTy : (tb : Table) → Fin (tcTables nBuf tb) → BufTy
  | .hbm, ⟨i, _⟩ => hbmTy i
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_c : Ref sig .tc := ⟨.hbm, 70, rfl⟩
abbrev main_v52_0 : Ref sig .tc := ⟨.hbm, 71, rfl⟩
abbrev main_v52_1 : Ref sig .tc := ⟨.hbm, 72, rfl⟩
abbrev main_v52_2 : Ref sig .tc := ⟨.hbm, 73, rfl⟩
abbrev main_v52_3 : Ref sig .tc := ⟨.hbm, 74, rfl⟩
abbrev main_v52_4 : Ref sig .tc := ⟨.hbm, 75, rfl⟩
abbrev main_v52_5 : Ref sig .tc := ⟨.hbm, 76, rfl⟩
abbrev main_v52_6 : Ref sig .tc := ⟨.hbm, 77, rfl⟩
abbrev main_v52_7 : Ref sig .tc := ⟨.hbm, 78, rfl⟩
abbrev main_v52_8 : Ref sig .tc := ⟨.hbm, 79, rfl⟩
abbrev main_v52_9 : Ref sig .tc := ⟨.hbm, 80, rfl⟩
abbrev main_while0c_c_21 : Ref sig .tc := ⟨.hbm, 81, rfl⟩
abbrev main_while0c_v73 : Ref sig .tc := ⟨.hbm, 82, rfl⟩
abbrev main_while0b_call1_c : Ref sig .tc := ⟨.hbm, 83, rfl⟩
abbrev main_while0b_call1_c_0 : Ref sig .tc := ⟨.hbm, 84, rfl⟩
abbrev main_while0b_call1_c_1 : Ref sig .tc := ⟨.hbm, 85, rfl⟩
abbrev main_while0b_call1_c_2 : Ref sig .tc := ⟨.hbm, 86, rfl⟩
abbrev main_while0b_call1_v0 : Ref sig .tc := ⟨.hbm, 87, rfl⟩
abbrev main_while0b_v73 : Ref sig .tc := ⟨.hbm, 88, rfl⟩
abbrev main_while0b_call2_c : Ref sig .tc := ⟨.hbm, 89, rfl⟩
abbrev main_while0b_call2_c_0 : Ref sig .tc := ⟨.hbm, 90, rfl⟩
abbrev main_while0b_call2_c_1 : Ref sig .tc := ⟨.hbm, 91, rfl⟩
abbrev main_while0b_call2_c_2 : Ref sig .tc := ⟨.hbm, 92, rfl⟩
abbrev main_while0b_call2_v0 : Ref sig .tc := ⟨.hbm, 93, rfl⟩
abbrev main_while0b_v74 : Ref sig .tc := ⟨.hbm, 94, rfl⟩
abbrev main_while0b_call3_c : Ref sig .tc := ⟨.hbm, 95, rfl⟩
abbrev main_while0b_call3_c_0 : Ref sig .tc := ⟨.hbm, 96, rfl⟩
abbrev main_while0b_call3_c_1 : Ref sig .tc := ⟨.hbm, 97, rfl⟩
abbrev main_while0b_call3_c_2 : Ref sig .tc := ⟨.hbm, 98, rfl⟩
abbrev main_while0b_call3_v0 : Ref sig .tc := ⟨.hbm, 99, rfl⟩
abbrev main_while0b_v75 : Ref sig .tc := ⟨.hbm, 100, rfl⟩
abbrev main_while0b_v76 : Ref sig .tc := ⟨.hbm, 101, rfl⟩
abbrev main_while0b_v77 : Ref sig .tc := ⟨.hbm, 102, rfl⟩
abbrev main_while0b_v78 : Ref sig .tc := ⟨.hbm, 103, rfl⟩
abbrev main_while0b_v79 : Ref sig .tc := ⟨.hbm, 104, rfl⟩
abbrev main_while0b_v80 : Ref sig .tc := ⟨.hbm, 105, rfl⟩
abbrev main_while0b_v81 : Ref sig .tc := ⟨.hbm, 106, rfl⟩
abbrev main_while0b_v82 : Ref sig .tc := ⟨.hbm, 107, rfl⟩
abbrev main_while0b_v83 : Ref sig .tc := ⟨.hbm, 108, rfl⟩
abbrev main_while0b_v84 : Ref sig .tc := ⟨.hbm, 109, rfl⟩
abbrev main_while0b_v85 : Ref sig .tc := ⟨.hbm, 110, rfl⟩
abbrev main_while0b_v86 : Ref sig .tc := ⟨.hbm, 111, rfl⟩
abbrev main_while0b_cst_21 : Ref sig .tc := ⟨.hbm, 112, rfl⟩
abbrev main_while0b_v87 : Ref sig .tc := ⟨.hbm, 113, rfl⟩
abbrev main_while0b_v88 : Ref sig .tc := ⟨.hbm, 114, rfl⟩
abbrev main_while0b_v89 : Ref sig .tc := ⟨.hbm, 115, rfl⟩
abbrev main_while0b_v90 : Ref sig .tc := ⟨.hbm, 116, rfl⟩
abbrev main_while0b_v91 : Ref sig .tc := ⟨.hbm, 117, rfl⟩
abbrev main_while0b_v92 : Ref sig .tc := ⟨.hbm, 118, rfl⟩
abbrev main_while0b_v93 : Ref sig .tc := ⟨.hbm, 119, rfl⟩
abbrev main_while0b_v94 : Ref sig .tc := ⟨.hbm, 120, rfl⟩
abbrev main_while0b_v95 : Ref sig .tc := ⟨.hbm, 121, rfl⟩
abbrev main_while0b_v96 : Ref sig .tc := ⟨.hbm, 122, rfl⟩
abbrev main_while0b_v97 : Ref sig .tc := ⟨.hbm, 123, rfl⟩
abbrev main_while0b_v98 : Ref sig .tc := ⟨.hbm, 124, rfl⟩
abbrev main_while0b_call4_v0 : Ref sig .tc := ⟨.hbm, 125, rfl⟩
abbrev main_while0b_call4_c : Ref sig .tc := ⟨.hbm, 126, rfl⟩
abbrev main_while0b_call4_c_0 : Ref sig .tc := ⟨.hbm, 127, rfl⟩
abbrev main_while0b_call4_c_1 : Ref sig .tc := ⟨.hbm, 128, rfl⟩
abbrev main_while0b_call4_c_2 : Ref sig .tc := ⟨.hbm, 129, rfl⟩
abbrev main_while0b_v99 : Ref sig .tc := ⟨.hbm, 130, rfl⟩
abbrev main_while0b_c_22 : Ref sig .tc := ⟨.hbm, 131, rfl⟩
abbrev main_while0b_v100 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_cst_9 : Ref sig .tc := ⟨.hbm, 136, rfl⟩
abbrev main_v56 : Ref sig .tc := ⟨.hbm, 137, rfl⟩
abbrev main_v57 : Ref sig .tc := ⟨.hbm, 138, rfl⟩
abbrev main_cst_10 : Ref sig .tc := ⟨.hbm, 139, rfl⟩
abbrev main_v58 : Ref sig .tc := ⟨.hbm, 140, rfl⟩
abbrev main_v59 : Ref sig .tc := ⟨.hbm, 141, rfl⟩
abbrev main_cst_11 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_v70 : Ref sig .tc := ⟨.hbm, 153, rfl⟩
abbrev main_v71 : Ref sig .tc := ⟨.hbm, 154, rfl⟩
abbrev main_v72 : Ref sig .tc := ⟨.hbm, 155, rfl⟩

abbrev nD : Nat := 1
abbrev τ : Topo := Topo.v7x

variable {F : FTy → Type} [FloatOps F]

abbrev main_while0_count : Scf.Loop 32 := ⟨0#32, 32#32, 1#32⟩
-- ==== RetNew.lean ====
abbrev S128x512 : Shape := ⟨2, ![128, 512]⟩
abbrev S32x4x128x128 : Shape := ⟨4, ![32, 4, 128, 128]⟩
abbrev S4x128 : Shape := ⟨2, ![4, 128]⟩
abbrev S1x512 : Shape := ⟨2, ![1, 512]⟩
abbrev S32x4x512 : Shape := ⟨3, ![32, 4, 512]⟩
abbrev S_ : Shape := ⟨0, ![]⟩
abbrev S32x16x512 : Shape := ⟨3, ![32, 16, 512]⟩
abbrev S4 : Shape := ⟨1, ![4]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S1x16x16 : Shape := ⟨3, ![1, 16, 16]⟩
abbrev S4x1x1 : Shape := ⟨3, ![4, 1, 1]⟩
abbrev S4x16x16 : Shape := ⟨3, ![4, 16, 16]⟩
abbrev S4x1 : Shape := ⟨2, ![4, 1]⟩
abbrev S4x16 : Shape := ⟨2, ![4, 16]⟩
abbrev S4x16x1 : Shape := ⟨3, ![4, 16, 1]⟩
abbrev S4x16x128 : Shape := ⟨3, ![4, 16, 128]⟩
abbrev S4x1x128 : Shape := ⟨3, ![4, 1, 128]⟩
abbrev S1x16x512 : Shape := ⟨3, ![1, 16, 512]⟩
abbrev S1x4x128x128 : Shape := ⟨4, ![1, 4, 128, 128]⟩
abbrev S4x128x128 : Shape := ⟨3, ![4, 128, 128]⟩
abbrev S1x16x128 : Shape := ⟨3, ![1, 16, 128]⟩
abbrev S16x128 : Shape := ⟨2, ![16, 128]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩

abbrev nBuf : Space → Nat
  | .hbm => 87
  | .vmem => 20
  | .smem => 0
  | _ => 0

abbrev bufTy : (tb : Table) → Fin (tcTables nBuf tb) → BufTy
  | .hbm, ⟨0, _⟩ => ⟨S128x512, .bf16⟩
  | .hbm, ⟨1, _⟩ => ⟨S128x512, .bf16⟩
  | .hbm, ⟨2, _⟩ => ⟨S128x512, .bf16⟩
  | .hbm, ⟨3, _⟩ => ⟨S128x512, .bf16⟩
  | .hbm, ⟨4, _⟩ => ⟨S32x4x128x128, .f32⟩
  | .hbm, ⟨5, _⟩ => ⟨S4x128, .f32⟩
  | .hbm, ⟨6, _⟩ => ⟨S1x512, .f32⟩
  | .hbm, ⟨7, _⟩ => ⟨S32x4x512, .bf16⟩
  | .hbm, ⟨8, _⟩ => ⟨S_, .i32⟩
  | .hbm, ⟨9, _⟩ => ⟨S_, .bf16⟩
  | .hbm, ⟨10, _⟩ => ⟨S32x16x512, .bf16⟩
  | .hbm, ⟨11, _⟩ => ⟨S32x4x512, .bf16⟩
  | .hbm, ⟨12, _⟩ => ⟨S_, .i32⟩
  | .hbm, ⟨13, _⟩ => ⟨S_, .bf16⟩
  | .hbm, ⟨14, _⟩ => ⟨S32x16x512, .bf16⟩
  | .hbm, ⟨15, _⟩ => ⟨S32x4x512, .bf16⟩
  | .hbm, ⟨16, _⟩ => ⟨S_, .i32⟩
  | .hbm, ⟨17, _⟩ => ⟨S_, .bf16⟩
  | .hbm, ⟨18, _⟩ => ⟨S32x16x512, .bf16⟩
  | .hbm, ⟨19, _⟩ => ⟨S32x4x512, .bf16⟩
  | .hbm, ⟨20, _⟩ => ⟨S_, .i32⟩
  | .hbm, ⟨21, _⟩ => ⟨S_, .bf16⟩
  | .hbm, ⟨22, _⟩ => ⟨S32x16x512, .bf16⟩
  | .hbm, ⟨23, _⟩ => ⟨S4, .f32⟩
  | .hbm, ⟨24, _⟩ => ⟨S_, .f32⟩
  | .hbm, ⟨25, _⟩ => ⟨S4, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S4, .f32⟩
  | .hbm, ⟨30, _⟩ => ⟨S_, .f32⟩
  | .hbm, ⟨31, _⟩ => ⟨S4, .f32⟩
  | .hbm, ⟨32, _⟩ => ⟨S4, .f32⟩
  | .hbm, ⟨33, _⟩ => ⟨S4, .f32⟩
  | .hbm, ⟨34, _⟩ => ⟨S16, .f32⟩
  | .hbm, ⟨35, _⟩ => ⟨S16x1, .f32⟩
  | .hbm, ⟨36, _⟩ => ⟨S1x16, .f32⟩
  | .hbm, ⟨37, _⟩ => ⟨S16x16, .f32⟩
  | .hbm, ⟨38, _⟩ => ⟨S16x16, .f32⟩
  | .hbm, ⟨39, _⟩ => ⟨S16x16, .f32⟩
  | .hbm, ⟨40, _⟩ => ⟨S_, .f32⟩
  | .hbm, ⟨41, _⟩ => ⟨S16x16, .f32⟩
  | .hbm, ⟨42, _⟩ => ⟨S16x16, .i1⟩
  | .hbm, ⟨43, _⟩ => ⟨S_, .f32⟩
  | .hbm, ⟨44, _⟩ => ⟨S16x16, .f32⟩
  | .hbm, ⟨45, _⟩ => ⟨S16x16, .f32⟩
  | .hbm, ⟨46, _⟩ => ⟨S1x16x16, .f32⟩
  | .hbm, ⟨47, _⟩ => ⟨S4x1x1, .f32⟩
  | .hbm, ⟨48, _⟩ => ⟨S4x16x16, .f32⟩
  | .hbm, ⟨49, _⟩ => ⟨S4x16x16, .f32⟩
  | .hbm, ⟨50, _⟩ => ⟨S4x16x16, .f32⟩
  | .hbm, ⟨51, _⟩ => ⟨S4x16x16, .f32⟩
  | .hbm, ⟨52, _⟩ => ⟨S_, .f32⟩
  | .hbm, ⟨53, _⟩ => ⟨S_, .f32⟩
  | .hbm, ⟨54, _⟩ => ⟨S4x16x16, .i1⟩
  | .hbm, ⟨55, _⟩ => ⟨S4x16x16, .f32⟩
  | .hbm, ⟨56, _⟩ => ⟨S4x16x16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S1x16, .f32⟩
  | .hbm, ⟨61, _⟩ => ⟨S4x1, .f32⟩
  | .hbm, ⟨62, _⟩ => ⟨S4x16, .f32⟩
  | .hbm, ⟨63, _⟩ => ⟨S4x16, .f32⟩
  | .hbm, ⟨64, _⟩ => ⟨S4x16, .f32⟩
  | .hbm, ⟨65, _⟩ => ⟨S4x16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S1x16, .f32⟩
  | .hbm, ⟨70, _⟩ => ⟨S4x1, .f32⟩
  | .hbm, ⟨71, _⟩ => ⟨S4x16, .f32⟩
  | .hbm, ⟨72, _⟩ => ⟨S4x16, .f32⟩
  | .hbm, ⟨73, _⟩ => ⟨S4x16, .f32⟩
  | .hbm, ⟨74, _⟩ => ⟨S4x16, .f32⟩
  | .hbm, ⟨75, _⟩ => ⟨S_, .f32⟩
  | .hbm, ⟨76, _⟩ => ⟨S4, .f32⟩
  | .hbm, ⟨77, _⟩ => ⟨S4, .f32⟩
  | .hbm, ⟨78, _⟩ => ⟨S4, .f32⟩
  | .hbm, ⟨79, _⟩ => ⟨S4x16x1, .f32⟩
  | .hbm, ⟨80, _⟩ => ⟨S4x16x128, .f32⟩
  | .hbm, ⟨81, _⟩ => ⟨S4x16x1, .f32⟩
  | .hbm, ⟨82, _⟩ => ⟨S4x16x128, .f32⟩
  | .hbm, ⟨83, _⟩ => ⟨S4x1x1, .f32⟩
  | .hbm, ⟨84, _⟩ => ⟨S4x1x128, .f32⟩
  | .hbm, ⟨85, _⟩ => ⟨S32x16x512, .bf16⟩
  | .hbm, ⟨86, _⟩ => ⟨S32x4x128x128, .f32⟩
  | .local _ .vmem, ⟨0, _⟩ => ⟨S1x16x512, .bf16⟩
  | .local _ .vmem, ⟨1, _⟩ => ⟨S1x16x512, .bf16⟩
  | .local _ .vmem, ⟨2, _⟩ => ⟨S1x16x512, .bf16⟩
  | .local _ .vmem, ⟨3, _⟩ => ⟨S1x16x512, .bf16⟩
  | .local _ .vmem, ⟨4, _⟩ => ⟨S1x16x512, .bf16⟩
  | .local _ .vmem, ⟨5, _⟩ => ⟨S1x16x512, .bf16⟩
  | .local _ .vmem, ⟨6, _⟩ => ⟨S1x16x512, .bf16⟩
  | .local _ .vmem, ⟨7, _⟩ => ⟨S1x16x512, .bf16⟩
  | .local _ .vmem, ⟨8, _⟩ => ⟨S1x4x128x128, .f32⟩
  | .local _ .vmem, ⟨9, _⟩ => ⟨S1x4x128x128, .f32⟩
  | .local _ .vmem, ⟨10, _⟩ => ⟨S4x16x16, .f32⟩
  | .local _ .vmem, ⟨11, _⟩ => ⟨S4x16x128, .f32⟩
  | .local _ .vmem, ⟨12, _⟩ => ⟨S4x16x128, .f32⟩
  | .local _ .vmem, ⟨13, _⟩ => ⟨S4x1x128, .f32⟩
  | .local _ .vmem, ⟨14, _⟩ => ⟨S1x512, .f32⟩
  | .local _ .vmem, ⟨15, _⟩ => ⟨S1x16x512, .bf16⟩
  | .local _ .vmem, ⟨16, _⟩ => ⟨S1x16x512, .bf16⟩
  | .local _ .vmem, ⟨17, _⟩ => ⟨S1x4x128x128, .f32⟩
  | .local _ .vmem, ⟨18, _⟩ => ⟨S1x4x128x128, .f32⟩
  | .local _ .vmem, ⟨19, _⟩ => ⟨S4x128x128, .f32⟩
  | _, _ => ⟨S128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_call2_v0 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_call3_v0 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_call4_v0 : Ref sig .tc := ⟨.hbm, 53, rfl⟩
abbrev main_call4_v1 : Ref sig .tc := ⟨.hbm, 54, rfl⟩
abbrev main_call4_v2 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59_0 : Ref sig .tc := ⟨.hbm, 85, rfl⟩
abbrev main_v59_1 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_161 : BitVec 32 := 0#32
  let v227 : BitVec 1 := Scalar.cmpi .eq arg1 c0_i32_161
  let v228 : BitVec 32 := Scalar.extui v227
  let c0_i32_162 : BitVec 32 := 0#32
  let v229 : BitVec 1 := Scalar.cmpi .ne v228 c0_i32_162
  v229

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x16x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== RetNewRefIdeal.lean ====
abbrev S128x512 : Shape := ⟨2, ![128, 512]⟩
abbrev S32x4x128x128 : Shape := ⟨4, ![32, 4, 128, 128]⟩
abbrev S4x128 : Shape := ⟨2, ![4, 128]⟩
abbrev S4 : Shape := ⟨1, ![4]⟩
abbrev S_ : Shape := ⟨0, ![]⟩
abbrev S32x4x4x128 : Shape := ⟨4, ![32, 4, 4, 128]⟩
abbrev S4x1 : Shape := ⟨2, ![4, 1]⟩
abbrev S1x4 : Shape := ⟨2, ![1, 4]⟩
abbrev S4x4 : Shape := ⟨2, ![4, 4]⟩
abbrev S1x4x4 : Shape := ⟨3, ![1, 4, 4]⟩
abbrev S4x1x1 : Shape := ⟨3, ![4, 1, 1]⟩
abbrev S4x4x4 : Shape := ⟨3, ![4, 4, 4]⟩
abbrev S32x4x4x4 : Shape := ⟨4, ![32, 4, 4, 4]⟩
abbrev S1x4x4x4 : Shape := ⟨4, ![1, 4, 4, 4]⟩
abbrev S32x4x128x4 : Shape := ⟨4, ![32, 4, 128, 4]⟩
abbrev S1x4x4x1 : Shape := ⟨4, ![1, 4, 4, 1]⟩
abbrev S1x4x1x1 : Shape := ⟨4, ![1, 4, 1, 1]⟩
abbrev S32x4x4 : Shape := ⟨3, ![32, 4, 4]⟩
abbrev S32x4x4x1 : Shape := ⟨4, ![32, 4, 4, 1]⟩
abbrev S1x1x4x128 : Shape := ⟨4, ![1, 1, 4, 128]⟩
abbrev S32x4x512 : Shape := ⟨3, ![32, 4, 512]⟩
abbrev S32x16x512 : Shape := ⟨3, ![32, 16, 512]⟩

abbrev nBuf : Space → Nat
  | .hbm => 112
  | .vmem => 0
  | .smem => 0
  | _ => 0

abbrev bufTy : (tb : Table) → Fin (tcTables nBuf tb) → BufTy
  | .hbm, ⟨0, _⟩ => ⟨S128x512, .bf16⟩
  | .hbm, ⟨1, _⟩ => ⟨S128x512, .bf16⟩
  | .hbm, ⟨2, _⟩ => ⟨S128x512, .bf16⟩
  | .hbm, ⟨3, _⟩ => ⟨S128x512, .bf16⟩
  | .hbm, ⟨4, _⟩ => ⟨S32x4x128x128, .f32⟩
  | .hbm, ⟨5, _⟩ => ⟨S4x128, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S4, .f32⟩
  | .hbm, ⟨17, _⟩ => ⟨S128x512, .f32⟩
  | .hbm, ⟨18, _⟩ => ⟨S32x4x4x128, .f32⟩
  | .hbm, ⟨19, _⟩ => ⟨S128x512, .f32⟩
  | .hbm, ⟨20, _⟩ => ⟨S32x4x4x128, .f32⟩
  | .hbm, ⟨21, _⟩ => ⟨S128x512, .f32⟩
  | .hbm, ⟨22, _⟩ => ⟨S32x4x4x128, .f32⟩
  | .hbm, ⟨23, _⟩ => ⟨S4, .f32⟩
  | .hbm, ⟨24, _⟩ => ⟨S4x1, .f32⟩
  | .hbm, ⟨25, _⟩ => ⟨S1x4, .f32⟩
  | .hbm, ⟨26, _⟩ => ⟨S4x4, .f32⟩
  | .hbm, ⟨27, _⟩ => ⟨S4x4, .f32⟩
  | .hbm, ⟨28, _⟩ => ⟨S4x4, .f32⟩
  | .hbm, ⟨29, _⟩ => ⟨S_, .f32⟩
  | .hbm, ⟨30, _⟩ => ⟨S4x4, .f32⟩
  | .hbm, ⟨31, _⟩ => ⟨S4x4, .i1⟩
  | .hbm, ⟨32, _⟩ => ⟨S_, .f32⟩
  | .hbm, ⟨33, _⟩ => ⟨S4x4, .f32⟩
  | .hbm, ⟨34, _⟩ => ⟨S4x4, .f32⟩
  | .hbm, ⟨35, _⟩ => ⟨S1x4x4, .f32⟩
  | .hbm, ⟨36, _⟩ => ⟨S4x1x1, .f32⟩
  | .hbm, ⟨37, _⟩ => ⟨S4x4x4, .f32⟩
  | .hbm, ⟨38, _⟩ => ⟨S4x4x4, .f32⟩
  | .hbm, ⟨39, _⟩ => ⟨S4x4x4, .f32⟩
  | .hbm, ⟨40, _⟩ => ⟨S4x4x4, .f32⟩
  | .hbm, ⟨41, _⟩ => ⟨S_, .f32⟩
  | .hbm, ⟨42, _⟩ => ⟨S_, .f32⟩
  | .hbm, ⟨43, _⟩ => ⟨S4x4x4, .i1⟩
  | .hbm, ⟨44, _⟩ => ⟨S4x4x4, .f32⟩
  | .hbm, ⟨45, _⟩ => ⟨S4x4x4, .f32⟩
  | .hbm, ⟨46, _⟩ => ⟨S32x4x4x4, .f32⟩
  | .hbm, ⟨47, _⟩ => ⟨S1x4x4x4, .f32⟩
  | .hbm, ⟨48, _⟩ => ⟨S32x4x4x4, .f32⟩
  | .hbm, ⟨49, _⟩ => ⟨S32x4x4x4, .f32⟩
  | .hbm, ⟨50, _⟩ => ⟨S32x4x128x4, .f32⟩
  | .hbm, ⟨51, _⟩ => ⟨S32x4x4x128, .f32⟩
  | .hbm, ⟨52, _⟩ => ⟨S_, .f32⟩
  | .hbm, ⟨53, _⟩ => ⟨S4, .f32⟩
  | .hbm, ⟨54, _⟩ => ⟨S4, .f32⟩
  | .hbm, ⟨55, _⟩ => ⟨S4x1, .f32⟩
  | .hbm, ⟨56, _⟩ => ⟨S1x4, .f32⟩
  | .hbm, ⟨57, _⟩ => ⟨S4x4, .f32⟩
  | .hbm, ⟨58, _⟩ => ⟨S4x4, .f32⟩
  | .hbm, ⟨59, _⟩ => ⟨S4x4, .f32⟩
  | .hbm, ⟨60, _⟩ => ⟨S4x4, .f32⟩
  | .hbm, ⟨61, _⟩ => ⟨S32x4x128x4, .f32⟩
  | .hbm, ⟨62, _⟩ => ⟨S32x4x4x128, .f32⟩
  | .hbm, ⟨63, _⟩ => ⟨S1x4x4x1, .f32⟩
  | .hbm, ⟨64, _⟩ => ⟨S32x4x4x128, .f32⟩
  | .hbm, ⟨65, _⟩ => ⟨S32x4x4x128, .f32⟩
  | .hbm, ⟨66, _⟩ => ⟨S_, .f32⟩
  | .hbm, ⟨67, _⟩ => ⟨S4, .f32⟩
  | .hbm, ⟨68, _⟩ => ⟨S4, .f32⟩
  | .hbm, ⟨69, _⟩ => ⟨S4x1, .f32⟩
  | .hbm, ⟨70, _⟩ => ⟨S1x4, .f32⟩
  | .hbm, ⟨71, _⟩ => ⟨S4x4, .f32⟩
  | .hbm, ⟨72, _⟩ => ⟨S4x4, .f32⟩
  | .hbm, ⟨73, _⟩ => ⟨S4x4, .f32⟩
  | .hbm, ⟨74, _⟩ => ⟨S4x4, .f32⟩
  | .hbm, ⟨75, _⟩ => ⟨S_, .f32⟩
  | .hbm, ⟨76, _⟩ => ⟨S4, .f32⟩
  | .hbm, ⟨77, _⟩ => ⟨S4, .f32⟩
  | .hbm, ⟨78, _⟩ => ⟨S4, .f32⟩
  | .hbm, ⟨79, _⟩ => ⟨S1x4x1x1, .f32⟩
  | .hbm, ⟨80, _⟩ => ⟨S32x4x128x128, .f32⟩
  | .hbm, ⟨81, _⟩ => ⟨S32x4x128x128, .f32⟩
  | .hbm, ⟨82, _⟩ => ⟨S1x4x4x1, .f32⟩
  | .hbm, ⟨83, _⟩ => ⟨S32x4x4x128, .f32⟩
  | .hbm, ⟨84, _⟩ => ⟨S32x4x4x128, .f32⟩
  | .hbm, ⟨85, _⟩ => ⟨S32x4x128x128, .f32⟩
  | .hbm, ⟨86, _⟩ => ⟨S32x4x128x128, .f32⟩
  | .hbm, ⟨87, _⟩ => ⟨S32x4x4x128, .f32⟩
  | .hbm, ⟨88, _⟩ => ⟨S32x4x4x128, .f32⟩
  | .hbm, ⟨89, _⟩ => ⟨S_, .f32⟩
  | .hbm, ⟨90, _⟩ => ⟨S32x4x4, .f32⟩
  | .hbm, ⟨91, _⟩ => ⟨S32x4x4x1, .f32⟩
  | .hbm, ⟨92, _⟩ => ⟨S_, .f32⟩
  | .hbm, ⟨93, _⟩ => ⟨S32x4x4x1, .f32⟩
  | .hbm, ⟨94, _⟩ => ⟨S32x4x4x1, .f32⟩
  | .hbm, ⟨95, _⟩ => ⟨S_, .f32⟩
  | .hbm, ⟨96, _⟩ => ⟨S32x4x4x1, .f32⟩
  | .hbm, ⟨97, _⟩ => ⟨S32x4x4x1, .f32⟩
  | .hbm, ⟨98, _⟩ => ⟨S32x4x4x1, .f32⟩
  | .hbm, ⟨99, _⟩ => ⟨S32x4x4x128, .f32⟩
  | .hbm, ⟨100, _⟩ => ⟨S32x4x4x128, .f32⟩
  | .hbm, ⟨101, _⟩ => ⟨S1x1x4x128, .f32⟩
  | .hbm, ⟨102, _⟩ => ⟨S32x4x4x128, .f32⟩
  | .hbm, ⟨103, _⟩ => ⟨S32x4x4x128, .f32⟩
  | .hbm, ⟨104, _⟩ => ⟨S32x4x512, .f32⟩
  | .hbm, ⟨105, _⟩ => ⟨S128x512, .f32⟩
  | .hbm, ⟨106, _⟩ => ⟨S32x4x512, .f32⟩
  | .hbm, ⟨107, _⟩ => ⟨S32x4x512, .f32⟩
  | .hbm, ⟨108, _⟩ => ⟨S32x4x512, .bf16⟩
  | .hbm, ⟨109, _⟩ => ⟨S_, .i32⟩
  | .hbm, ⟨110, _⟩ => ⟨S_, .bf16⟩
  | .hbm, ⟨111, _⟩ => ⟨S32x16x512, .bf16⟩
  | _, _ => ⟨S128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_8 : Ref sig .tc := ⟨.hbm, 89, rfl⟩
abbrev main_v71 : Ref sig .tc := ⟨.hbm, 90, rfl⟩
abbrev main_v72 : Ref sig .tc := ⟨.hbm, 91, rfl⟩
abbrev main_cst_9 : Ref sig .tc := ⟨.hbm, 92, rfl⟩
abbrev main_v73 : Ref sig .tc := ⟨.hbm, 93, rfl⟩
abbrev main_v74 : Ref sig .tc := ⟨.hbm, 94, rfl⟩
abbrev main_cst_10 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_c : Ref sig .tc := ⟨.hbm, 109, rfl⟩
abbrev main_call1_v0 : Ref sig .tc := ⟨.hbm, 110, rfl⟩
abbrev main_v88 : Ref sig .tc := ⟨.hbm, 111, rfl⟩

abbrev nD : Nat := 1
abbrev τ : Topo := Topo.v7x

variable {F : FTy → Type} [FloatOps F]
-- ==== Proof.Online.lean ====
/-
  The running softmax over the extended reals. A row of scores `s`, none of them `+∞`, is taken in a block at a time:
  what is kept of the scores `S` read so far is their largest, `S.sup s`, and for a weight `w` (one, or a column of
  values) the sum `acc S s w` of `exp (s j - S.sup s) * w j`. Taking in a further block rescales that sum by
  `exp (old largest - new largest)` (`acc_union`); scores of `-∞` change nothing (`acc_of_bot`); adding one real number to
  every score changes nothing (`acc_shift`); and a sum of quotients is the quotient of the sum (`sum_div`).
-/
module

public import Idealize.ShloMosaic.PureOps.Ideal
public import Idealize.ShloMosaic.Lib.Pointwise

@[expose] public section

noncomputable section

namespace Cert.Online

open Idealize.ShloMosaic

/-- The exponential is never negative. -/
theorem exp_nonneg (x : EReal) : 0 ≤ Ideal.exp x := by
  induction x with
  | bot => simp
  | top => simp
  | coe r => simpa using (Real.exp_pos r).le

/-- The exponential is `+∞` only at `+∞`. -/
theorem exp_ne_top {x : EReal} (h : x ≠ ⊤) : Ideal.exp x ≠ ⊤ := by
  induction x with
  | bot => simp
  | top => exact absurd rfl h
  | coe r => simp

/-- A difference that rises to a number below `+∞` is not `+∞`. -/
theorem sub_ne_top {a b : EReal} (hab : a ≤ b) (hb : b ≠ ⊤) : a - b ≠ ⊤ := by
  induction a with
  | bot => simp
  | top => exact absurd (top_le_iff.mp hab) hb
  | coe r =>
    induction b with
    | bot => exact absurd hab (by simp)
    | top => exact absurd rfl hb
    | coe t => rw [← EReal.coe_sub]; exact EReal.coe_ne_top _

/-- Two factors of a weight in one: the weight below the old largest, carried to the new largest. -/
theorem exp_mul_exp {s a b : EReal} (hs : s ≤ a) (hab : a ≤ b) (hb : b ≠ ⊤) :
    Ideal.exp (a - b) * Ideal.exp (s - a) = Ideal.exp (s - b) := by
  induction s with
  | bot => simp
  | top => exact absurd (top_le_iff.mp (hs.trans hab)) hb
  | coe r =>
    induction a with
    | bot => exact absurd hs (by simp)
    | top => exact absurd (top_le_iff.mp hab) hb
    | coe t =>
      induction b with
      | bot => exact absurd hab (by simp)
      | top => exact absurd rfl hb
      | coe u =>
        rw [← EReal.coe_sub, ← EReal.coe_sub, ← EReal.coe_sub, Ideal.exp_coe, Ideal.exp_coe, Ideal.exp_coe,
          ← EReal.coe_mul, ← Real.exp_add]
        congr 2; ring

/-- A factor that is neither negative nor `+∞` goes into a sum. -/
theorem mul_sum {ι : Type*} (S : Finset ι) {x : EReal} (h0 : 0 ≤ x) (h1 : x ≠ ⊤) (f : ι → EReal) :
    x * ∑ j ∈ S, f j = ∑ j ∈ S, x * f j := by
  classical
  induction S using Finset.induction_on with
  | empty => simp
  | insert a S ha ih =>
    rw [Finset.sum_insert ha, Finset.sum_insert ha, EReal.left_distrib_of_nonneg_of_ne_top h0 h1, ih]

variable {ι : Type*} [DecidableEq ι]

/-- The weighted sum of the scores read so far, relative to the largest of them. -/
def acc (S : Finset ι) (s w : ι → EReal) : EReal := ∑ j ∈ S, Ideal.exp (s j - S.sup s) * w j

@[simp] theorem acc_empty (s w : ι → EReal) : acc (∅ : Finset ι) s w = 0 := by simp [acc]

/-- The largest of finitely many scores below `+∞` is below `+∞`. -/
theorem sup_ne_top (S : Finset ι) (s : ι → EReal) (hs : ∀ j, s j ≠ ⊤) : S.sup s ≠ ⊤ :=
  ((Finset.sup_lt_iff (by simp : (⊥ : EReal) < ⊤)).2 fun j _ => lt_top_iff_ne_top.2 (hs j)).ne

/-- ONE BLOCK: the sum so far rescaled, plus the block's own, is the sum over both. -/
theorem acc_union (S T : Finset ι) (hST : Disjoint S T) (s w : ι → EReal) (hs : ∀ j, s j ≠ ⊤) :
    acc (S ∪ T) s w = acc S s w * Ideal.exp (S.sup s - max (S.sup s) (T.sup s))
      + ∑ j ∈ T, Ideal.exp (s j - max (S.sup s) (T.sup s)) * w j := by
  have hM : (S ∪ T).sup s = max (S.sup s) (T.sup s) := Finset.sup_union
  have hMt := sup_ne_top (S ∪ T) s hs
  rw [acc, hM, Finset.sum_union hST, acc, mul_comm (Finset.sum S _)]
  rw [hM] at hMt
  rw [mul_sum S (exp_nonneg _) (exp_ne_top (sub_ne_top (le_max_left _ _) hMt))]
  congr 1
  refine Finset.sum_congr rfl fun j hj => ?_
  rw [← mul_assoc, exp_mul_exp (Finset.le_sup hj) (le_max_left _ _) hMt]

/-- Scores of `-∞` outside `S` change neither the largest … -/
theorem sup_of_bot (S T : Finset ι) (h : S ⊆ T) (s : ι → EReal) (hb : ∀ j ∈ T, j ∉ S → s j = ⊥) : T.sup s = S.sup s := by
  refine le_antisymm (Finset.sup_le fun j hj => ?_) (Finset.sup_mono h)
  by_cases hjS : j ∈ S
  · exact Finset.le_sup hjS
  · rw [hb j hj hjS]; exact bot_le

/-- … nor the sum. -/
theorem acc_of_bot (S T : Finset ι) (h : S ⊆ T) (s w : ι → EReal) (hb : ∀ j ∈ T, j ∉ S → s j = ⊥) :
    acc T s w = acc S s w := by
  rw [acc, acc, sup_of_bot S T h s hb]
  refine (Finset.sum_subset h fun j hj hjS => ?_).symm
  rw [hb j hj hjS]; simp

/-- A real number added to every score is added to the largest … -/
theorem sup_shift (S : Finset ι) (s : ι → EReal) (c : ℝ) : S.sup (fun j => s j + c) = S.sup s + c := by
  induction S using Finset.induction_on with
  | empty => simp
  | insert a S ha ih =>
    rw [Finset.sup_insert, Finset.sup_insert, ih]
    exact (Monotone.map_max (f := fun x : EReal => x + c) fun x y h => add_le_add_left h _).symm

/-- … and cancels in the difference. -/
theorem shift_sub (a b : EReal) (c : ℝ) (hb : b ≠ ⊥) (hb' : b ≠ ⊤) : (a + c) - (b + c) = a - b := by
  lift b to ℝ using ⟨hb', hb⟩
  induction a with
  | bot => simp
  | top => rw [EReal.top_add_coe, ← EReal.coe_add, EReal.top_sub_coe, EReal.top_sub_coe]
  | coe r => norm_cast; ring

/-- A quotient by a real number other than zero is a product with a real number. -/
theorem sum_div (S : Finset ι) (p v : ι → EReal) (L : ℝ) (hL : 0 < L) :
    ∑ j ∈ S, v j * Ideal.div (p j) (L : EReal) = Ideal.div (∑ j ∈ S, p j * v j) (L : EReal) := by
  rw [Ideal.div_coe hL.ne', mul_comm, mul_sum S (by positivity) (EReal.coe_ne_top _)]
  refine Finset.sum_congr rfl fun j _ => ?_
  rw [Ideal.div_coe hL.ne', mul_comm (v j), mul_comm (p j), mul_assoc]

/-- The weights of a row that holds at least one real score, and none of `+∞`, sum to a positive real number. -/
theorem acc_one_real (S : Finset ι) (s : ι → EReal) (hs : ∀ j, s j ≠ ⊤) (j0 : ι) (h0 : j0 ∈ S) (hb : s j0 ≠ ⊥) :
    ∃ L : ℝ, 0 < L ∧ ∑ j ∈ S, Ideal.exp (s j - S.sup s) = (L : EReal) := by
  have hMt := sup_ne_top S s hs
  have hle : s j0 ≤ S.sup s := Finset.le_sup h0
  have hMb : S.sup s ≠ ⊥ := fun h => hb (le_bot_iff.mp (h ▸ hle))
  have hreal : ∀ j ∈ S, Ideal.exp (s j - S.sup s) ≠ ⊤ := fun j hj => exp_ne_top (sub_ne_top (Finset.le_sup hj) hMt)
  have hpos : 0 < Ideal.exp (s j0 - S.sup s) := by
    lift s j0 to ℝ using ⟨hs j0, hb⟩ with r hr
    lift S.sup s to ℝ using ⟨hMt, hMb⟩ with M hM
    rw [← EReal.coe_sub, Ideal.exp_coe]; exact_mod_cast Real.exp_pos _
  have hsum : ∀ T : Finset ι, T ⊆ S → ∑ j ∈ T, Ideal.exp (s j - S.sup s) ≠ ⊤ := fun T => by
    induction T using Finset.induction_on with
    | empty => simp
    | insert a T ha ih =>
      intro hT
      rw [Finset.sum_insert ha]
      exact EReal.add_ne_top (hreal a (hT (Finset.mem_insert_self a T)))
        (ih fun x hx => hT (Finset.mem_insert_of_mem hx))
  have hge : 0 < ∑ j ∈ S, Ideal.exp (s j - S.sup s) :=
    lt_of_lt_of_le hpos (Finset.single_le_sum (f := fun j => Ideal.exp (s j - S.sup s)) (fun j _ => exp_nonneg _) h0)
  generalize hX : ∑ j ∈ S, Ideal.exp (s j - S.sup s) = X at hge
  have hXt : X ≠ ⊤ := hX ▸ hsum S (Finset.Subset.refl S)
  lift X to ℝ using ⟨hXt, (EReal.bot_lt_zero.trans hge).ne'⟩
  exact ⟨X, by exact_mod_cast hge, rfl⟩

end Cert.Online

end
-- ==== Proof.Consts.lean ====
/-
  The bit patterns of the two infinities, and the named mask, as extended reals.
-/
module

public import proofs.«01_k».proof.Proof.Gen.AttnIdeal.Skeleton
public import Idealize.ShloMosaic.PureOps.IdealRules

@[expose] public section

noncomputable section

namespace Cert.Consts

open Idealize.ShloMosaic

theorem neg_inf : Ideal.ofBits .f32 0xFF800000#32 = (⊥ : EReal) := by simp [Ideal.ofBits, Ideal.ieee]

theorem pos_inf : Ideal.ofBits .f32 0x7F800000#32 = (⊤ : EReal) := by simp [Ideal.ofBits, Ideal.ieee]

theorem mask : (Named.named Cert.AttnIdeal.κ "mask" 0xF149F2CA#32 : Ideal .f32) = (⊥ : EReal) :=
  IdealRules.named_const.ideal_named_scalar _ _ _ _ rfl

end Cert.Consts

end
-- ==== Proof.Block.lean ====
/-
  One block of keys. `mNew`, `alpha`, `weights`, `lNew`, `aNew` are what the kernel's body makes of a block of scores `s`
  and the running maximum, sum and product it finds: the names the printed payloads are compared with, and each read at an
  index.
-/
module

public import proofs.«01_k».proof.Proof.Online
public import proofs.«01_k».proof.Proof.Consts
public import proofs.«01_k».proof.Proof.Gen.AttnIdeal.Skeleton
public import Idealize.ShloMosaic.Lib.Pipeline.ValueKit

@[expose] public section

set_option maxRecDepth 16384

noncomputable section

namespace Cert.AttnIdeal.Block

open Cert Cert.AttnIdeal Cert.AttnIdeal.Gen Idealize.ShloMosaic Idealize.ShloMosaic.TcCoe Idealize.SL.Sem

/-- The running maximum after the block. -/
def mNew (s : FVec Ideal S256x256 .f32) (m : FVec Ideal S1x256x1 .f32) : FVec Ideal S256x1 .f32 :=
  maximumf (shapeCast S256x1 m shapeCasts_S1x256x1_S256x1)
    (shapeCast S256x1 (multiReduction .maximumf [1] S256 s 0xFF800000#32 reduces_S256x256_S256 (.inl rfl) rfl)
      shapeCasts_S256_S256x1)

/-- The factor by which what was summed before is rescaled. -/
def alpha (s : FVec Ideal S256x256 .f32) (m : FVec Ideal S1x256x1 .f32) : FVec Ideal S256x1 .f32 :=
  exp (subf (shapeCast S256x1 m shapeCasts_S1x256x1_S256x1) (mNew s m))

/-- The block's weights. -/
def weights (s : FVec Ideal S256x256 .f32) (m : FVec Ideal S1x256x1 .f32) : FVec Ideal S256x256 .f32 :=
  exp (subf s (broadcastTo S256x256 (mNew s m) broadcasts_S256x1_S256x256))

/-- The running sum after the block. -/
def lNew (s : FVec Ideal S256x256 .f32) (m l : FVec Ideal S1x256x1 .f32) : FVec Ideal S1x256x1 .f32 :=
  shapeCast S1x256x1 (addf (mulf (alpha s m) (shapeCast S256x1 l shapeCasts_S1x256x1_S256x1))
    (shapeCast S256x1 (multiReduction .add [1] S256 (weights s m) 0x00000000#32 reduces_S256x256_S256 (.inl rfl) rfl)
      shapeCasts_S256_S256x1)) shapeCasts_S256x1_S1x256x1

/-- The block's weights times its values. -/
def prod (s : FVec Ideal S256x256 .f32) (m : FVec Ideal S1x256x1 .f32) (vb : FVec Ideal S256x128 .bf16) : FVec Ideal S256x128 .f32 :=
  matmul dot_S256x256_S256x128_S256x128_1_0_0_1_n_n none (truncf .bf16 (weights s m) bitsLt_bf16_f32) vb
    (constant S256x128 .f32 0x00000000#32)

/-- The running product after the block: the first 64 lanes belong to the first head, the others to the second. -/
def aNew (s0 s1 : FVec Ideal S256x256 .f32) (m0 m1 : FVec Ideal S1x256x1 .f32) (vb : FVec Ideal S256x128 .bf16)
    (a : FVec Ideal S256x128 .f32) : FVec Ideal S256x128 .f32 :=
  shapeCast S256x128 (addf (mulf a
      (select k0_pay41
        (broadcastTo S256x128 (shapeCast S256x1 (alpha s0 m0) shapeCasts_S256x1_S256x1) broadcasts_S256x1_S256x128)
        (broadcastTo S256x128 (shapeCast S256x1 (alpha s1 m1) shapeCasts_S256x1_S256x1) broadcasts_S256x1_S256x128)))
    (select k0_pay41 (prod s0 m0 vb) (prod s1 m1 vb))) shapeCasts_S256x128_S256x128

/-! ## Read at an index -/

/-- A comparison of lanes, as a choice. -/
theorem first_lane (r : Fin 256) (l : Fin 128) : k0_pay41 (ix2 r l) = if l.val < 64 then 1#1 else 0#1 := by
  pointwise [k0_pay41]
  revert l; decide +kernel

/-- The largest of a row, folded from `-∞`. -/
theorem fold_max (f : Fin 256 → EReal) : Finset.univ.fold max ⊥ f = Finset.univ.sup f := rfl

theorem mNew_at (s : FVec Ideal S256x256 .f32) (m : FVec Ideal S1x256x1 .f32) (r : Fin 256) :
    mNew s m (ix2 r 0) = max (m (ix3 0 r 0)) (Finset.univ.sup fun j : Fin 256 => s (ix2 r j)) := by
  pointwise [mNew]
  rw [Consts.neg_inf]
  rfl

theorem alpha_at (s : FVec Ideal S256x256 .f32) (m : FVec Ideal S1x256x1 .f32) (r : Fin 256) :
    alpha s m (ix2 r 0) = Ideal.exp (m (ix3 0 r 0) - mNew s m (ix2 r 0)) := by
  pointwise [alpha]

theorem weights_at (s : FVec Ideal S256x256 .f32) (m : FVec Ideal S1x256x1 .f32) (r j : Fin 256) :
    weights s m (ix2 r j) = Ideal.exp (s (ix2 r j) - mNew s m (ix2 r 0)) := by
  pointwise [weights]

theorem lNew_at (s : FVec Ideal S256x256 .f32) (m l : FVec Ideal S1x256x1 .f32) (r : Fin 256) :
    lNew s m l (ix3 0 r 0) = alpha s m (ix2 r 0) * l (ix3 0 r 0)
      + ∑ j : Fin 256, weights s m (ix2 r j) := by
  pointwise [lNew]

theorem prod_at (s : FVec Ideal S256x256 .f32) (m : FVec Ideal S1x256x1 .f32) (vb : FVec Ideal S256x128 .bf16)
    (r : Fin 256) (l : Fin 128) :
    prod s m vb (ix2 r l) = ∑ j : Fin 256, weights s m (ix2 r j) * vb (ix2 j l) := by
  pointwise [prod]

theorem aNew_at (s0 s1 : FVec Ideal S256x256 .f32) (m0 m1 : FVec Ideal S1x256x1 .f32) (vb : FVec Ideal S256x128 .bf16)
    (a : FVec Ideal S256x128 .f32) (r : Fin 256) (l : Fin 128) :
    aNew s0 s1 m0 m1 vb a (ix2 r l) = a (ix2 r l) *
        (if l.val < 64 then alpha s0 m0 (ix2 r 0) else alpha s1 m1 (ix2 r 0))
      + (if l.val < 64 then prod s0 m0 vb (ix2 r l) else prod s1 m1 vb (ix2 r l)) := by
  pointwise [aNew, first_lane]
  by_cases h : l.val < 64
  · simp [h, Scalar.select]
  · simp [h, Scalar.select]

/-- A block's scores: queries against keys, less the keys' running sums. -/
theorem score_at (q kb : FVec Ideal S256x128 .bf16) (ck : FVec Ideal S1x256 .f32) (r j : Fin 256) :
    k0_pay3 (F := Ideal) q kb ck (ix2 r j)
      = (∑ l : Fin 128, q (ix2 r l) * kb (ix2 j l)) - ck (ix2 0 j) := by
  pointwise [k0_pay3]

/-- The queries of the first head … -/
theorem q0_at (q : FVec Ideal S256x128 .bf16) (r : Fin 256) (l : Fin 128) :
    k0_pay43 (F := Ideal) q (ix2 r l) = if l.val < 64 then q (ix2 r l) else (0 : EReal) := by
  pointwise [k0_pay43, k0_pay42, first_lane]
  by_cases h : l.val < 64 <;> simp [h, Scalar.select]

/-- … and of the second. -/
theorem q1_at (q : FVec Ideal S256x128 .bf16) (r : Fin 256) (l : Fin 128) :
    k0_pay44 (F := Ideal) q (ix2 r l) = if l.val < 64 then (0 : EReal) else q (ix2 r l) := by
  pointwise [k0_pay44, k0_pay42, first_lane]
  by_cases h : l.val < 64 <;> simp [h, Scalar.select]

end Cert.AttnIdeal.Block

end
-- ==== Proof.Trip.lean ====
/-
  One trip of the loop over the unmasked blocks: the pieces it writes are the ones of `Block`, made of the block of keys,
  values and running sums it loads and of what it finds in the three accumulators.
-/
module

public import proofs.«01_k».proof.Proof.Block
public import proofs.«01_k».proof.Proof.Gen.AttnIdeal.Value

@[expose] public section

set_option maxRecDepth 16384

noncomputable section

namespace Cert.AttnIdeal.Trip

open Cert Cert.AttnIdeal Cert.AttnIdeal.Gen Cert.AttnIdeal.Block Idealize.ShloMosaic Idealize.ShloMosaic.TcCoe Idealize.SL.Sem

/-- What is found in an accumulator of two columns, for the first head … -/
def col0 (w : Memref sig .tc .vmem S2x256x1 .f32) (f : BufTy.Contents (Elt Ideal) w.view.ty) : FVec Ideal S1x256x1 .f32 :=
  w.view.readAt (Elt Ideal) (Rect.unit (s := S2x256x1) ![0, 0, 0] S1x256x1.size inb_S2x256x1_S1x256x1_0_0_0).toLoadRect f

/-- … and for the second. -/
def col1 (w : Memref sig .tc .vmem S2x256x1 .f32) (f : BufTy.Contents (Elt Ideal) w.view.ty) : FVec Ideal S1x256x1 .f32 :=
  w.view.readAt (Elt Ideal) (Rect.unit (s := S2x256x1) ![1, 0, 0] S1x256x1.size inb_S2x256x1_S1x256x1_1_0_0).toLoadRect f

/-- What is found in the accumulator of the products. -/
def mat (w : Memref sig .tc .vmem S256x128 .f32) (f : BufTy.Contents (Elt Ideal) w.view.ty) : FVec Ideal S256x128 .f32 :=
  w.view.readAt (Elt Ideal) (Rect.unit (s := S256x128) ![0, 0] S256x128.size inb_S256x128_S256x128_0_0).toLoadRect f

/-- Two columns, newest first. -/
def cols (w0 w1 : FVec Ideal S1x256x1 .f32) : List (View.Piece (Elt Ideal) S2x256x1 .f32) :=
  [⟨Rect.unit ![1, 0, 0] S1x256x1.size inb_S2x256x1_S1x256x1_1_0_0, w1⟩,
   ⟨Rect.unit ![0, 0, 0] S1x256x1.size inb_S2x256x1_S1x256x1_0_0_0, w0⟩]

/-- A whole matrix. -/
def whole (w : FVec Ideal S256x128 .f32) : List (View.Piece (Elt Ideal) S256x128 .f32) :=
  [⟨Rect.unit ![0, 0] S256x128.size inb_S256x128_S256x128_0_0, w⟩]

/-- The three accumulators' pieces for a block of scores `s0`, `s1` and values `vb`, from what was found. -/
def step (s0 s1 : FVec Ideal S256x256 .f32) (vb : FVec Ideal S256x128 .bf16)
    (m0 m1 l0 l1 : FVec Ideal S1x256x1 .f32) (a : FVec Ideal S256x128 .f32) :
    List (View.Piece (Elt Ideal) S2x256x1 .f32) × List (View.Piece (Elt Ideal) S2x256x1 .f32) ×
      List (View.Piece (Elt Ideal) S256x128 .f32) :=
  (cols (shapeCast S1x256x1 (mNew s0 m0) shapeCasts_S256x1_S1x256x1) (shapeCast S1x256x1 (mNew s1 m1) shapeCasts_S256x1_S1x256x1),
   cols (lNew s0 m0 l0) (lNew s1 m1 l1), whole (aNew s0 s1 m0 m1 vb a))

variable (𝒱 : Variants) (c : Dev nD) (bd : Option 𝒱.V) (i : grid0.Coords)
  (arg3 : Memref sig .tc .vmem S256x128 .bf16) (harg3 : arg3.IsWhole)
  (arg4 : Memref sig .tc .vmem S4096x128 .bf16) (harg4 : arg4.IsWhole)
  (arg5 : Memref sig .tc .vmem S4096x128 .bf16) (harg5 : arg5.IsWhole)
  (arg6 : Memref sig .tc .vmem S8x4096 .f32) (harg6 : arg6.IsWhole)
  (arg7 : Memref sig .tc .vmem S256x128 .bf16) (harg7 : arg7.IsWhole)
  (arg8 : Memref sig .tc .vmem S256x128 .bf16) (harg8 : arg8.IsWhole)
  (arg9 : Memref sig .tc .vmem S2x256x1 .f32) (harg9 : arg9.IsWhole)
  (arg10 : Memref sig .tc .vmem S2x256x1 .f32) (harg10 : arg10.IsWhole)
  (arg11 : Memref sig .tc .vmem S256x128 .f32) (harg11 : arg11.IsWhole)
  (arg1 : BitVec 32) (v3 : FVec Ideal S256x128 .bf16)
  (X4 : BufTy.Contents (Elt Ideal) arg4.view.ty) (X5 : BufTy.Contents (Elt Ideal) arg5.view.ty)
  (X6 : BufTy.Contents (Elt Ideal) arg6.view.ty) (k : Fin (k0_t1_loop i).trips)
  (f9 : BufTy.Contents (Elt Ideal) arg9.view.ty) (f10 : BufTy.Contents (Elt Ideal) arg10.view.ty)
  (f11 : BufTy.Contents (Elt Ideal) arg11.view.ty)

/-- The keys of block `k` (the values likewise). -/
def rows (w : Memref sig .tc .vmem S4096x128 .bf16) (X : BufTy.Contents (Elt Ideal) w.view.ty)
    (i : grid0.Coords) (k : Fin (k0_t1_loop i).trips) : FVec Ideal S256x128 .bf16 :=
  w.view.readAt (Elt Ideal) (Rect.unit (s := S4096x128) (k0_off1 i k) S256x128.size (k0_off1_inb i k)).toLoadRect X

/-- The running sums of block `k`, of the first head … -/
def sums0 (w : Memref sig .tc .vmem S8x4096 .f32) (X : BufTy.Contents (Elt Ideal) w.view.ty)
    (i : grid0.Coords) (k : Fin (k0_t1_loop i).trips) : FVec Ideal S1x256 .f32 :=
  w.view.readAt (Elt Ideal) (Rect.unit (s := S8x4096) (k0_off2 i k 0#32) S1x256.size (k0_off2_inb i k 0)).toLoadRect X

/-- … and of the second. -/
def sums1 (w : Memref sig .tc .vmem S8x4096 .f32) (X : BufTy.Contents (Elt Ideal) w.view.ty)
    (i : grid0.Coords) (k : Fin (k0_t1_loop i).trips) : FVec Ideal S1x256 .f32 :=
  w.view.readAt (Elt Ideal) (Rect.unit (s := S8x4096) (k0_off2 i k 1#32) S1x256.size (k0_off2_inb i k 1)).toLoadRect X

theorem trip_pieces :
    tripL_k0_t1 (F := Ideal) 𝒱 c bd i arg3 harg3 arg4 harg4 arg5 harg5 arg6 harg6 arg7 harg7 arg8 harg8 arg9 harg9 arg10 harg10 arg11 harg11 arg1 v3 X4 X5 X6 k f9 f10 f11
      = step (k0_pay3 (F := Ideal) (k0_pay43 (F := Ideal) v3) (rows arg4 X4 i k) (sums0 arg6 X6 i k))
          (k0_pay3 (F := Ideal) (k0_pay44 (F := Ideal) v3) (rows arg4 X4 i k) (sums1 arg6 X6 i k)) (rows arg5 X5 i k)
          (col0 arg9 f9) (col1 arg9 f9) (col0 arg10 f10) (col1 arg10 f10) (mat arg11 f11) := by
  unfold tripL_k0_t1 trip_k0_t1
  simp only []
  refine congrArg₂ Prod.mk (congrArg₂ List.cons (congrArg (Sigma.mk _) ?_) (congrArg₂ List.cons (congrArg (Sigma.mk _) ?_) rfl))
    (congrArg₂ Prod.mk (congrArg₂ List.cons (congrArg (Sigma.mk _) ?_) (congrArg₂ List.cons (congrArg (Sigma.mk _) ?_) rfl))
      (congrArg₂ List.cons (congrArg (Sigma.mk _) ?_) rfl))
  · rfl
  · rfl
  · rfl
  · rfl
  · rfl

end Cert.AttnIdeal.Trip

end
-- ==== Proof.State.lean ====
/-
  What the accumulators hold once the keys of a set `S` have been taken in: the largest score, the sum of the weights and
  the weighted sum of the values, all relative to that largest score; and that one more block of keys keeps it so.
-/
module

public import proofs.«01_k».proof.Proof.Trip
public import Idealize.ShloMosaic.Lib.WritesUnit

@[expose] public section

set_option maxRecDepth 16384

noncomputable section

namespace Cert.AttnIdeal.State

open Cert Cert.Online Cert.AttnIdeal Cert.AttnIdeal.Gen Cert.AttnIdeal.Block Cert.AttnIdeal.Trip Idealize.ShloMosaic
  Idealize.ShloMosaic.TcCoe Idealize.SL.Sem

/-- The head of the pair that a lane belongs to. -/
def half (l : Fin 128) : Fin 2 := if l.val < 64 then 0 else 1

/-- `s h r j`: the score of row `r` against key `j` for head `h`; `v j l`: the values. -/
structure Holds (S : Finset (Fin 4096)) (s : Fin 2 → Fin 256 → Fin 4096 → EReal) (v : Fin 4096 → Fin 128 → EReal)
    (m0 m1 l0 l1 : FVec Ideal S1x256x1 .f32) (a : FVec Ideal S256x128 .f32) : Prop where
  m0 : ∀ r, m0 (ix3 0 r 0) = S.sup (s 0 r)
  m1 : ∀ r, m1 (ix3 0 r 0) = S.sup (s 1 r)
  l0 : ∀ r, l0 (ix3 0 r 0) = acc S (s 0 r) fun _ => 1
  l1 : ∀ r, l1 (ix3 0 r 0) = acc S (s 1 r) fun _ => 1
  a : ∀ r l, a (ix2 r l) = acc S (s (half l) r) fun j => v j l

section step

variable {S : Finset (Fin 4096)} {s : Fin 2 → Fin 256 → Fin 4096 → EReal} {v : Fin 4096 → Fin 128 → EReal}
  (e : Fin 256 ↪ Fin 4096) (hS : Disjoint S (Finset.univ.map e))
include hS

theorem max_step (sb : FVec Ideal S256x256 .f32) (m : FVec Ideal S1x256x1 .f32) (r : Fin 256) (σ : Fin 4096 → EReal)
    (hs : ∀ j, sb (ix2 r j) = σ (e j)) (hm : m (ix3 0 r 0) = S.sup σ) :
    mNew sb m (ix2 r 0) = max (S.sup σ) ((Finset.univ.map e).sup σ) := by
  rw [mNew_at, hm, Finset.sup_map]
  congr 2
  funext j
  exact hs j

theorem acc_step (sb : FVec Ideal S256x256 .f32) (m : FVec Ideal S1x256x1 .f32) (r : Fin 256) (σ w : Fin 4096 → EReal)
    (hs : ∀ j, sb (ix2 r j) = σ (e j)) (hm : m (ix3 0 r 0) = S.sup σ) (ht : ∀ j, σ j ≠ ⊤) :
    acc (S ∪ Finset.univ.map e) σ w
      = acc S σ w * alpha sb m (ix2 r 0) + ∑ j, weights sb m (ix2 r j) * w (e j) := by
  rw [acc_union S _ hS σ w ht, alpha_at, max_step e hS sb m r σ hs hm, hm, Finset.sum_map]
  congr 1
  refine Finset.sum_congr rfl fun j _ => ?_
  rw [weights_at, max_step e hS sb m r σ hs hm, hs]

theorem holds_step (ht : ∀ h r j, s h r j ≠ ⊤)
    {m0 m1 l0 l1 : FVec Ideal S1x256x1 .f32} {a : FVec Ideal S256x128 .f32} (H : Holds S s v m0 m1 l0 l1 a)
    (s0 s1 : FVec Ideal S256x256 .f32) (vb : FVec Ideal S256x128 .bf16)
    (h0 : ∀ r j, s0 (ix2 r j) = s 0 r (e j)) (h1 : ∀ r j, s1 (ix2 r j) = s 1 r (e j))
    (hv : ∀ j l, vb (ix2 j l) = v (e j) l) :
    Holds (S ∪ Finset.univ.map e) s v
      (shapeCast S1x256x1 (mNew s0 m0) shapeCasts_S256x1_S1x256x1) (shapeCast S1x256x1 (mNew s1 m1) shapeCasts_S256x1_S1x256x1)
      (lNew s0 m0 l0) (lNew s1 m1 l1) (aNew s0 s1 m0 m1 vb a) where
  m0 r := by
    rw [Finset.sup_union, ← max_step e hS s0 m0 r (s 0 r) (h0 r) (H.m0 r)]
    pointwise []
  m1 r := by
    rw [Finset.sup_union, ← max_step e hS s1 m1 r (s 1 r) (h1 r) (H.m1 r)]
    pointwise []
  l0 r := by
    rw [acc_step e hS s0 m0 r (s 0 r) _ (h0 r) (H.m0 r) (ht 0 r), lNew_at, H.l0 r, mul_comm]
    simp only [mul_one]
  l1 r := by
    rw [acc_step e hS s1 m1 r (s 1 r) _ (h1 r) (H.m1 r) (ht 1 r), lNew_at, H.l1 r, mul_comm]
    simp only [mul_one]
  a r l := by
    rw [aNew_at, H.a r l]
    by_cases h : l.val < 64
    · have hh : half l = 0 := if_pos h
      rw [hh, if_pos h, if_pos h, acc_step e hS s0 m0 r (s 0 r) _ (h0 r) (H.m0 r) (ht 0 r), prod_at]
      simp only [hv]
    · have hh : half l = 1 := if_neg h
      rw [hh, if_neg h, if_neg h, acc_step e hS s1 m1 r (s 1 r) _ (h1 r) (H.m1 r) (ht 1 r), prod_at]
      simp only [hv]

end step

/-! ## The accumulators after a block's pieces -/

section writes

variable (w : Memref sig .tc .vmem S2x256x1 .f32) (f : BufTy.Contents (Elt Ideal) w.view.ty) (u : FVec Ideal S1x256x1 .f32)
  (L : List (View.Piece (Elt Ideal) S2x256x1 .f32))

/-- A store to the first column, or to the second. -/
def piece0 : View.Piece (Elt Ideal) S2x256x1 .f32 :=
  ⟨Rect.unit ![0, 0, 0] S1x256x1.size inb_S2x256x1_S1x256x1_0_0_0, u⟩

@[inherit_doc piece0] def piece1 : View.Piece (Elt Ideal) S2x256x1 .f32 :=
  ⟨Rect.unit ![1, 0, 0] S1x256x1.size inb_S2x256x1_S1x256x1_1_0_0, u⟩

theorem col1_piece1 : col1 w (w.view.writes (Elt Ideal) f (piece1 u :: L)) = u := by
  funext x
  refine View.read_writes_cons_unit_of_mem w.view f _ u L _ x rfl fun a => ?_
  show _ + 1 * (x a).val = _
  rw [one_mul]
  rfl

theorem col0_piece0 : col0 w (w.view.writes (Elt Ideal) f (piece0 u :: L)) = u := by
  funext x
  refine View.read_writes_cons_unit_of_mem w.view f _ u L _ x rfl fun a => ?_
  show _ + 1 * (x a).val = _
  rw [one_mul]
  rfl

theorem col0_piece1 : col0 w (w.view.writes (Elt Ideal) f (piece1 u :: L)) = col0 w (w.view.writes (Elt Ideal) f L) := by
  funext x
  refine View.read_writes_cons_unit_of_not_mem w.view f _ u L _ rfl 0 (.inl ?_)
  show 0 + 1 * (x 0).val < 1
  have : (x 0).val < 1 := (x 0).isLt
  omega

theorem col1_piece0 : col1 w (w.view.writes (Elt Ideal) f (piece0 u :: L)) = col1 w (w.view.writes (Elt Ideal) f L) := by
  funext x
  refine View.read_writes_cons_unit_of_not_mem w.view f _ u L _ rfl 0 (.inr ?_)
  show 0 + 1 ≤ 1 + 1 * (x 0).val
  omega

theorem mat_whole (w : Memref sig .tc .vmem S256x128 .f32) (f : BufTy.Contents (Elt Ideal) w.view.ty)
    (a : FVec Ideal S256x128 .f32) (L : List (View.Piece (Elt Ideal) S256x128 .f32)) :
    mat w (w.view.writes (Elt Ideal) f (whole a ++ L)) = a := by
  funext x
  refine View.read_writes_cons_unit_of_mem w.view f _ a L _ x rfl fun b => ?_
  show _ + 1 * (x b).val = _
  rw [one_mul]
  rfl

/-- The accumulators' state, of the memory. -/
def At (S : Finset (Fin 4096)) (s : Fin 2 → Fin 256 → Fin 4096 → EReal) (v : Fin 4096 → Fin 128 → EReal)
    (w9 : Memref sig .tc .vmem S2x256x1 .f32) (f9 : BufTy.Contents (Elt Ideal) w9.view.ty)
    (w10 : Memref sig .tc .vmem S2x256x1 .f32) (f10 : BufTy.Contents (Elt Ideal) w10.view.ty)
    (w11 : Memref sig .tc .vmem S256x128 .f32) (f11 : BufTy.Contents (Elt Ideal) w11.view.ty) : Prop :=
  Holds S s v (col0 w9 f9) (col1 w9 f9) (col0 w10 f10) (col1 w10 f10) (mat w11 f11)

/-- A block's pieces take the state from the keys before it to those with it. -/
theorem at_step {S : Finset (Fin 4096)} {s : Fin 2 → Fin 256 → Fin 4096 → EReal} {v : Fin 4096 → Fin 128 → EReal}
    (e : Fin 256 ↪ Fin 4096) (hS : Disjoint S (Finset.univ.map e)) (ht : ∀ h r j, s h r j ≠ ⊤)
    {w9 : Memref sig .tc .vmem S2x256x1 .f32} {f9 : BufTy.Contents (Elt Ideal) w9.view.ty}
    {w10 : Memref sig .tc .vmem S2x256x1 .f32} {f10 : BufTy.Contents (Elt Ideal) w10.view.ty}
    {w11 : Memref sig .tc .vmem S256x128 .f32} {f11 : BufTy.Contents (Elt Ideal) w11.view.ty}
    (H : At S s v w9 f9 w10 f10 w11 f11)
    (s0 s1 : FVec Ideal S256x256 .f32) (vb : FVec Ideal S256x128 .bf16)
    (h0 : ∀ r j, s0 (ix2 r j) = s 0 r (e j)) (h1 : ∀ r j, s1 (ix2 r j) = s 1 r (e j))
    (hv : ∀ j l, vb (ix2 j l) = v (e j) l) {L}
    (hL : L = step s0 s1 vb (col0 w9 f9) (col1 w9 f9) (col0 w10 f10) (col1 w10 f10) (mat w11 f11)) :
    At (S ∪ Finset.univ.map e) s v w9 (w9.view.writes (Elt Ideal) f9 L.1) w10 (w10.view.writes (Elt Ideal) f10 L.2.1)
      w11 (w11.view.writes (Elt Ideal) f11 L.2.2) := by
  have key := holds_step e hS ht H s0 s1 vb h0 h1 hv
  subst hL
  unfold At
  convert key using 1
  · exact (col0_piece1 w9 f9 _ [piece0 _]).trans (col0_piece0 w9 f9 _ [])
  · exact col1_piece1 w9 f9 _ _
  · exact (col0_piece1 w10 f10 _ [piece0 _]).trans (col0_piece0 w10 f10 _ [])
  · exact col1_piece1 w10 f10 _ _
  · exact mat_whole w11 f11 _ []

end writes

end Cert.AttnIdeal.State

end
-- ==== Proof.Body.lean ====
/-
  The whole body: the accumulators are set, the loop takes in the unmasked blocks, one masked block follows, and what is
  written out is the products over the sums, times the gate.
-/
module

public import proofs.«01_k».proof.Proof.State

@[expose] public section

set_option maxRecDepth 16384

noncomputable section

namespace Cert.AttnIdeal.Body

open Cert Cert.AttnIdeal Cert.AttnIdeal.Gen Cert.AttnIdeal.Block Cert.AttnIdeal.Trip Cert.AttnIdeal.State
  Idealize.ShloMosaic Idealize.ShloMosaic.TcCoe Idealize.SL.Sem

/-- The masked block's scores: a row keeps the columns up to its own. -/
def masked (q kb : FVec Ideal S256x128 .bf16) (ck : FVec Ideal S1x256 .f32) : FVec Ideal S256x256 .f32 :=
  k0_pay52 (F := Ideal) q (iota .tc S256x256 32 [0] iota_S256x256_d0_w32) (iota .tc S256x256 32 [1] iota_S256x256_d1_w32) k0_pay50 kb ck

variable (c : Dev nD) (i : grid0.Coords)
  (arg3 : Memref sig .tc .vmem S256x128 .bf16) (harg3 : arg3.IsWhole)
  (arg4 : Memref sig .tc .vmem S4096x128 .bf16) (harg4 : arg4.IsWhole)
  (arg5 : Memref sig .tc .vmem S4096x128 .bf16) (harg5 : arg5.IsWhole)
  (arg6 : Memref sig .tc .vmem S8x4096 .f32) (harg6 : arg6.IsWhole)
  (arg7 : Memref sig .tc .vmem S256x128 .bf16) (harg7 : arg7.IsWhole)
  (arg8 : Memref sig .tc .vmem S256x128 .bf16) (harg8 : arg8.IsWhole)
  (arg9 : Memref sig .tc .vmem S2x256x1 .f32) (harg9 : arg9.IsWhole)
  (arg10 : Memref sig .tc .vmem S2x256x1 .f32) (harg10 : arg10.IsWhole)
  (arg11 : Memref sig .tc .vmem S256x128 .f32) (harg11 : arg11.IsWhole)
  (x0 : FVec Ideal S256x128 .bf16) (x1 x2 : FVec Ideal S4096x128 .bf16) (x3 : FVec Ideal S8x4096 .f32)
  (x4 : FVec Ideal S256x128 .bf16)

/-- The block's queries. -/
def queries : FVec Ideal S256x128 .bf16 :=
  arg3.view.readAt (Elt Ideal) (Rect.unit (s := S256x128) ![0, 0] S256x128.size inb_S256x128_S256x128_0_0).toLoadRect (harg3.unread x0)

/-- The pieces the loop's trips before `n` leave. -/
def looped (n : ℕ) :=
  pb_k0_t1 (F := Ideal) Variants.none c none i arg3 harg3 arg4 harg4 arg5 harg5 arg6 harg6 arg7 harg7 arg8 harg8 arg9 harg9 arg10 harg10 arg11 harg11 (BitVec.ofNat 32 (i 1).val) (queries arg3 harg3 x0)
    (harg4.unread x1) (harg5.unread x2) (harg6.unread x3)
    (arg9.view.writes (Elt Ideal) arg9.view.junk [⟨Rect.unit ![0, 0, 0] S2x256x1.size inb_S2x256x1_S2x256x1_0_0_0, k0_pay45 (F := Ideal)⟩])
    (arg10.view.writes (Elt Ideal) arg10.view.junk [⟨Rect.unit ![0, 0, 0] S2x256x1.size inb_S2x256x1_S2x256x1_0_0_0, k0_pay46 (F := Ideal)⟩])
    (arg11.view.writes (Elt Ideal) arg11.view.junk [⟨Rect.unit ![0, 0] S256x128.size inb_S256x128_S256x128_0_0, k0_pay47 (F := Ideal)⟩]) n

/-- The masked block's keys (the values likewise). -/
def lastRows (w : Memref sig .tc .vmem S4096x128 .bf16) (X : BufTy.Contents (Elt Ideal) w.view.ty) : FVec Ideal S256x128 .bf16 :=
  w.view.readAt (Elt Ideal) (Rect.unit (s := S4096x128) (k0_off5 i) S256x128.size (k0_off5_inb i)).toLoadRect X

/-- The masked block's running sums, of the first head … -/
def lastSums0 (w : Memref sig .tc .vmem S8x4096 .f32) (X : BufTy.Contents (Elt Ideal) w.view.ty) : FVec Ideal S1x256 .f32 :=
  w.view.readAt (Elt Ideal) (Rect.unit (s := S8x4096) (k0_off6 i 0#32) S1x256.size (k0_off6_inb i 0)).toLoadRect X

/-- … and of the second. -/
def lastSums1 (w : Memref sig .tc .vmem S8x4096 .f32) (X : BufTy.Contents (Elt Ideal) w.view.ty) : FVec Ideal S1x256 .f32 :=
  w.view.readAt (Elt Ideal) (Rect.unit (s := S8x4096) (k0_off6 i 1#32) S1x256.size (k0_off6_inb i 1)).toLoadRect X

/-- What is written out, from the three accumulators the loop leaves. -/
def written (q g : FVec Ideal S256x128 .bf16) (kb vb : FVec Ideal S256x128 .bf16) (c0 c1 : FVec Ideal S1x256 .f32)
    (m0 m1 l0 l1 : FVec Ideal S1x256x1 .f32) (a : FVec Ideal S256x128 .f32) : FVec Ideal S256x128 .bf16 :=
  k0_pay2 (F := Ideal) k0_pay41 (lNew (masked (k0_pay43 (F := Ideal) q) kb c0) m0 l0)
    (lNew (masked (k0_pay44 (F := Ideal) q) kb c1) m1 l1)
    (aNew (masked (k0_pay43 (F := Ideal) q) kb c0) (masked (k0_pay44 (F := Ideal) q) kb c1) m0 m1 vb a) g

theorem pieces :
    (kernelRun0_A (F := Ideal) c i arg3 harg3 arg4 harg4 arg5 harg5 arg6 harg6 arg7 harg7 arg8 harg8 arg9 harg9 arg10 harg10 arg11 harg11 x0 x1 x2 x3 x4).1 =
      let P := looped c i arg3 harg3 arg4 harg4 arg5 harg5 arg6 harg6 arg7 harg7 arg8 harg8 arg9 harg9 arg10 harg10 arg11 harg11 x0 x1 x2 x3 (k0_t1_loop i).trips
      let B9 := arg9.view.writes (Elt Ideal) arg9.view.junk (P.1 ++ [⟨Rect.unit ![0, 0, 0] S2x256x1.size inb_S2x256x1_S2x256x1_0_0_0, k0_pay45 (F := Ideal)⟩])
      let B10 := arg10.view.writes (Elt Ideal) arg10.view.junk (P.2.1 ++ [⟨Rect.unit ![0, 0, 0] S2x256x1.size inb_S2x256x1_S2x256x1_0_0_0, k0_pay46 (F := Ideal)⟩])
      let B11 := arg11.view.writes (Elt Ideal) arg11.view.junk (P.2.2 ++ [⟨Rect.unit ![0, 0] S256x128.size inb_S256x128_S256x128_0_0, k0_pay47 (F := Ideal)⟩])
      [⟨Rect.unit ![0, 0] S256x128.size inb_S256x128_S256x128_0_0,
        written (queries arg3 harg3 x0)
          (arg7.view.readAt (Elt Ideal) (Rect.unit (s := S256x128) ![0, 0] S256x128.size inb_S256x128_S256x128_0_0).toLoadRect (harg7.unread x4))
          (lastRows i arg4 (harg4.unread x1)) (lastRows i arg5 (harg5.unread x2))
          (lastSums0 i arg6 (harg6.unread x3)) (lastSums1 i arg6 (harg6.unread x3))
          (col0 arg9 B9) (col1 arg9 B9) (col0 arg10 B10) (col1 arg10 B10) (mat arg11 B11)⟩] := by
  unfold kernelRun0_A
  dsimp only
  sl_unfold_words
  have h2 : ∀ (v24 X4 X5 X6 G9 G10 G11), pb_k0_t2 (F := Ideal) Variants.none c none i arg3 harg3 arg4 harg4 arg5 harg5 arg6 harg6 arg7 harg7 arg8 harg8 arg9 harg9 arg10 harg10 arg11 harg11 (BitVec.ofNat 32 (i 1).val) (queries arg3 harg3 x0)
     v24 X4 X5 X6 G9 G10 G11 (Scf.trips (k0_t2_loop i).lb (k0_t2_loop i).ub (k0_t2_loop i).st) = ([], [], []) := by
    intros
    have h0 : Scf.trips (k0_t2_loop i).lb (k0_t2_loop i).ub (k0_t2_loop i).st = 0 := Nat.le_zero.mp (k0_t2_abs i).2.1
    rw [h0]
    rfl
  change ∀ (v24 X4 X5 X6 G9 G10 G11), pb_k0_t2 (F := Ideal) Variants.none c none i arg3 harg3 arg4 harg4 arg5 harg5 arg6 harg6 arg7 harg7 arg8 harg8 arg9 harg9 arg10 harg10 arg11 harg11 (BitVec.ofNat 32 (i 1).val)
    (arg3.view.readAt (Elt Ideal) (Rect.unit (s := S256x128) ![0, 0] S256x128.size inb_S256x128_S256x128_0_0).toLoadRect (harg3.unread x0))
     v24 X4 X5 X6 G9 G10 G11 (Scf.trips (k0_t2_loop i).lb (k0_t2_loop i).ub (k0_t2_loop i).st) = ([], [], []) at h2
  simp only [h2, List.nil_append]
  change _ = [(⟨Rect.unit ![0, 0] S256x128.size inb_S256x128_S256x128_0_0, _⟩ : View.Piece (Elt Ideal) S256x128 .bf16)]
  unfold looped queries
  generalize pb_k0_t1 (F := Ideal) Variants.none c none i arg3 harg3 arg4 harg4 arg5 harg5 arg6 harg6 arg7 harg7 arg8 harg8 arg9 harg9 arg10 harg10 arg11 harg11 (BitVec.ofNat 32 (i 1).val) _ _ _ _ _ _ _ _ = P
  refine congrArg (fun w => [(⟨Rect.unit ![0, 0] S256x128.size inb_S256x128_S256x128_0_0, w⟩ : View.Piece (Elt Ideal) S256x128 .bf16)]) ?_
  refine congrFun (congr (congr (congrArg (k0_pay2 (F := Ideal) k0_pay41) ?_) ?_) ?_) _
  · exact (col0_piece1 arg10 _ _ (piece0 _ :: _)).trans ((col0_piece0 arg10 _ _ _).trans rfl)
  · refine (col1_piece1 arg10 _ _ (piece0 _ :: _)).trans ?_
    rw [← col1_piece0 arg10]
    rw [← col1_piece0 arg9]
    rfl
  · refine (mat_whole arg11 _ _ _).trans ?_
    rw [← col1_piece0 arg9]
    rfl

end Cert.AttnIdeal.Body

end
-- ==== Proof.Score.lean ====
/-
  The scores as a function of row and key, and the blocks of them that the body computes.
-/
module

public import proofs.«01_k».proof.Proof.Body

@[expose] public section

set_option maxRecDepth 16384

noncomputable section

namespace Cert.AttnIdeal.Score

open Cert Cert.Online Cert.AttnIdeal Cert.AttnIdeal.Gen Cert.AttnIdeal.Block Cert.AttnIdeal.Trip Cert.AttnIdeal.State
  Cert.AttnIdeal.Body Idealize.ShloMosaic Idealize.ShloMosaic.TcCoe Idealize.SL.Sem

variable (i : grid0.Coords) (x0 : FVec Ideal S256x128 .bf16) (x1 x2 : FVec Ideal S4096x128 .bf16) (x3 : FVec Ideal S8x4096 .f32)

/-- The running sums' row of head `h` of the pair. -/
def headRow (h : Fin 2) : Fin 8 := ⟨2 * (i 1).val + h.val, by have : (i 1).val < 4 := (i 1).isLt; omega⟩

/-- The score of row `r` of the block against key `j`: the other head's lanes count for nothing. -/
def raw (h : Fin 2) (r : Fin 256) (j : Fin 4096) : EReal :=
  (∑ l : Fin 128, (if half l = h then x0 (ix2 r l) else 0) * x1 (ix2 j l)) - x3 (ix2 (headRow i h) j)

/-- The masked score: `-∞` for keys after the row. -/
def sc (h : Fin 2) (r : Fin 256) (j : Fin 4096) : EReal :=
  if j.val ≤ 256 * (i 2).val + r.val then raw i x0 x1 x3 h r j else ⊥

/-- Block `k` of the keys. -/
def blk (k : Fin 16) : Fin 256 ↪ Fin 4096 :=
  ⟨fun j => ⟨256 * k.val + j.val, by omega⟩, fun a b h => Fin.ext (by have := congrArg Fin.val h; simp only at this; omega)⟩

theorem blk_val (k : Fin 16) (j : Fin 256) : (blk k j).val = 256 * k.val + j.val := rfl

/-- The keys before block `n`. -/
def before (n : ℕ) : Finset (Fin 4096) := Finset.univ.filter fun j => j.val < 256 * n

theorem before_zero : before 0 = ∅ := Finset.filter_eq_empty_iff.mpr fun j _ => by omega

theorem mem_blk (k : Fin 16) (j : Fin 4096) : j ∈ Finset.univ.map (blk k) ↔ 256 * k.val ≤ j.val ∧ j.val < 256 * k.val + 256 := by
  rw [Finset.mem_map]
  constructor
  · rintro ⟨a, -, rfl⟩
    have := a.isLt
    rw [blk_val]
    omega
  · rintro ⟨h1, h2⟩
    exact ⟨⟨j.val - 256 * k.val, by omega⟩, Finset.mem_univ _, Fin.ext (by rw [blk_val]; simp only; omega)⟩

theorem before_succ (k : Fin 16) : before (k.val + 1) = before k.val ∪ Finset.univ.map (blk k) := by
  ext j
  rw [Finset.mem_union, mem_blk]
  simp only [before, Finset.mem_filter, Finset.mem_univ, true_and]
  omega

theorem before_disjoint (k : Fin 16) : Disjoint (before k.val) (Finset.univ.map (blk k)) := by
  rw [Finset.disjoint_left]
  intro j h1 h2
  rw [mem_blk] at h2
  simp only [before, Finset.mem_filter, Finset.mem_univ, true_and] at h1
  omega

/-! ## What is loaded -/

/-- A load at offsets known in closed form. -/
theorem ld_at {S : Shape} {e : EltTy} (X : S.Idx → Elt Ideal e) {off off' size : Fin S.rank → ℕ} (inb : ∀ a, off a + size a ≤ S.size a)
    (x : (Rect.unit off size inb).shape.Idx) (y : S.Idx) (h : off = off') (hy : ∀ a, (y a).val = off' a + (x a).val) :
    View.ld X (Rect.unit off size inb) x = X y := by
  subst h
  exact View.ld_unit_apply_of X off size inb x y hy

/-- The last block's number. -/
def last : Fin 16 := ⟨(i 2).val, (i 2).isLt⟩

theorem rows_at (w : Memref sig .tc .vmem S4096x128 .bf16) (hw : w.IsWhole) (x : FVec Ideal S4096x128 .bf16)
    (k : Fin (k0_t1_loop i).trips) (hk : k.val < 16) (j : Fin 256) (l : Fin 128) :
    rows w (hw.unread x) i k (ix2 j l) = x (ix2 (blk ⟨k.val, hk⟩ j) l) := by
  unfold rows
  rw [View.readAt_eq_ld, Memref.IsWhole.read_unread]
  refine ld_at _ _ _ _ (k0_off1_eq i k) ?_; exact Fin.forall_fin_two.mpr ⟨rfl, (Nat.zero_add _).symm⟩

theorem sums_at (w : Memref sig .tc .vmem S8x4096 .f32) (hw : w.IsWhole) (x : FVec Ideal S8x4096 .f32)
    (k : Fin (k0_t1_loop i).trips) (hk : k.val < 16) (j : Fin 256) :
    sums0 w (hw.unread x) i k (ix2 0 j) = x (ix2 (headRow i 0) (blk ⟨k.val, hk⟩ j))
      ∧ sums1 w (hw.unread x) i k (ix2 0 j) = x (ix2 (headRow i 1) (blk ⟨k.val, hk⟩ j)) := by
  unfold sums0 sums1
  rw [View.readAt_eq_ld, View.readAt_eq_ld, Memref.IsWhole.read_unread]
  constructor
  · refine ld_at _ _ _ _ (show k0_off2 i k 0#32 = _ from k0_off2_eq i k 0) ?_; exact Fin.forall_fin_two.mpr ⟨rfl, rfl⟩
  · refine ld_at _ _ _ _ (show k0_off2 i k 1#32 = _ from k0_off2_eq i k 1) ?_; exact Fin.forall_fin_two.mpr ⟨rfl, rfl⟩

theorem lastRows_at (w : Memref sig .tc .vmem S4096x128 .bf16) (hw : w.IsWhole) (x : FVec Ideal S4096x128 .bf16)
    (j : Fin 256) (l : Fin 128) : lastRows i w (hw.unread x) (ix2 j l) = x (ix2 (blk (last i) j) l) := by
  unfold lastRows
  rw [View.readAt_eq_ld, Memref.IsWhole.read_unread]
  refine ld_at _ _ _ _ (k0_off5_eq i) ?_; exact Fin.forall_fin_two.mpr ⟨rfl, (Nat.zero_add _).symm⟩

theorem lastSums_at (w : Memref sig .tc .vmem S8x4096 .f32) (hw : w.IsWhole) (x : FVec Ideal S8x4096 .f32) (j : Fin 256) :
    lastSums0 i w (hw.unread x) (ix2 0 j) = x (ix2 (headRow i 0) (blk (last i) j))
      ∧ lastSums1 i w (hw.unread x) (ix2 0 j) = x (ix2 (headRow i 1) (blk (last i) j)) := by
  unfold lastSums0 lastSums1
  rw [View.readAt_eq_ld, View.readAt_eq_ld, Memref.IsWhole.read_unread]
  constructor
  · refine ld_at _ _ _ _ (show k0_off6 i 0#32 = _ from k0_off6_eq i 0) ?_; exact Fin.forall_fin_two.mpr ⟨rfl, rfl⟩
  · refine ld_at _ _ _ _ (show k0_off6 i 1#32 = _ from k0_off6_eq i 1) ?_; exact Fin.forall_fin_two.mpr ⟨rfl, rfl⟩

theorem whole_at (w : Memref sig .tc .vmem S256x128 .bf16) (hw : w.IsWhole) (x : FVec Ideal S256x128 .bf16) :
    w.view.readAt (Elt Ideal) (Rect.unit (s := S256x128) ![0, 0] S256x128.size inb_S256x128_S256x128_0_0).toLoadRect (hw.unread x) = x := by
  rw [View.readAt_eq_ld, Memref.IsWhole.read_unread]
  exact View.ld_unit_zero (S := S256x128) (by decide) _ _

/-! ## The blocks of scores -/

theorem raw0 (kb : FVec Ideal S256x128 .bf16) (ck : FVec Ideal S1x256 .f32) (e : Fin 256 → Fin 4096)
    (hk : ∀ j l, kb (ix2 j l) = x1 (ix2 (e j) l)) (hc : ∀ j, ck (ix2 0 j) = x3 (ix2 (headRow i 0) (e j))) (r j : Fin 256) :
    k0_pay3 (F := Ideal) (k0_pay43 (F := Ideal) x0) kb ck (ix2 r j) = raw i x0 x1 x3 0 r (e j) := by
  rw [score_at, raw, hc]
  congr 1
  refine Finset.sum_congr rfl fun l _ => ?_
  rw [q0_at, hk]
  by_cases h : l.val < 64 <;> simp [half, h]

theorem raw1 (kb : FVec Ideal S256x128 .bf16) (ck : FVec Ideal S1x256 .f32) (e : Fin 256 → Fin 4096)
    (hk : ∀ j l, kb (ix2 j l) = x1 (ix2 (e j) l)) (hc : ∀ j, ck (ix2 0 j) = x3 (ix2 (headRow i 1) (e j))) (r j : Fin 256) :
    k0_pay3 (F := Ideal) (k0_pay44 (F := Ideal) x0) kb ck (ix2 r j) = raw i x0 x1 x3 1 r (e j) := by
  rw [score_at, raw, hc]
  congr 1
  refine Finset.sum_congr rfl fun l _ => ?_
  rw [q1_at, hk]
  by_cases h : l.val < 64 <;> simp [half, h]

/-- Before the masked block nothing is masked. -/
theorem sc_full (k : Fin 16) (hk : k.val < (i 2).val) (h : Fin 2) (r j : Fin 256) :
    sc i x0 x1 x3 h r (blk k j) = raw i x0 x1 x3 h r (blk k j) := by
  rw [sc, if_pos]
  show 256 * k.val + j.val ≤ _
  omega

theorem masked_at (q kb : FVec Ideal S256x128 .bf16) (ck : FVec Ideal S1x256 .f32) (r j : Fin 256) :
    masked q kb ck (ix2 r j) = if j.val ≤ r.val then k0_pay3 (F := Ideal) q kb ck (ix2 r j) else ⊥ := by
  have hm : k0_pay51 (iota .tc S256x256 32 [0] iota_S256x256_d0_w32) (iota .tc S256x256 32 [1] iota_S256x256_d1_w32) k0_pay50 (ix2 r j)
      = if j.val ≤ r.val then 1#1 else 0#1 := by
    pointwise [k0_pay51, k0_pay50]
    show IntOp.cmpi .sge (BitVec.ofNat 32 r.val) (BitVec.ofNat 32 j.val + 0#32) = _
    rw [BitVec.add_zero, WordCmp.cmpi_sge_ofNat (by omega) (by omega)]
    by_cases h : j.val ≤ r.val <;> simp [h]
  show Scalar.select (k0_pay51 _ _ _ (ix2 r j)) (k0_pay3 (F := Ideal) q kb ck (ix2 r j)) (Named.named κ "mask" 0xF149F2CA#32 : Ideal .f32) = _
  rw [hm, Consts.mask]
  by_cases h : j.val ≤ r.val <;> simp [h, Scalar.select]

theorem sc_last (h : Fin 2) (r j : Fin 256) :
    sc i x0 x1 x3 h r (blk (last i) j) = if j.val ≤ r.val then raw i x0 x1 x3 h r (blk (last i) j) else ⊥ := by
  rw [sc]
  congr 1
  show (256 * (i 2).val + j.val ≤ _) = _
  simp

end Cert.AttnIdeal.Score

end
-- ==== Proof.Looped.lean ====
/-
  The accumulators after the loop and what the body writes out, at an index.
-/
module

public import proofs.«01_k».proof.Proof.Score

@[expose] public section

set_option maxRecDepth 16384

noncomputable section

namespace Cert.AttnIdeal.Looped

open Cert Cert.Online Cert.AttnIdeal Cert.AttnIdeal.Gen Cert.AttnIdeal.Block Cert.AttnIdeal.Trip Cert.AttnIdeal.State
  Cert.AttnIdeal.Body Cert.AttnIdeal.Score Idealize.ShloMosaic Idealize.ShloMosaic.TcCoe Idealize.SL.Sem

theorem trips_eq (i : grid0.Coords) : (k0_t1_loop i).trips = (i 2).val :=
  (by decide +kernel : ∀ n : Fin 16, Scf.trips 0#32 (Scalar.addi 0#32 (Scalar.muli (Scalar.divsi (Scalar.subi
    (Scalar.muli (BitVec.ofNat 32 n.val) 1#32) 0#32) 1#32) 1#32)) 1#32 = n.val) (i 2)

variable (c : Dev nD) (i : grid0.Coords)
  (arg3 : Memref sig .tc .vmem S256x128 .bf16) (harg3 : arg3.IsWhole)
  (arg4 : Memref sig .tc .vmem S4096x128 .bf16) (harg4 : arg4.IsWhole)
  (arg5 : Memref sig .tc .vmem S4096x128 .bf16) (harg5 : arg5.IsWhole)
  (arg6 : Memref sig .tc .vmem S8x4096 .f32) (harg6 : arg6.IsWhole)
  (arg7 : Memref sig .tc .vmem S256x128 .bf16) (harg7 : arg7.IsWhole)
  (arg8 : Memref sig .tc .vmem S256x128 .bf16) (harg8 : arg8.IsWhole)
  (arg9 : Memref sig .tc .vmem S2x256x1 .f32) (harg9 : arg9.IsWhole)
  (arg10 : Memref sig .tc .vmem S2x256x1 .f32) (harg10 : arg10.IsWhole)
  (arg11 : Memref sig .tc .vmem S256x128 .f32) (harg11 : arg11.IsWhole)
  (x0 : FVec Ideal S256x128 .bf16) (x1 x2 : FVec Ideal S4096x128 .bf16) (x3 : FVec Ideal S8x4096 .f32)
  (x4 : FVec Ideal S256x128 .bf16)

/-- Nothing has been taken in at the start. -/
theorem start (f9 : BufTy.Contents (Elt Ideal) arg9.view.ty) (f10 : BufTy.Contents (Elt Ideal) arg10.view.ty)
    (f11 : BufTy.Contents (Elt Ideal) arg11.view.ty) (s v) :
    At ∅ s v arg9
      (arg9.view.writes (Elt Ideal) f9 [⟨Rect.unit ![0, 0, 0] S2x256x1.size inb_S2x256x1_S2x256x1_0_0_0, k0_pay45 (F := Ideal)⟩]) arg10
      (arg10.view.writes (Elt Ideal) f10 [⟨Rect.unit ![0, 0, 0] S2x256x1.size inb_S2x256x1_S2x256x1_0_0_0, k0_pay46 (F := Ideal)⟩]) arg11
      (arg11.view.writes (Elt Ideal) f11 [⟨Rect.unit ![0, 0] S256x128.size inb_S256x128_S256x128_0_0, k0_pay47 (F := Ideal)⟩]) := by
  have hw : ∀ (w : Memref sig .tc .vmem S2x256x1 .f32) (f : BufTy.Contents (Elt Ideal) w.view.ty) (u : FVec Ideal S2x256x1 .f32),
      w.view.read (Elt Ideal) (w.view.writes (Elt Ideal) f [⟨Rect.unit ![0, 0, 0] S2x256x1.size inb_S2x256x1_S2x256x1_0_0_0, u⟩]) = u := by
    intro w f u
    funext y
    refine View.read_writes_cons_unit_of_mem w.view f _ u [] y y rfl fun a => ?_
    fin_cases a <;> exact (Nat.zero_add _).symm
  have h45 : ∀ y, k0_pay45 (F := Ideal) y = (⊥ : EReal) := fun y => Consts.mask
  have h46 : ∀ y, k0_pay46 (F := Ideal) y = (0 : EReal) := fun y => by
    show Ideal.ofBits .f32 0x00000000#32 = _
    simp [Ideal.ofBits, Ideal.ieee]
  have h47 : ∀ y, k0_pay47 (F := Ideal) y = (0 : EReal) := fun y => by
    show Ideal.ofBits .f32 0x00000000#32 = _
    simp [Ideal.ofBits, Ideal.ieee]
  constructor
  · intro r
    unfold col0
    rw [View.readAt_eq_ld, hw]
    exact h45 _
  · intro r
    unfold col1
    rw [View.readAt_eq_ld, hw]
    exact h45 _
  · intro r
    unfold col0
    rw [View.readAt_eq_ld, hw, acc_empty]
    exact h46 _
  · intro r
    unfold col1
    rw [View.readAt_eq_ld, hw, acc_empty]
    exact h46 _
  · intro r l
    rw [acc_empty]
    exact (congrFun (mat_whole arg11 f11 _ []) _).trans (h47 _)

/-- The accumulators after the loop's first `n` trips. -/
theorem loop_at (ht : ∀ h r j, sc i x0 x1 x3 h r j ≠ ⊤) (n : ℕ) (hn : n ≤ (k0_t1_loop i).trips) :
    At (before n) (sc i x0 x1 x3) (fun j l => x2 (ix2 j l))
      arg9 (arg9.view.writes (Elt Ideal) arg9.view.junk
        ((looped c i arg3 harg3 arg4 harg4 arg5 harg5 arg6 harg6 arg7 harg7 arg8 harg8 arg9 harg9 arg10 harg10 arg11 harg11 x0 x1 x2 x3 n).1 ++ [⟨Rect.unit ![0, 0, 0] S2x256x1.size inb_S2x256x1_S2x256x1_0_0_0, k0_pay45 (F := Ideal)⟩]))
      arg10 (arg10.view.writes (Elt Ideal) arg10.view.junk
        ((looped c i arg3 harg3 arg4 harg4 arg5 harg5 arg6 harg6 arg7 harg7 arg8 harg8 arg9 harg9 arg10 harg10 arg11 harg11 x0 x1 x2 x3 n).2.1 ++ [⟨Rect.unit ![0, 0, 0] S2x256x1.size inb_S2x256x1_S2x256x1_0_0_0, k0_pay46 (F := Ideal)⟩]))
      arg11 (arg11.view.writes (Elt Ideal) arg11.view.junk
        ((looped c i arg3 harg3 arg4 harg4 arg5 harg5 arg6 harg6 arg7 harg7 arg8 harg8 arg9 harg9 arg10 harg10 arg11 harg11 x0 x1 x2 x3 n).2.2 ++ [⟨Rect.unit ![0, 0] S256x128.size inb_S256x128_S256x128_0_0, k0_pay47 (F := Ideal)⟩])) := by
  simp only [View.writes_append]
  induction n with
  | zero =>
    rw [before_zero]
    exact start arg9 arg10 arg11 _ _ _ _ _
  | succ k ih =>
    have hk : k < 16 := by
      have := (i 2).isLt
      have h := trips_eq i
      have : (i 2).val < 16 := (i 2).isLt
      omega
    have hk2 : k < (i 2).val := by
      have h := trips_eq i
      omega
    have H := ih (by omega)
    have e := pb_k0_t1_succ (F := Ideal) Variants.none c none i arg3 harg3 arg4 harg4 arg5 harg5 arg6 harg6 arg7 harg7 arg8 harg8 arg9 harg9 arg10 harg10 arg11 harg11 (BitVec.ofNat 32 (i 1).val) (queries arg3 harg3 x0)
      (harg4.unread x1) (harg5.unread x2) (harg6.unread x3)
      (arg9.view.writes (Elt Ideal) arg9.view.junk [⟨Rect.unit ![0, 0, 0] S2x256x1.size inb_S2x256x1_S2x256x1_0_0_0, k0_pay45 (F := Ideal)⟩])
      (arg10.view.writes (Elt Ideal) arg10.view.junk [⟨Rect.unit ![0, 0, 0] S2x256x1.size inb_S2x256x1_S2x256x1_0_0_0, k0_pay46 (F := Ideal)⟩])
      (arg11.view.writes (Elt Ideal) arg11.view.junk [⟨Rect.unit ![0, 0] S256x128.size inb_S256x128_S256x128_0_0, k0_pay47 (F := Ideal)⟩])
      ⟨k, hn⟩
    unfold looped at H ⊢
    rw [e]
    simp only [View.writes_append]
    rw [before_succ ⟨k, hk⟩]
    refine at_step (blk ⟨k, hk⟩) (before_disjoint ⟨k, hk⟩) ht H _ _ _ ?_ ?_ ?_ (trip_pieces ..)
    · intro r j
      rw [sc_full i x0 x1 x3 ⟨k, hk⟩ hk2]
      unfold queries
      rw [whole_at]
      exact raw0 i x0 x1 x3 _ _ (blk ⟨k, hk⟩) (fun j l => rows_at i arg4 harg4 x1 ⟨k, hn⟩ hk j l)
        (fun j => (sums_at i arg6 harg6 x3 ⟨k, hn⟩ hk j).1) r j
    · intro r j
      rw [sc_full i x0 x1 x3 ⟨k, hk⟩ hk2]
      unfold queries
      rw [whole_at]
      exact raw1 i x0 x1 x3 _ _ (blk ⟨k, hk⟩) (fun j l => rows_at i arg4 harg4 x1 ⟨k, hn⟩ hk j l)
        (fun j => (sums_at i arg6 harg6 x3 ⟨k, hn⟩ hk j).2) r j
    · intro j l
      exact rows_at i arg5 harg5 x2 ⟨k, hn⟩ hk j l

/-- What is written out, at an index: the weighted values of the row's keys over the sum of the weights, times the gate. -/
theorem written_at (ht : ∀ h r j, sc i x0 x1 x3 h r j ≠ ⊤) {m0 m1 l0 l1 : FVec Ideal S1x256x1 .f32}
    {a : FVec Ideal S256x128 .f32} (H : Holds (before (i 2).val) (sc i x0 x1 x3) (fun j l => x2 (ix2 j l)) m0 m1 l0 l1 a)
    (r : Fin 256) (l : Fin 128) :
    written x0 x4 (lastRows i arg4 (harg4.unread x1)) (lastRows i arg5 (harg5.unread x2))
        (lastSums0 i arg6 (harg6.unread x3)) (lastSums1 i arg6 (harg6.unread x3)) m0 m1 l0 l1 a (ix2 r l)
      = Ideal.div (acc Finset.univ (sc i x0 x1 x3 (half l) r) fun j => x2 (ix2 j l))
          (acc Finset.univ (sc i x0 x1 x3 (half l) r) fun _ => 1) * x4 (ix2 r l) := by
  have K := holds_step (blk (last i)) (before_disjoint (last i)) ht H
    (masked (k0_pay43 (F := Ideal) x0) (lastRows i arg4 (harg4.unread x1)) (lastSums0 i arg6 (harg6.unread x3)))
    (masked (k0_pay44 (F := Ideal) x0) (lastRows i arg4 (harg4.unread x1)) (lastSums1 i arg6 (harg6.unread x3)))
    (lastRows i arg5 (harg5.unread x2))
    (fun r j => by
      rw [masked_at, sc_last]
      rw [raw0 i x0 x1 x3 _ _ (blk (last i)) (fun j l => lastRows_at i arg4 harg4 x1 j l)
        (fun j => (lastSums_at i arg6 harg6 x3 j).1) r j])
    (fun r j => by
      rw [masked_at, sc_last]
      rw [raw1 i x0 x1 x3 _ _ (blk (last i)) (fun j l => lastRows_at i arg4 harg4 x1 j l)
        (fun j => (lastSums_at i arg6 harg6 x3 j).2) r j])
    (fun j l => lastRows_at i arg5 harg5 x2 j l)
  have hb : ∀ w, acc (before (last i).val ∪ Finset.univ.map (blk (last i))) (sc i x0 x1 x3 (half l) r) w
      = acc Finset.univ (sc i x0 x1 x3 (half l) r) w := by
    intro w
    refine (acc_of_bot _ _ (Finset.subset_univ _) _ _ fun j _ hj => ?_).symm
    rw [← before_succ] at hj
    simp only [before, Finset.mem_filter, Finset.mem_univ, true_and, not_lt] at hj
    have hl : (last i).val = (i 2).val := rfl
    have hr := r.isLt
    rw [sc, if_neg]
    rw [hl] at hj
    omega
  unfold written
  pointwise [k0_pay2, first_lane]
  have ha := K.a r l
  have h0 := K.l0 r
  have h1 := K.l1 r
  rw [hb] at ha
  rw [ha]
  by_cases h : l.val < 64
  · have hh : half l = 0 := if_pos h
    rw [hh] at hb ⊢
    rw [hb] at h0
    simp only [h, if_true, Scalar.select]
    rw [h0]
    rfl
  · have hh : half l = 1 := if_neg h
    rw [hh] at hb ⊢
    rw [hb] at h1
    simp only [h, if_false, Scalar.select]
    rw [h1]
    rfl

end Cert.AttnIdeal.Looped

end
-- ==== Proof.Spec.lean ====
/-
  Forgetting attention at one result element, as both programs are shown to compute it.
-/
module

public import proofs.«01_k».proof.Proof.Online
public import Idealize.ShloMosaic.Lib.Pipeline.ValueKit

@[expose] public section

set_option maxRecDepth 16384

noncomputable section

namespace Cert.Spec

open Cert Cert.Online Idealize.ShloMosaic

/-- Row of position `t` of batch `b`. -/
def pos (b : Fin 4) (t : Fin 4096) : Fin 16384 := ⟨4096 * b.val + t.val, by omega⟩

/-- Column of lane `d` of head `h`. -/
def col (h : Fin 8) (d : Fin 64) : Fin 512 := ⟨64 * h.val + d.val, by omega⟩

variable (q k v : FVec Ideal ⟨2, ![16384, 512]⟩ .bf16) (c : FVec Ideal ⟨2, ![8, 16384]⟩ .f32) (g : FVec Ideal ⟨2, ![16384, 512]⟩ .bf16)

/-- The product of position `t`'s query and key `j`. -/
def dot (b : Fin 4) (h : Fin 8) (t j : Fin 4096) : EReal :=
  ∑ d : Fin 64, q (ix2 (pos b t) (col h d)) * k (ix2 (pos b j) (col h d))

/-- The causal score, without the term of the position itself (the softmax does not see it). -/
def score (b : Fin 4) (h : Fin 8) (t j : Fin 4096) : EReal :=
  if j.val ≤ t.val then dot q k b h t j - c (ix2 h (pos b j)) else ⊥

/-- The weighted mean of the values, times the gate. -/
def out (b : Fin 4) (h : Fin 8) (t : Fin 4096) (d : Fin 64) : EReal :=
  Ideal.div (acc Finset.univ (score q k c b h t) fun j => v (ix2 (pos b j) (col h d)))
    (acc Finset.univ (score q k c b h t) fun _ => 1) * g (ix2 (pos b t) (col h d))

/-- Queries, keys and running sums are real numbers. -/
structure Real : Prop where
  q : ∀ x, ∃ r : ℝ, q x = r
  k : ∀ x, ∃ r : ℝ, k x = r
  c : ∀ x, ∃ r : ℝ, c x = r

variable {q k c}

theorem sum_real {ι : Type*} (S : Finset ι) (f : ι → EReal) (h : ∀ j, ∃ r : ℝ, f j = r) : ∃ r : ℝ, ∑ j ∈ S, f j = r := by
  classical
  induction S using Finset.induction_on with
  | empty => exact ⟨0, by simp⟩
  | insert a S ha ih =>
    obtain ⟨x, hx⟩ := ih
    obtain ⟨y, hy⟩ := h a
    exact ⟨y + x, by rw [Finset.sum_insert ha, hx, hy, EReal.coe_add]⟩

theorem dot_real (H : Real q k c) (b : Fin 4) (h : Fin 8) (t j : Fin 4096) : ∃ r : ℝ, dot q k b h t j = r := by
  refine sum_real _ _ fun d => ?_
  obtain ⟨x, hx⟩ := H.q (ix2 (pos b t) (col h d))
  obtain ⟨y, hy⟩ := H.k (ix2 (pos b j) (col h d))
  exact ⟨x * y, by rw [hx, hy, EReal.coe_mul]⟩

theorem score_real (H : Real q k c) (b : Fin 4) (h : Fin 8) (t j : Fin 4096) (hj : j.val ≤ t.val) :
    ∃ r : ℝ, score q k c b h t j = r := by
  obtain ⟨x, hx⟩ := dot_real H b h t j
  obtain ⟨y, hy⟩ := H.c (ix2 h (pos b j))
  exact ⟨x - y, by rw [score, if_pos hj, hx, hy, EReal.coe_sub]⟩

theorem score_ne_top (H : Real q k c) (b : Fin 4) (h : Fin 8) (t j : Fin 4096) : score q k c b h t j ≠ ⊤ := by
  by_cases hj : j.val ≤ t.val
  · obtain ⟨x, hx⟩ := score_real H b h t j hj
    rw [hx]
    exact EReal.coe_ne_top x
  · rw [score, if_neg hj]
    exact bot_ne_top

theorem score_self_ne_bot (H : Real q k c) (b : Fin 4) (h : Fin 8) (t : Fin 4096) : score q k c b h t t ≠ ⊥ := by
  obtain ⟨x, hx⟩ := score_real H b h t t le_rfl
  rw [hx]
  exact EReal.coe_ne_bot x

theorem sup_ne_bot (H : Real q k c) (b : Fin 4) (h : Fin 8) (t : Fin 4096) : Finset.univ.sup (score q k c b h t) ≠ ⊥ :=
  fun hb => score_self_ne_bot H b h t (le_bot_iff.mp (hb ▸ Finset.le_sup (Finset.mem_univ t)))

end Cert.Spec

end
-- ==== Proof.Out.lean ====
/-
  The attention's result array after the run is the specification's at every index.
-/
module

public import proofs.«01_k».proof.Proof.Looped
public import proofs.«01_k».proof.Proof.Spec
public import proofs.«01_k».proof.Proof.Gen.AttnIdeal.Frame

@[expose] public section

set_option maxRecDepth 16384

noncomputable section

namespace Cert.AttnIdeal.Out

open Cert Cert.Online Cert.Spec Cert.AttnIdeal Cert.AttnIdeal.Gen Cert.AttnIdeal.Block Cert.AttnIdeal.Trip Cert.AttnIdeal.State
  Cert.AttnIdeal.Body Cert.AttnIdeal.Score Cert.AttnIdeal.Looped Idealize.ShloMosaic Idealize.ShloMosaic.TcCoe Idealize.SL.Sem

variable (m : (ℓ : Loc nD τ sig) → Buf (Elt Ideal) ℓ)

/-! ## One grid point's block -/

/-- What a grid point writes, at an index, over its staged blocks. -/
theorem outs_at (c : Dev nD) (t : Fin cfg0.N)
    (ht : ∀ h r j, sc (grid0.coords t) (iblk m c 0 t) (iblk m c 1 t) (iblk m c 3 t) h r j ≠ ⊤) (r : Fin 256) (l : Fin 128) :
    outsAt0 m c t (ix2 r l)
      = Ideal.div (acc Finset.univ (sc (grid0.coords t) (iblk m c 0 t) (iblk m c 1 t) (iblk m c 3 t) (half l) r)
            fun j => (iblk m c 2 t : FVec Ideal S4096x128 .bf16) (ix2 j l))
          (acc Finset.univ (sc (grid0.coords t) (iblk m c 0 t) (iblk m c 1 t) (iblk m c 3 t) (half l) r) fun _ => 1)
        * (iblk m c 4 t : FVec Ideal S256x128 .bf16) (ix2 r l) := by
  unfold outsAt0 out0_A_5
  rw [View.read_writes_eq_canon _ _ _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) _ _ _ _ _)]
  rw [Body.pieces]
  rw [View.canon_unit_zero (by decide)]
  unfold queries
  rw [whole_at, whole_at]
  refine written_at (ht := ht) (H := ?_) (r := r) (l := l) ..
  have H := loop_at c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _)
    (iblk m c 0 t) (iblk m c 1 t) (iblk m c 2 t) (iblk m c 3 t) ht _ le_rfl
  rw [trips_eq] at H ⊢
  exact H

/-! ## The staged blocks of the arrays -/

/-- The batch of a grid point. -/
def batch (t : Fin cfg0.N) : Fin 4 := ⟨(grid0.coords t 0).val, (grid0.coords t 0).isLt⟩

/-- The position of row `r` of a grid point's block. -/
def place (t : Fin cfg0.N) (r : Fin 256) : Fin 4096 :=
  ⟨256 * (grid0.coords t 2).val + r.val, by have : (grid0.coords t 2).val < 16 := (grid0.coords t 2).isLt; omega⟩

/-- The lane's place in its head. -/
def lane (l : Fin 128) : Fin 64 := ⟨l.val % 64, Nat.mod_lt _ (by omega)⟩

theorem idx : ∀ t : Fin cfg0.N,
    win0_0.index t = ![16 * (grid0.coords t 0).val + (grid0.coords t 2).val, (grid0.coords t 1).val]
    ∧ win0_1.index t = ![(grid0.coords t 0).val, (grid0.coords t 1).val]
    ∧ win0_2.index t = ![(grid0.coords t 0).val, (grid0.coords t 1).val]
    ∧ win0_3.index t = ![0, (grid0.coords t 0).val]
    ∧ win0_4.index t = ![16 * (grid0.coords t 0).val + (grid0.coords t 2).val, (grid0.coords t 1).val]
    ∧ win0_5.index t = ![16 * (grid0.coords t 0).val + (grid0.coords t 2).val, (grid0.coords t 1).val] :=
  (by decide +kernel : ∀ t : Fin grid0.N, _)

theorem half_col (t : Fin cfg0.N) (l : Fin 128) :
    (col (headRow (grid0.coords t) (half l)) (lane l)).val = 128 * (grid0.coords t 1).val + l.val := by
  have hl := l.isLt
  simp only [col, headRow, lane, half]
  split_ifs with h
  · show 64 * (2 * (grid0.coords t 1).val + 0) + l.val % 64 = _
    omega
  · show 64 * (2 * (grid0.coords t 1).val + 1) + l.val % 64 = _
    omega

theorem queries_at (c : Dev nD) (t : Fin cfg0.N) (r : Fin 256) (l : Fin 128) :
    (iblk m c 0 t : FVec Ideal S256x128 .bf16) (ix2 r l)
      = (m ((c : Thread nD τ).loc main_arg0) : FVec Ideal S16384x512 .bf16)
          (ix2 (pos (batch t) (place t r)) (col (headRow (grid0.coords t) (half l)) (lane l))) := by
  have h := half_col t l
  blk_ext [iblk, V, idx t, pos, batch, place]

theorem gate_at (c : Dev nD) (t : Fin cfg0.N) (r : Fin 256) (l : Fin 128) :
    (iblk m c 4 t : FVec Ideal S256x128 .bf16) (ix2 r l)
      = (m ((c : Thread nD τ).loc main_arg4) : FVec Ideal S16384x512 .bf16)
          (ix2 (pos (batch t) (place t r)) (col (headRow (grid0.coords t) (half l)) (lane l))) := by
  have h := half_col t l
  blk_ext [iblk, V, idx t, pos, batch, place]

theorem keys_at (c : Dev nD) (t : Fin cfg0.N) (j : Fin 4096) (l : Fin 128) :
    (iblk m c 1 t : FVec Ideal S4096x128 .bf16) (ix2 j l)
      = (m ((c : Thread nD τ).loc main_arg1) : FVec Ideal S16384x512 .bf16)
          (ix2 (pos (batch t) j) (col (headRow (grid0.coords t) (half l)) (lane l))) := by
  have h := half_col t l
  blk_ext [iblk, V, idx t, pos, batch]

theorem values_at (c : Dev nD) (t : Fin cfg0.N) (j : Fin 4096) (l : Fin 128) :
    (iblk m c 2 t : FVec Ideal S4096x128 .bf16) (ix2 j l)
      = (m ((c : Thread nD τ).loc main_arg2) : FVec Ideal S16384x512 .bf16)
          (ix2 (pos (batch t) j) (col (headRow (grid0.coords t) (half l)) (lane l))) := by
  have h := half_col t l
  blk_ext [iblk, V, idx t, pos, batch]

theorem forget_at (c : Dev nD) (t : Fin cfg0.N) (h : Fin 8) (j : Fin 4096) :
    (iblk m c 3 t : FVec Ideal S8x4096 .f32) (ix2 h j)
      = (m ((c : Thread nD τ).loc main_arg3) : FVec Ideal S8x16384 .f32) (ix2 h (pos (batch t) j)) := by
  blk_ext [iblk, V, idx t, pos, batch]

/-! ## The scores -/

/-- A sum over the pair's lanes that counts one head's is the sum over that head's. -/
theorem sum_half (h : Fin 2) (f : Fin 2 → Fin 64 → EReal) (g : Fin 2 → Fin 64 → EReal) :
    (∑ l : Fin 128, (if half l = h then f (half l) (lane l) else 0) * g (half l) (lane l)) = ∑ d, f h d * g h d := by
  rw [Fin.sum_univ_two_halves 64 64 rfl]
  have e0 : ∀ d : Fin 64, ∀ hd, half ⟨d.val, hd⟩ = 0 ∧ lane ⟨d.val, hd⟩ = d := fun d hd =>
    ⟨if_pos d.isLt, Fin.ext (Nat.mod_eq_of_lt d.isLt)⟩
  have e1 : ∀ d : Fin 64, ∀ hd, half ⟨64 + d.val, hd⟩ = 1 ∧ lane ⟨64 + d.val, hd⟩ = d := fun d hd =>
    ⟨if_neg (by simp only; omega), Fin.ext (by show (64 + d.val) % 64 = _; omega)⟩
  simp only [e0, e1]
  fin_cases h <;> simp

theorem sc_eq (c : Dev nD) (t : Fin cfg0.N) (h : Fin 2) (r : Fin 256) (j : Fin 4096) :
    sc (grid0.coords t) (iblk m c 0 t) (iblk m c 1 t) (iblk m c 3 t) h r j
      = score (m ((c : Thread nD τ).loc main_arg0)) (m ((c : Thread nD τ).loc main_arg1)) (m ((c : Thread nD τ).loc main_arg3))
          (batch t) (headRow (grid0.coords t) h) (place t r) j := by
  rw [sc, score]
  refine if_congr Iff.rfl ?_ rfl
  rw [raw, forget_at, dot]
  congr 1
  simp only [queries_at, keys_at]
  exact sum_half h (fun h' d => (m ((c : Thread nD τ).loc main_arg0) : FVec Ideal S16384x512 .bf16)
      (ix2 (pos (batch t) (place t r)) (col (headRow (grid0.coords t) h') d)))
    (fun h' d => (m ((c : Thread nD τ).loc main_arg1) : FVec Ideal S16384x512 .bf16)
      (ix2 (pos (batch t) j) (col (headRow (grid0.coords t) h') d)))

/-- What a grid point writes is the specification's element. -/
theorem point (c : Dev nD) (H : Real (m ((c : Thread nD τ).loc main_arg0)) (m ((c : Thread nD τ).loc main_arg1)) (m ((c : Thread nD τ).loc main_arg3)))
    (t : Fin cfg0.N) (r : Fin 256) (l : Fin 128) :
    outsAt0 m c t (ix2 r l)
      = out (m ((c : Thread nD τ).loc main_arg0)) (m ((c : Thread nD τ).loc main_arg1)) (m ((c : Thread nD τ).loc main_arg2))
          (m ((c : Thread nD τ).loc main_arg3)) (m ((c : Thread nD τ).loc main_arg4))
          (batch t) (headRow (grid0.coords t) (half l)) (place t r) (lane l) := by
  rw [outs_at m c t (fun h r j => by rw [sc_eq]; exact score_ne_top H _ _ _ _) r l]
  have e : sc (grid0.coords t) (iblk m c 0 t) (iblk m c 1 t) (iblk m c 3 t) (half l) r
      = score (m ((c : Thread nD τ).loc main_arg0)) (m ((c : Thread nD τ).loc main_arg1)) (m ((c : Thread nD τ).loc main_arg3))
          (batch t) (headRow (grid0.coords t) (half l)) (place t r) := funext fun j => sc_eq m c t (half l) r j
  rw [e, gate_at, out]
  simp only [values_at]

/-- The array the attention leaves, given one that agrees with the specification at every index. -/
theorem final (c : Dev nD) (H : Real (m ((c : Thread nD τ).loc main_arg0)) (m ((c : Thread nD τ).loc main_arg1)) (m ((c : Thread nD τ).loc main_arg3)))
    (G : FVec Ideal S16384x512 .bf16)
    (hG : ∀ b h t d, G (ix2 (pos b t) (col h d))
      = out (m ((c : Thread nD τ).loc main_arg0)) (m ((c : Thread nD τ).loc main_arg1)) (m ((c : Thread nD τ).loc main_arg2))
          (m ((c : Thread nD τ).loc main_arg3)) (m ((c : Thread nD τ).loc main_arg4)) b h t d) :
    (dats m 0 c).arrAt 5 (cfgs 0).N = G := by
  refine (dats m 0 c).arrAt_eq_of_covers 5 G (by decide +kernel) fun t _ y => ?_
  blk_simp
  rw [after0_5]
  idx_vars y
  refine (point m c H t y0 y1).trans ((hG _ _ _ _).symm.trans ?_)
  have h := half_col t y1
  blk_ext [idx t, pos, batch, place]

end Cert.AttnIdeal.Out

end
-- ==== Proof.Ref.lean ====
/-
  The reference read at an index: the softmax written out is the weighted mean of the specification.
-/
module

public import proofs.«01_k».proof.Proof.Spec
public import proofs.«01_k».proof.Proof.Consts
public import Idealize.ShloMosaic.Lib.WordCmp
public import proofs.«01_k».proof.Proof.Gen.AttnRefIdeal.Run

@[expose] public section

set_option maxRecDepth 16384

noncomputable section

namespace Cert.AttnRefIdeal.Ref

open Cert Cert.Online Cert.Spec Cert.AttnRefIdeal Cert.AttnRefIdeal.Gen Idealize.ShloMosaic Idealize.ShloMosaic.TcCoe Idealize.SL.Sem

variable (q k v : FVec Ideal S16384x512 .bf16) (c : FVec Ideal S8x16384 .f32) (g : FVec Ideal S16384x512 .bf16)

/-- The running sums, batch first. -/
def sums : FVec Ideal S4x8x4096 .f32 :=
  transpose S4x8x4096 [1, 0, 2] (shapeCast _ c shapeCasts_S8x16384_S8x4x4096) transposes_S8x4x4096_S4x8x4096_1_0_2

/-- Heads apart. -/
def heads (x : FVec Ideal S16384x512 .bf16) : FVec Ideal S4x4096x8x64 .f32 :=
  shapeCast _ (extf .f32 x bitsLt_bf16_f32) shapeCasts_S16384x512_S4x4096x8x64

/-- The masked scores. -/
def scores : FVec Ideal S4x8x4096x4096 .f32 :=
  select (broadcastInDim S4x8x4096x4096 ![2, 3] bcast_S4096x4096_S4x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
    (subf (addf (Host.dotGeneral dot_S4x4096x8x64_S4x4096x8x64_S4x8x4096x4096_3_3_1_1_02_02 none (heads q) (heads k))
      (broadcastInDim S4x8x4096x4096 ![0, 1, 2, 3] bcast_S4x8x4096x1_S4x8x4096x4096_0_1_2_3 (broadcastInDim S4x8x4096x1 ![0, 1, 2] bcast_S4x8x4096_S4x8x4096x1_0_1_2 (sums c))))
      (broadcastInDim S4x8x4096x4096 ![0, 1, 2, 3] bcast_S4x8x1x4096_S4x8x4096x4096_0_1_2_3 (broadcastInDim S4x8x1x4096 ![0, 1, 3] bcast_S4x8x4096_S4x8x1x4096_0_1_3 (sums c))))
    (broadcastInDim S4x8x4096x4096 ![] bcast_S_S4x8x4096x4096 (id (constant S_ .f32 0xFF800000#32)))

/-- The largest score of each row. -/
def tops (s : FVec Ideal S4x8x4096x4096 .f32) : FVec Ideal S4x8x4096 .f32 :=
  Host.reduce FloatOps.maximumf s (constant S_ .f32 0xFF800000#32) reducesTo_S4x8x4096x4096_S4x8x4096_d3 h_S_

/-- The exponentials of scores less a bound of their row. -/
def expsOf (s : FVec Ideal S4x8x4096x4096 .f32) (x : FVec Ideal S4x8x4096 .f32) : FVec Ideal S4x8x4096x4096 .f32 :=
  Host.exp (subf s (broadcastInDim S4x8x4096x4096 ![0, 1, 2, 3] bcast_S4x8x4096x1_S4x8x4096x4096_0_1_2_3 (broadcastInDim S4x8x4096x1 ![0, 1, 2] bcast_S4x8x4096_S4x8x4096x1_0_1_2 (maximumf (broadcastInDim S4x8x4096 ![] bcast_S_S4x8x4096 (constant S_ .f32 0xFF800000#32)) x))))

/-- The exponentials of scores less their row's maximum. -/
def exps (s : FVec Ideal S4x8x4096x4096 .f32) : FVec Ideal S4x8x4096x4096 .f32 := expsOf s (tops s)

/-- Exponentials over their row's sum. -/
def normed (e : FVec Ideal S4x8x4096x4096 .f32) : FVec Ideal S4x8x4096x4096 .f32 :=
  Host.divf e (broadcastInDim S4x8x4096x4096 ![0, 1, 2, 3] bcast_S4x8x4096x1_S4x8x4096x4096_0_1_2_3 (broadcastInDim S4x8x4096x1 ![0, 1, 2] bcast_S4x8x4096_S4x8x4096x1_0_1_2 (Host.reduceAdd e (constant S_ .f32 0x00000000#32) reducesTo_S4x8x4096x4096_S4x8x4096_d3 h_S_)))

/-- The weighted values, gated. -/
def gated (p : FVec Ideal S4x8x4096x4096 .f32) : FVec Ideal S16384x512 .bf16 :=
  truncf .bf16 (mulf (shapeCast _ (transpose S4x4096x8x64 [0, 3, 1, 2] (Host.dotGeneral dot_S4x4096x8x64_S4x8x4096x4096_S4x8x64x4096_1_3_3_2_02_01 none (heads v) p) transposes_S4x8x64x4096_S4x4096x8x64_0_3_1_2) shapeCasts_S4x4096x8x64_S16384x512) (extf .f32 g bitsLt_bf16_f32)) bitsLt_bf16_f32

/-- The reference's result is these in turn. -/
theorem res_eq (m : (ℓ : Loc nD τ sig) → Buf (Elt Ideal) ℓ) (d : Dev nD) :
    Value.res_main_v38 (F := Ideal) m d = gated (m ((d.tc : Thread nD τ).loc main_arg2)) (m ((d.tc : Thread nD τ).loc main_arg4))
      (normed (exps (scores (m ((d.tc : Thread nD τ).loc main_arg0)) (m ((d.tc : Thread nD τ).loc main_arg1)) (m ((d.tc : Thread nD τ).loc main_arg3))))) := rfl

theorem heads_at (x : FVec Ideal S16384x512 .bf16) (b : Fin 4) (t : Fin 4096) (h : Fin 8) (d : Fin 64) :
    heads x (ix4 b t h d) = x (ix2 (pos b t) (col h d)) := by
  pointwise [heads]
  blk_ext [pos, col]

theorem sums_at (b : Fin 4) (h : Fin 8) (t : Fin 4096) : sums c (ix3 b h t) = c (ix2 h (pos b t)) := by
  pointwise [sums]
  blk_ext [pos]

theorem scores_at (b : Fin 4) (h : Fin 8) (t j : Fin 4096) :
    scores q k c (ix4 b h t j) = if j.val ≤ t.val then dot q k b h t j + c (ix2 h (pos b t)) - c (ix2 h (pos b j)) else ⊥ := by
  pointwise [scores]
  simp only [heads_at, sums_at]
  rw [show (id (constant (F := Ideal) S_ .f32 0xFF800000#32) ix0 : EReal) = ⊥ from Consts.neg_inf, WordCmp.cmpi_sle_ofNat (by omega) (by omega)]
  by_cases hj : j.val ≤ t.val <;> simp [hj, Scalar.select, dot]

theorem tops_at (s : FVec Ideal S4x8x4096x4096 .f32) (b : Fin 4) (h : Fin 8) (t : Fin 4096) :
    tops s (ix3 b h t) = Finset.univ.sup fun j => s (ix4 b h t j) := by
  have hr : S4x8x4096x4096.Reduces [3] S4x8x4096 := by decide
  have e : (Finset.univ : Finset (Fin 4096)).fold FloatOps.maximumf (constant (F := Ideal) S_ .f32 0xFF800000#32 (Shape.Idx.first h_S_))
      (s ∘ hr.lift (ix3 b h t)) = Finset.univ.sup fun j => s (ix4 b h t j) := by
    rw [show constant (F := Ideal) S_ .f32 0xFF800000#32 (Shape.Idx.first h_S_) = (⊥ : EReal) from Consts.neg_inf]
    refine congrArg (fun f : Fin 4096 → EReal => Finset.univ.fold max ⊥ f) (funext fun j => congrArg s ?_)
    funext a
    fin_cases a <;> rfl
  exact (Host.reduce_eq_fold_single _ _ _ _ hr _ _).trans e

theorem expsOf_at (s : FVec Ideal S4x8x4096x4096 .f32) (x : FVec Ideal S4x8x4096 .f32) (b : Fin 4) (h : Fin 8) (t j : Fin 4096) :
    expsOf s x (ix4 b h t j) = Ideal.exp (s (ix4 b h t j) - x (ix3 b h t)) := by
  pointwise [expsOf]
  rw [Consts.neg_inf, max_eq_right bot_le]

theorem exps_at (s : FVec Ideal S4x8x4096x4096 .f32) (b : Fin 4) (h : Fin 8) (t j : Fin 4096) :
    exps s (ix4 b h t j) = Ideal.exp (s (ix4 b h t j) - Finset.univ.sup fun j => s (ix4 b h t j)) := by
  rw [exps, expsOf_at, tops_at]

theorem normed_at (e : FVec Ideal S4x8x4096x4096 .f32) (b : Fin 4) (h : Fin 8) (t j : Fin 4096) :
    normed e (ix4 b h t j) = Ideal.div (e (ix4 b h t j)) (∑ j, e (ix4 b h t j)) := by
  pointwise [normed]

theorem gated_at (p : FVec Ideal S4x8x4096x4096 .f32) (b : Fin 4) (h : Fin 8) (t : Fin 4096) (d : Fin 64) :
    gated v g p (ix2 (pos b t) (col h d))
      = (∑ j, v (ix2 (pos b j) (col h d)) * p (ix4 b h t j)) * g (ix2 (pos b t) (col h d)) := by
  pointwise [gated]
  have h1 : (pos b t).val / 4096 = b.val := by simp only [pos]; omega
  have h2 : (pos b t).val % 4096 = t.val := by simp only [pos]; omega
  have h3 : (col h d).val / 64 = h.val := by simp only [col]; omega
  have h4 : (col h d).val % 64 = d.val := by simp only [col]; omega
  simp only [h1, h2, h3, h4, Fin.eta, heads_at]

variable {q k c}

/-- The scores are the specification's up to the position's own running sum. -/
theorem scores_shift (H : Real q k c) (b : Fin 4) (h : Fin 8) (t : Fin 4096) :
    ∃ x : ℝ, (fun j => scores q k c (ix4 b h t j)) = fun j => score q k c b h t j + x := by
  obtain ⟨x, hx⟩ := H.c (ix2 h (pos b t))
  refine ⟨x, funext fun j => ?_⟩
  rw [scores_at, score, hx]
  by_cases hj : j.val ≤ t.val
  · obtain ⟨u, hu⟩ := dot_real H b h t j
    obtain ⟨y, hy⟩ := H.c (ix2 h (pos b j))
    rw [if_pos hj, if_pos hj, hu, hy, ← EReal.coe_add, ← EReal.coe_sub, ← EReal.coe_sub, ← EReal.coe_add]
    congr 1
    ring
  · rw [if_neg hj, if_neg hj, EReal.bot_add]

/-- The reference's result is the specification's. -/
theorem ref_at (H : Real q k c) (b : Fin 4) (h : Fin 8) (t : Fin 4096) (d : Fin 64) :
    gated v g (normed (exps (scores q k c))) (ix2 (pos b t) (col h d)) = out q k v c g b h t d := by
  obtain ⟨x, hx⟩ := scores_shift H b h t
  have he : ∀ j, exps (scores q k c) (ix4 b h t j) = Ideal.exp (score q k c b h t j - Finset.univ.sup (score q k c b h t)) := by
    intro j
    rw [exps_at, hx, sup_shift, show scores q k c (ix4 b h t j) = _ from congrFun hx j,
      shift_sub _ _ _ (sup_ne_bot H b h t) (sup_ne_top _ _ (score_ne_top H b h t))]
  obtain ⟨L, hL, hs⟩ := acc_one_real Finset.univ (score q k c b h t) (score_ne_top H b h t) t (Finset.mem_univ t) (score_self_ne_bot H b h t)
  rw [gated_at, out, acc, acc]
  congr 1
  simp only [normed_at, he, hs, mul_one]
  exact sum_div _ _ _ L hL

end Cert.AttnRefIdeal.Ref

end
-- ==== Proof.Finite.lean ====
/-
  The precondition: its three tests say that every query, key and running sum is a real number.
-/
module

public import proofs.«01_k».proof.Proof.Spec
public import proofs.«01_k».proof.Proof.Consts
public import proofs.«01_k».proof.Defs
public import Idealize.ShloMosaic.Lib.ReduceAll

@[expose] public section

set_option maxRecDepth 16384

noncomputable section

namespace Cert.Finite

open Cert Idealize.ShloMosaic Cert.Pre_finite

instance : Subsingleton S_.Idx := ⟨fun _ _ => funext fun a => a.elim0⟩

instance facts : Cert.Pre_finite.Facts where
  bitsLt_bf16_f32 := by decide
  bcast_S_S16384x512 := by decide
  reducesTo_S16384x512_S_d0_1 := by decide
  h_S_ := by decide
  bcast_S_S8x16384 := by decide
  reducesTo_S8x16384_S_d0_1 := by decide

/-- A value whose absolute value is below infinity is a real number. -/
theorem real_of_abs {x : EReal} (h : Ideal.cmp .olt (max x (-x)) (Ideal.ofBits .f32 0x7F800000#32) = 1#1) : ∃ r : ℝ, x = r := by
  rw [Consts.pos_inf] at h
  have hlt : max x (-x) < ⊤ := by
    by_contra hn
    simp [Ideal.cmp, hn] at h
  have h1 := (max_lt_iff.mp hlt).1
  have h2 := (max_lt_iff.mp hlt).2
  induction x with
  | bot => simp at h2
  | top => simp at h1
  | coe r => exact ⟨r, rfl⟩

theorem and_one {a b : BitVec 1} (h : IntOp.andi a b = 1#1) : a = 1#1 ∧ b = 1#1 := by
  revert a b
  decide

theorem decode (q k v : FVec Ideal S16384x512 .bf16) (c : FVec Ideal S8x16384 .f32) (g : FVec Ideal S16384x512 .bf16)
    (h : Cert.Pre_finite.fn (F := Ideal) q k v c g = fun _ => 1#1) : Spec.Real q k c := by
  have h := congrFun h (fun a => a.elim0)
  dsimp only [Cert.Pre_finite.fn] at h
  obtain ⟨h12, h3⟩ := and_one (show IntOp.andi _ _ = 1#1 from h)
  obtain ⟨h1, h2⟩ := and_one (show IntOp.andi _ _ = 1#1 from h12)
  exact ⟨fun x => real_of_abs (Host.reduce_andi_all _ _ _ _ _ h1 x), fun x => real_of_abs (Host.reduce_andi_all _ _ _ _ _ h2 x),
    fun x => real_of_abs (Host.reduce_andi_all _ _ _ _ _ h3 x)⟩

end Cert.Finite

end
-- ==== Proof.Attention.lean ====
/-
  The attention against its reference: the two runs end with the specification's values.
-/
module

public import proofs.«01_k».proof.Defs
public import proofs.«01_k».proof.Proof.Out
public import proofs.«01_k».proof.Proof.Ref
public import proofs.«01_k».proof.Proof.Finite
public import Idealize.ShloMosaic.Lib.Claim
public import Idealize.ShloMosaic.Lib.Quiescent

@[expose] public section

set_option maxRecDepth 16384

noncomputable section

namespace Cert.Attention

open Cert Idealize.ShloMosaic Idealize.SL.Sem

/-- The reference leaves its arguments and its counters alone. -/
theorem reference_frame : Cert.quiescent_AttnRefIdeal := by
  intro m g _
  exact (θ_run _ _ _).mono (fun r h => ⟨fun c => (h c).2, sem_eq_zero_of_no_sems (by decide) r.2⟩) (Cert.AttnRefIdeal.Value.run m g)

theorem algebraic : Cert.algebraic_AttnIdeal_AttnRefIdeal_pre_finite := by
  pair_intro
  · run_from Cert.AttnIdeal.Gen.run_main m g
  · run_from Cert.AttnRefIdeal.Value.run m' g'
    rw [Cert.AttnRefIdeal.Ref.res_eq]
    obtain ⟨e0, e1, e2, e3, e4⟩ := hagree c
    rw [e0, e1, e2, e3, e4]
    have H := Cert.Finite.decode _ _ _ _ _ (hpre c)
    exact (Cert.AttnIdeal.Out.final m c H _ fun b h t d => Cert.AttnRefIdeal.Ref.ref_at _ _ H b h t d).symm

end Cert.Attention

end
-- ==== Proof.MergeOut.lean ====
/-
  The merge: one block of rows, the whole array, and the reference's one product over both branches.
-/
module

public import proofs.«01_k».proof.Proof.Gen.MergeIdeal.Value
public import proofs.«01_k».proof.Proof.Gen.MergeRefIdeal.Run
public import proofs.«01_k».proof.Defs
public import Idealize.ShloMosaic.Lib.Pipeline.ValueKit
public import Idealize.ShloMosaic.Lib.Claim
public import Idealize.ShloMosaic.Lib.Quiescent

@[expose] public section

set_option maxRecDepth 16384

noncomputable section

namespace Cert.MergeIdeal.Out

open Cert Cert.MergeIdeal Cert.MergeIdeal.Gen Idealize.ShloMosaic Idealize.ShloMosaic.TcCoe Idealize.SL.Sem

/-- The reference's array: both branches side by side times the weights, and the residual. -/
def merged (x : FVec Ideal S16384x1024 .f32) (u v : FVec Ideal S16384x512 .bf16) (w : FVec Ideal S1024x1024 .f32) : FVec Ideal S16384x1024 .f32 :=
  addf x (Host.dotGeneral Cert.MergeRefIdeal.dot_S16384x1024_S1024x1024_S16384x1024_1_0_0_1_n_n none
    (concatenate Cert.MergeRefIdeal.S16384x1024 1 [⟨Cert.MergeRefIdeal.S16384x512, (extf .f32 u Cert.MergeRefIdeal.Gen.bitsLt_bf16_f32)⟩,
      ⟨Cert.MergeRefIdeal.S16384x512, (extf .f32 v Cert.MergeRefIdeal.Gen.bitsLt_bf16_f32)⟩] Cert.MergeRefIdeal.Gen.concatenates_S16384x512_S16384x512_S16384x1024_d1) w)

/-- The reference's element is the sum of the two branches' products and the residual. -/
theorem merged_at (x : FVec Ideal S16384x1024 .f32) (u v : FVec Ideal S16384x512 .bf16) (w : FVec Ideal S1024x1024 .f32)
    (r : Fin 16384) (j : Fin 1024) :
    merged x u v w (ix2 r j) = x (ix2 r j) + (∑ k : Fin 512, u (ix2 r k) * w (ix2 ⟨k.val, by omega⟩ j))
      + ∑ k : Fin 512, v (ix2 r k) * w (ix2 ⟨512 + k.val, by omega⟩ j) := by
  pointwise [merged]
  exact (add_assoc (x (ix2 r j)) _ _).symm

theorem idx : ∀ t : Fin cfg0.N,
    win0_0.index t = ![(grid0.coords t 0).val, 0] ∧ win0_1.index t = ![(grid0.coords t 0).val, 0]
    ∧ win0_2.index t = ![(grid0.coords t 0).val, 0] ∧ win0_3.index t = ![0, 0]
    ∧ win0_4.index t = ![(grid0.coords t 0).val, 0] ∧ (grid0.coords t 0).val < 32 :=
  (by decide +kernel : ∀ t : Fin grid0.N, _)

variable (m : (ℓ : Loc nD τ sig) → Buf (Elt Ideal) ℓ)

/-- The array the merge leaves. -/
theorem final (c : Dev nD) : (dats m 0 c).arrAt 4 (cfgs 0).N
    = merged (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]
  frame_out
  idx_vars y
  have e : (((cfg0.win 4).blk t).view.emb (ix2 y0 y1) : S16384x1024.Idx)
      = ix2 ⟨512 * (grid0.coords t 0).val + y0.val, by have := (idx t).2.2.2.2.2; omega⟩ y1 := by
    blk_ext [idx t]
  rw [e, merged_at]
  pointwise [k0_pay1]
  blk_point [iblk, V, idx t]

end Cert.MergeIdeal.Out

namespace Cert.Merge

open Cert Idealize.ShloMosaic Idealize.SL.Sem

/-- The reference leaves its arguments and its counters alone. -/
theorem reference_frame : Cert.quiescent_MergeRefIdeal := by
  intro m g _
  exact (θ_run _ _ _).mono (fun r h => ⟨fun c => (h c).2, sem_eq_zero_of_no_sems (by decide) r.2⟩) (Cert.MergeRefIdeal.Value.run m g)

/-- The merge and its reference leave the same array. -/
theorem algebraic : Cert.algebraic_MergeIdeal_MergeRefIdeal := by
  pair_intro
  · run_from Cert.MergeIdeal.Gen.run_main m g
  · run_from Cert.MergeRefIdeal.Value.run m' g'
    obtain ⟨e0, e1, e2, e3⟩ := hagree c
    rw [e1, e2]
    exact (Cert.MergeIdeal.Out.final m c).symm

end Cert.Merge

end
-- ==== Proof.ProjSame.lean ====
/-
  The projection as written and its ideal form run the same program: what one leaves alone the other does.
-/
module

public import proofs.«01_k».proof.Proof.Gen.Proj.Launch
public import proofs.«01_k».proof.Proof.Gen.ProjIdeal.Launch
public import Idealize.ShloMosaic.Lib.Tactic

@[expose] public section

set_option maxRecDepth 16384

noncomputable section

namespace Cert.Proj

open Cert Idealize.ShloMosaic Idealize.ShloMosaic.TcCoe Idealize.SL.Sem Idealize.ShloMosaic.Tactic

/-- The projection leaves its arguments and its counters alone. -/
def Frame (F : FTy → Type) [FloatOps F] : Prop :=
  ∀ (m : (ℓ : Loc Cert.Proj.nD Cert.Proj.τ Cert.Proj.sig) → Buf (Elt F) ℓ) (g : Dev Cert.Proj.nD → PrngReg),
    θ_run (Cert.Proj.defs (F := F)) (onTc (τ := Cert.Proj.τ) (Cert.Proj.main (F := F))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

/-- The same of its ideal form. -/
def FrameIdeal (F : FTy → Type) [FloatOps F] : Prop :=
  ∀ (m : (ℓ : Loc Cert.ProjIdeal.nD Cert.ProjIdeal.τ Cert.ProjIdeal.sig) → Buf (Elt F) ℓ) (g : Dev Cert.ProjIdeal.nD → PrngReg),
    θ_run (Cert.ProjIdeal.defs (F := F)) (onTc (τ := Cert.ProjIdeal.τ) (Cert.ProjIdeal.main (F := F))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

set_option maxHeartbeats 4000000 in
theorem frame_same (F : FTy → Type) [FloatOps F] : Frame F = FrameIdeal F := by
  sl_kernel_rfl

end Cert.Proj

end
-- ==== Proof.ProjOuts.lean ====
/-
  What each case of the projection's body leaves in its outputs and in its scratch, and the contents point by point. The
  set-up follows the generated one, stated at the points themselves.
-/
module

public import proofs.«01_k».proof.Proof.Gen.ProjIdeal.Frame.RunA
public import proofs.«01_k».proof.Proof.Gen.ProjIdeal.Frame.RunB

public import Idealize.ShloMosaic.Lib.Claim
@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at a point of case A. -/
abbrev run0_A (c : Dev nD) (t : Fin cfg0.N) (h0 : t.val % 8 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)

theorem cover0_A_10 (c : Dev nD) (t : Fin cfg0.N) (h0 : t.val % 8 = 0) (y : S512x512.Idx) :
    ∃ pc ∈ (run0_A m c t h0).1, y ∈ pc.1.set :=
  View.cover_of_tiledL (run0_A m c t h0).1 S512x128.size (by sl_kernel_rfl) y

def out0_A_10 (c : Dev nD) (t : Fin cfg0.N) (h0 : t.val % 8 = 0) : Vec F S512x512 .bf16 :=
  VO0_10.read (Elt F) (VO0_10.writes (Elt F) VO0_10.junk (run0_A m c t h0).1)

theorem cover0_A_11 (c : Dev nD) (t : Fin cfg0.N) (h0 : t.val % 8 = 0) (y : S512x512.Idx) :
    ∃ pc ∈ (run0_A m c t h0).2.1, y ∈ pc.1.set :=
  View.cover_of_tiledL (run0_A m c t h0).2.1 S512x128.size (by sl_kernel_rfl) y

def out0_A_11 (c : Dev nD) (t : Fin cfg0.N) (h0 : t.val % 8 = 0) : Vec F S512x512 .bf16 :=
  VO0_11.read (Elt F) (VO0_11.writes (Elt F) VO0_11.junk (run0_A m c t h0).2.1)

theorem cover0_A_12 (c : Dev nD) (t : Fin cfg0.N) (h0 : t.val % 8 = 0) (y : S512x512.Idx) :
    ∃ pc ∈ (run0_A m c t h0).2.2.1, y ∈ pc.1.set :=
  View.cover_of_tiledL (run0_A m c t h0).2.2.1 S512x512.size (by sl_kernel_rfl) y

def out0_A_12 (c : Dev nD) (t : Fin cfg0.N) (h0 : t.val % 8 = 0) : Vec F S512x512 .bf16 :=
  VO0_12.read (Elt F) (VO0_12.writes (Elt F) VO0_12.junk (run0_A m c t h0).2.2.1)

theorem cover0_A_13 (c : Dev nD) (t : Fin cfg0.N) (h0 : t.val % 8 = 0) (y : S512x512.Idx) :
    ∃ pc ∈ (run0_A m c t h0).2.2.2.1, y ∈ pc.1.set :=
  View.cover_of_tiledL (run0_A m c t h0).2.2.2.1 S512x512.size (by sl_kernel_rfl) y

def out0_A_13 (c : Dev nD) (t : Fin cfg0.N) (h0 : t.val % 8 = 0) : Vec F S512x512 .bf16 :=
  VO0_13.read (Elt F) (VO0_13.writes (Elt F) VO0_13.junk (run0_A m c t h0).2.2.2.1)

theorem cover0_A_14 (c : Dev nD) (t : Fin cfg0.N) (h0 : t.val % 8 = 0) (y : S512x512.Idx) :
    ∃ pc ∈ (run0_A m c t h0).2.2.2.2.1, y ∈ pc.1.set :=
  View.cover_of_tiledL (run0_A m c t h0).2.2.2.2.1 S512x512.size (by sl_kernel_rfl) y

def out0_A_14 (c : Dev nD) (t : Fin cfg0.N) (h0 : t.val % 8 = 0) : Vec F S512x512 .bf16 :=
  VO0_14.read (Elt F) (VO0_14.writes (Elt F) VO0_14.junk (run0_A m c t h0).2.2.2.2.1)

theorem cover0_A_15 (c : Dev nD) (t : Fin cfg0.N) (h0 : t.val % 8 = 0) (y : S512x512.Idx) :
    ∃ pc ∈ (run0_A m c t h0).2.2.2.2.2.1, y ∈ pc.1.set :=
  View.cover_of_tiledL (run0_A m c t h0).2.2.2.2.2.1 S512x512.size (by sl_kernel_rfl) y

def out0_A_15 (c : Dev nD) (t : Fin cfg0.N) (h0 : t.val % 8 = 0) : Vec F S512x512 .f32 :=
  VO0_15.read (Elt F) (VO0_15.writes (Elt F) VO0_15.junk (run0_A m c t h0).2.2.2.2.2.1)

theorem cover0_A_16 (c : Dev nD) (t : Fin cfg0.N) (h0 : t.val % 8 = 0) (y : S512x512.Idx) :
    ∃ pc ∈ (run0_A m c t h0).2.2.2.2.2.2.1, y ∈ pc.1.set :=
  View.cover_of_tiledL (run0_A m c t h0).2.2.2.2.2.2.1 S512x512.size (by sl_kernel_rfl) y

def out0_A_16 (c : Dev nD) (t : Fin cfg0.N) (h0 : t.val % 8 = 0) : Vec F S512x512 .bf16 :=
  VO0_16.read (Elt F) (VO0_16.writes (Elt F) VO0_16.junk (run0_A m c t h0).2.2.2.2.2.2.1)

theorem cover0_A_17 (c : Dev nD) (t : Fin cfg0.N) (h0 : t.val % 8 = 0) (y : S512x512.Idx) :
    ∃ pc ∈ (run0_A m c t h0).2.2.2.2.2.2.2.1, y ∈ pc.1.set :=
  View.cover_of_tiledL (run0_A m c t h0).2.2.2.2.2.2.2.1 S512x512.size (by sl_kernel_rfl) y

def out0_A_17 (c : Dev nD) (t : Fin cfg0.N) (h0 : t.val % 8 = 0) : Vec F S512x512 .f32 :=
  VO0_17.read (Elt F) (VO0_17.writes (Elt F) VO0_17.junk (run0_A m c t h0).2.2.2.2.2.2.2.1)

theorem cover0_A_18 (c : Dev nD) (t : Fin cfg0.N) (h0 : t.val % 8 = 0) (y : S512x512.Idx) :
    ∃ pc ∈ (run0_A m c t h0).2.2.2.2.2.2.2.2.1, y ∈ pc.1.set :=
  View.cover_of_tiledL (run0_A m c t h0).2.2.2.2.2.2.2.2.1 S512x512.size (by sl_kernel_rfl) y

def out0_A_18 (c : Dev nD) (t : Fin cfg0.N) (h0 : t.val % 8 = 0) : Vec F S512x512 .bf16 :=
  VO0_18.read (Elt F) (VO0_18.writes (Elt F) VO0_18.junk (run0_A m c t h0).2.2.2.2.2.2.2.2.1)

theorem cover0_A_19 (c : Dev nD) (t : Fin cfg0.N) (h0 : t.val % 8 = 0) (y : S512x512.Idx) :
    ∃ pc ∈ (run0_A m c t h0).2.2.2.2.2.2.2.2.2.1, y ∈ pc.1.set :=
  View.cover_of_tiledL (run0_A m c t h0).2.2.2.2.2.2.2.2.2.1 S512x512.size (by sl_kernel_rfl) y

def out0_A_19 (c : Dev nD) (t : Fin cfg0.N) (h0 : t.val % 8 = 0) : Vec F S512x512 .bf16 :=
  VO0_19.read (Elt F) (VO0_19.writes (Elt F) VO0_19.junk (run0_A m c t h0).2.2.2.2.2.2.2.2.2.1)

theorem cover0_A_20 (c : Dev nD) (t : Fin cfg0.N) (h0 : t.val % 8 = 0) (y : S8x512.Idx) :
    ∃ pc ∈ (run0_A m c t h0).2.2.2.2.2.2.2.2.2.2.1, y ∈ pc.1.set :=
  View.cover_of_tiledL (run0_A m c t h0).2.2.2.2.2.2.2.2.2.2.1 S8x512.size (by sl_kernel_rfl) y

def out0_A_20 (c : Dev nD) (t : Fin cfg0.N) (h0 : t.val % 8 = 0) : Vec F S8x512 .f32 :=
  VO0_20.read (Elt F) (VO0_20.writes (Elt F) VO0_20.junk (run0_A m c t h0).2.2.2.2.2.2.2.2.2.2.1)

theorem cover0_A_21 (c : Dev nD) (t : Fin cfg0.N) (h0 : t.val % 8 = 0) (y : S8x512.Idx) :
    ∃ pc ∈ (run0_A m c t h0).2.2.2.2.2.2.2.2.2.2.2.1, y ∈ pc.1.set :=
  View.cover_of_tiledL (run0_A m c t h0).2.2.2.2.2.2.2.2.2.2.2.1 S8x512.size (by sl_kernel_rfl) y

def out0_A_21 (c : Dev nD) (t : Fin cfg0.N) (h0 : t.val % 8 = 0) : Vec F S8x512 .f32 :=
  VO0_21.read (Elt F) (VO0_21.writes (Elt F) VO0_21.junk (run0_A m c t h0).2.2.2.2.2.2.2.2.2.2.2.1)

theorem scover0_A_0 (c : Dev nD) (t : Fin cfg0.N) (h0 : t.val % 8 = 0) (y : S8x1.Idx) :
    ∃ pc ∈ (run0_A m c t h0).2.2.2.2.2.2.2.2.2.2.2.2.1, y ∈ pc.1.set :=
  View.cover_of_tiledL (run0_A m c t h0).2.2.2.2.2.2.2.2.2.2.2.2.1 S8x1.size (by sl_kernel_rfl) y

def sout0_A_0 (c : Dev nD) (t : Fin cfg0.N) (h0 : t.val % 8 = 0) : Vec F S8x1 .f32 :=
  VS0_0.read (Elt F) (VS0_0.writes (Elt F) VS0_0.junk (run0_A m c t h0).2.2.2.2.2.2.2.2.2.2.2.2.1)

/-- The body's run at a point of case B. -/
abbrev run0_B (c : Dev nD) (t : Fin cfg0.N) (h0 : ¬t.val % 8 = 0) (xs : Vec F S8x1 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) xs

theorem cover0_B_10 (c : Dev nD) (t : Fin cfg0.N) (h0 : ¬t.val % 8 = 0) (xs : Vec F S8x1 .f32) (y : S512x512.Idx) :
    ∃ pc ∈ (run0_B m c t h0 xs).1, y ∈ pc.1.set :=
  View.cover_of_tiledL (run0_B m c t h0 xs).1 S512x128.size (by sl_kernel_rfl) y

def out0_B_10 (c : Dev nD) (t : Fin cfg0.N) (h0 : ¬t.val % 8 = 0) (xs : Vec F S8x1 .f32) : Vec F S512x512 .bf16 :=
  VO0_10.read (Elt F) (VO0_10.writes (Elt F) VO0_10.junk (run0_B m c t h0 xs).1)

theorem cover0_B_11 (c : Dev nD) (t : Fin cfg0.N) (h0 : ¬t.val % 8 = 0) (xs : Vec F S8x1 .f32) (y : S512x512.Idx) :
    ∃ pc ∈ (run0_B m c t h0 xs).2.1, y ∈ pc.1.set :=
  View.cover_of_tiledL (run0_B m c t h0 xs).2.1 S512x128.size (by sl_kernel_rfl) y

def out0_B_11 (c : Dev nD) (t : Fin cfg0.N) (h0 : ¬t.val % 8 = 0) (xs : Vec F S8x1 .f32) : Vec F S512x512 .bf16 :=
  VO0_11.read (Elt F) (VO0_11.writes (Elt F) VO0_11.junk (run0_B m c t h0 xs).2.1)

theorem cover0_B_12 (c : Dev nD) (t : Fin cfg0.N) (h0 : ¬t.val % 8 = 0) (xs : Vec F S8x1 .f32) (y : S512x512.Idx) :
    ∃ pc ∈ (run0_B m c t h0 xs).2.2.1, y ∈ pc.1.set :=
  View.cover_of_tiledL (run0_B m c t h0 xs).2.2.1 S512x512.size (by sl_kernel_rfl) y

def out0_B_12 (c : Dev nD) (t : Fin cfg0.N) (h0 : ¬t.val % 8 = 0) (xs : Vec F S8x1 .f32) : Vec F S512x512 .bf16 :=
  VO0_12.read (Elt F) (VO0_12.writes (Elt F) VO0_12.junk (run0_B m c t h0 xs).2.2.1)

theorem cover0_B_13 (c : Dev nD) (t : Fin cfg0.N) (h0 : ¬t.val % 8 = 0) (xs : Vec F S8x1 .f32) (y : S512x512.Idx) :
    ∃ pc ∈ (run0_B m c t h0 xs).2.2.2.1, y ∈ pc.1.set :=
  View.cover_of_tiledL (run0_B m c t h0 xs).2.2.2.1 S512x512.size (by sl_kernel_rfl) y

def out0_B_13 (c : Dev nD) (t : Fin cfg0.N) (h0 : ¬t.val % 8 = 0) (xs : Vec F S8x1 .f32) : Vec F S512x512 .bf16 :=
  VO0_13.read (Elt F) (VO0_13.writes (Elt F) VO0_13.junk (run0_B m c t h0 xs).2.2.2.1)

theorem cover0_B_14 (c : Dev nD) (t : Fin cfg0.N) (h0 : ¬t.val % 8 = 0) (xs : Vec F S8x1 .f32) (y : S512x512.Idx) :
    ∃ pc ∈ (run0_B m c t h0 xs).2.2.2.2.1, y ∈ pc.1.set :=
  View.cover_of_tiledL (run0_B m c t h0 xs).2.2.2.2.1 S512x512.size (by sl_kernel_rfl) y

def out0_B_14 (c : Dev nD) (t : Fin cfg0.N) (h0 : ¬t.val % 8 = 0) (xs : Vec F S8x1 .f32) : Vec F S512x512 .bf16 :=
  VO0_14.read (Elt F) (VO0_14.writes (Elt F) VO0_14.junk (run0_B m c t h0 xs).2.2.2.2.1)

theorem cover0_B_15 (c : Dev nD) (t : Fin cfg0.N) (h0 : ¬t.val % 8 = 0) (xs : Vec F S8x1 .f32) (y : S512x512.Idx) :
    ∃ pc ∈ (run0_B m c t h0 xs).2.2.2.2.2.1, y ∈ pc.1.set :=
  View.cover_of_tiledL (run0_B m c t h0 xs).2.2.2.2.2.1 S512x512.size (by sl_kernel_rfl) y

def out0_B_15 (c : Dev nD) (t : Fin cfg0.N) (h0 : ¬t.val % 8 = 0) (xs : Vec F S8x1 .f32) : Vec F S512x512 .f32 :=
  VO0_15.read (Elt F) (VO0_15.writes (Elt F) VO0_15.junk (run0_B m c t h0 xs).2.2.2.2.2.1)

theorem cover0_B_16 (c : Dev nD) (t : Fin cfg0.N) (h0 : ¬t.val % 8 = 0) (xs : Vec F S8x1 .f32) (y : S512x512.Idx) :
    ∃ pc ∈ (run0_B m c t h0 xs).2.2.2.2.2.2.1, y ∈ pc.1.set :=
  View.cover_of_tiledL (run0_B m c t h0 xs).2.2.2.2.2.2.1 S512x512.size (by sl_kernel_rfl) y

def out0_B_16 (c : Dev nD) (t : Fin cfg0.N) (h0 : ¬t.val % 8 = 0) (xs : Vec F S8x1 .f32) : Vec F S512x512 .bf16 :=
  VO0_16.read (Elt F) (VO0_16.writes (Elt F) VO0_16.junk (run0_B m c t h0 xs).2.2.2.2.2.2.1)

theorem cover0_B_17 (c : Dev nD) (t : Fin cfg0.N) (h0 : ¬t.val % 8 = 0) (xs : Vec F S8x1 .f32) (y : S512x512.Idx) :
    ∃ pc ∈ (run0_B m c t h0 xs).2.2.2.2.2.2.2.1, y ∈ pc.1.set :=
  View.cover_of_tiledL (run0_B m c t h0 xs).2.2.2.2.2.2.2.1 S512x512.size (by sl_kernel_rfl) y

def out0_B_17 (c : Dev nD) (t : Fin cfg0.N) (h0 : ¬t.val % 8 = 0) (xs : Vec F S8x1 .f32) : Vec F S512x512 .f32 :=
  VO0_17.read (Elt F) (VO0_17.writes (Elt F) VO0_17.junk (run0_B m c t h0 xs).2.2.2.2.2.2.2.1)

theorem cover0_B_18 (c : Dev nD) (t : Fin cfg0.N) (h0 : ¬t.val % 8 = 0) (xs : Vec F S8x1 .f32) (y : S512x512.Idx) :
    ∃ pc ∈ (run0_B m c t h0 xs).2.2.2.2.2.2.2.2.1, y ∈ pc.1.set :=
  View.cover_of_tiledL (run0_B m c t h0 xs).2.2.2.2.2.2.2.2.1 S512x512.size (by sl_kernel_rfl) y

def out0_B_18 (c : Dev nD) (t : Fin cfg0.N) (h0 : ¬t.val % 8 = 0) (xs : Vec F S8x1 .f32) : Vec F S512x512 .bf16 :=
  VO0_18.read (Elt F) (VO0_18.writes (Elt F) VO0_18.junk (run0_B m c t h0 xs).2.2.2.2.2.2.2.2.1)

theorem cover0_B_19 (c : Dev nD) (t : Fin cfg0.N) (h0 : ¬t.val % 8 = 0) (xs : Vec F S8x1 .f32) (y : S512x512.Idx) :
    ∃ pc ∈ (run0_B m c t h0 xs).2.2.2.2.2.2.2.2.2.1, y ∈ pc.1.set :=
  View.cover_of_tiledL (run0_B m c t h0 xs).2.2.2.2.2.2.2.2.2.1 S512x512.size (by sl_kernel_rfl) y

def out0_B_19 (c : Dev nD) (t : Fin cfg0.N) (h0 : ¬t.val % 8 = 0) (xs : Vec F S8x1 .f32) : Vec F S512x512 .bf16 :=
  VO0_19.read (Elt F) (VO0_19.writes (Elt F) VO0_19.junk (run0_B m c t h0 xs).2.2.2.2.2.2.2.2.2.1)

theorem cover0_B_20 (c : Dev nD) (t : Fin cfg0.N) (h0 : ¬t.val % 8 = 0) (xs : Vec F S8x1 .f32) (y : S8x512.Idx) :
    ∃ pc ∈ (run0_B m c t h0 xs).2.2.2.2.2.2.2.2.2.2.1, y ∈ pc.1.set :=
  View.cover_of_tiledL (run0_B m c t h0 xs).2.2.2.2.2.2.2.2.2.2.1 S8x512.size (by sl_kernel_rfl) y

def out0_B_20 (c : Dev nD) (t : Fin cfg0.N) (h0 : ¬t.val % 8 = 0) (xs : Vec F S8x1 .f32) : Vec F S8x512 .f32 :=
  VO0_20.read (Elt F) (VO0_20.writes (Elt F) VO0_20.junk (run0_B m c t h0 xs).2.2.2.2.2.2.2.2.2.2.1)

theorem cover0_B_21 (c : Dev nD) (t : Fin cfg0.N) (h0 : ¬t.val % 8 = 0) (xs : Vec F S8x1 .f32) (y : S8x512.Idx) :
    ∃ pc ∈ (run0_B m c t h0 xs).2.2.2.2.2.2.2.2.2.2.2.1, y ∈ pc.1.set :=
  View.cover_of_tiledL (run0_B m c t h0 xs).2.2.2.2.2.2.2.2.2.2.2.1 S8x512.size (by sl_kernel_rfl) y

def out0_B_21 (c : Dev nD) (t : Fin cfg0.N) (h0 : ¬t.val % 8 = 0) (xs : Vec F S8x1 .f32) : Vec F S8x512 .f32 :=
  VO0_21.read (Elt F) (VO0_21.writes (Elt F) VO0_21.junk (run0_B m c t h0 xs).2.2.2.2.2.2.2.2.2.2.2.1)

theorem scover0_B_0 (c : Dev nD) (t : Fin cfg0.N) (h0 : ¬t.val % 8 = 0) (xs : Vec F S8x1 .f32) (y : S8x1.Idx) :
    ∃ pc ∈ (run0_B m c t h0 xs).2.2.2.2.2.2.2.2.2.2.2.2.1, y ∈ pc.1.set :=
  View.cover_of_tiledL (run0_B m c t h0 xs).2.2.2.2.2.2.2.2.2.2.2.2.1 S8x1.size (by sl_kernel_rfl) y

def sout0_B_0 (c : Dev nD) (t : Fin cfg0.N) (h0 : ¬t.val % 8 = 0) (xs : Vec F S8x1 .f32) : Vec F S8x1 .f32 :=
  VS0_0.read (Elt F) (VS0_0.writes (Elt F) VS0_0.junk (run0_B m c t h0 xs).2.2.2.2.2.2.2.2.2.2.2.2.1)

/-- What the outputs' buffers and the carried scratch hold after each point. -/
def outsAt0 (c : Dev nD) : (n : ℕ) → n < cfg0.N → Vec F S512x512 .bf16 × Vec F S512x512 .bf16 × Vec F S512x512 .bf16 × Vec F S512x512 .bf16 × Vec F S512x512 .bf16 × Vec F S512x512 .f32 × Vec F S512x512 .bf16 × Vec F S512x512 .f32 × Vec F S512x512 .bf16 × Vec F S512x512 .bf16 × Vec F S8x512 .f32 × Vec F S8x512 .f32 × Vec F S8x1 .f32
  | 0, hn => (out0_A_10 m c ⟨0, hn⟩ (Nat.zero_mod _), out0_A_11 m c ⟨0, hn⟩ (Nat.zero_mod _), out0_A_12 m c ⟨0, hn⟩ (Nat.zero_mod _), out0_A_13 m c ⟨0, hn⟩ (Nat.zero_mod _), out0_A_14 m c ⟨0, hn⟩ (Nat.zero_mod _), out0_A_15 m c ⟨0, hn⟩ (Nat.zero_mod _), out0_A_16 m c ⟨0, hn⟩ (Nat.zero_mod _), out0_A_17 m c ⟨0, hn⟩ (Nat.zero_mod _), out0_A_18 m c ⟨0, hn⟩ (Nat.zero_mod _), out0_A_19 m c ⟨0, hn⟩ (Nat.zero_mod _), out0_A_20 m c ⟨0, hn⟩ (Nat.zero_mod _), out0_A_21 m c ⟨0, hn⟩ (Nat.zero_mod _), sout0_A_0 m c ⟨0, hn⟩ (Nat.zero_mod _))
  | n + 1, hn =>
    if h0 : (n + 1) % 8 = 0 then
      (out0_A_10 m c ⟨n + 1, hn⟩ h0, out0_A_11 m c ⟨n + 1, hn⟩ h0, out0_A_12 m c ⟨n + 1, hn⟩ h0, out0_A_13 m c ⟨n + 1, hn⟩ h0, out0_A_14 m c ⟨n + 1, hn⟩ h0, out0_A_15 m c ⟨n + 1, hn⟩ h0, out0_A_16 m c ⟨n + 1, hn⟩ h0, out0_A_17 m c ⟨n + 1, hn⟩ h0, out0_A_18 m c ⟨n + 1, hn⟩ h0, out0_A_19 m c ⟨n + 1, hn⟩ h0, out0_A_20 m c ⟨n + 1, hn⟩ h0, out0_A_21 m c ⟨n + 1, hn⟩ h0, sout0_A_0 m c ⟨n + 1, hn⟩ h0)
    else
      (out0_B_10 m c ⟨n + 1, hn⟩ h0 (outsAt0 c n (Nat.lt_of_succ_lt hn)).2.2.2.2.2.2.2.2.2.2.2.2, out0_B_11 m c ⟨n + 1, hn⟩ h0 (outsAt0 c n (Nat.lt_of_succ_lt hn)).2.2.2.2.2.2.2.2.2.2.2.2, out0_B_12 m c ⟨n + 1, hn⟩ h0 (outsAt0 c n (Nat.lt_of_succ_lt hn)).2.2.2.2.2.2.2.2.2.2.2.2, out0_B_13 m c ⟨n + 1, hn⟩ h0 (outsAt0 c n (Nat.lt_of_succ_lt hn)).2.2.2.2.2.2.2.2.2.2.2.2, out0_B_14 m c ⟨n + 1, hn⟩ h0 (outsAt0 c n (Nat.lt_of_succ_lt hn)).2.2.2.2.2.2.2.2.2.2.2.2, out0_B_15 m c ⟨n + 1, hn⟩ h0 (outsAt0 c n (Nat.lt_of_succ_lt hn)).2.2.2.2.2.2.2.2.2.2.2.2, out0_B_16 m c ⟨n + 1, hn⟩ h0 (outsAt0 c n (Nat.lt_of_succ_lt hn)).2.2.2.2.2.2.2.2.2.2.2.2, out0_B_17 m c ⟨n + 1, hn⟩ h0 (outsAt0 c n (Nat.lt_of_succ_lt hn)).2.2.2.2.2.2.2.2.2.2.2.2, out0_B_18 m c ⟨n + 1, hn⟩ h0 (outsAt0 c n (Nat.lt_of_succ_lt hn)).2.2.2.2.2.2.2.2.2.2.2.2, out0_B_19 m c ⟨n + 1, hn⟩ h0 (outsAt0 c n (Nat.lt_of_succ_lt hn)).2.2.2.2.2.2.2.2.2.2.2.2, out0_B_20 m c ⟨n + 1, hn⟩ h0 (outsAt0 c n (Nat.lt_of_succ_lt hn)).2.2.2.2.2.2.2.2.2.2.2.2, out0_B_21 m c ⟨n + 1, hn⟩ h0 (outsAt0 c n (Nat.lt_of_succ_lt hn)).2.2.2.2.2.2.2.2.2.2.2.2, sout0_B_0 m c ⟨n + 1, hn⟩ h0 (outsAt0 c n (Nat.lt_of_succ_lt hn)).2.2.2.2.2.2.2.2.2.2.2.2)

theorem outsAt0_A (c : Dev nD) (t : Fin cfg0.N) (h0 : t.val % 8 = 0) :
    outsAt0 m c t.val t.isLt = (out0_A_10 m c t h0, out0_A_11 m c t h0, out0_A_12 m c t h0, out0_A_13 m c t h0, out0_A_14 m c t h0, out0_A_15 m c t h0, out0_A_16 m c t h0, out0_A_17 m c t h0, out0_A_18 m c t h0, out0_A_19 m c t h0, out0_A_20 m c t h0, out0_A_21 m c t h0, sout0_A_0 m c t h0) := by
  obtain ⟨n, hn⟩ := t
  cases n with
  | zero => exact rfl
  | succ n => exact (dif_pos h0).trans rfl

theorem outsAt0_B (c : Dev nD) (t : Fin cfg0.N) (h0 : ¬t.val % 8 = 0) :
    outsAt0 m c t.val t.isLt = (out0_B_10 m c t h0 ((outsAt0 m c (t.val - 1) (Nat.lt_of_le_of_lt (Nat.sub_le _ _) t.isLt)).2.2.2.2.2.2.2.2.2.2.2.2), out0_B_11 m c t h0 ((outsAt0 m c (t.val - 1) (Nat.lt_of_le_of_lt (Nat.sub_le _ _) t.isLt)).2.2.2.2.2.2.2.2.2.2.2.2), out0_B_12 m c t h0 ((outsAt0 m c (t.val - 1) (Nat.lt_of_le_of_lt (Nat.sub_le _ _) t.isLt)).2.2.2.2.2.2.2.2.2.2.2.2), out0_B_13 m c t h0 ((outsAt0 m c (t.val - 1) (Nat.lt_of_le_of_lt (Nat.sub_le _ _) t.isLt)).2.2.2.2.2.2.2.2.2.2.2.2), out0_B_14 m c t h0 ((outsAt0 m c (t.val - 1) (Nat.lt_of_le_of_lt (Nat.sub_le _ _) t.isLt)).2.2.2.2.2.2.2.2.2.2.2.2), out0_B_15 m c t h0 ((outsAt0 m c (t.val - 1) (Nat.lt_of_le_of_lt (Nat.sub_le _ _) t.isLt)).2.2.2.2.2.2.2.2.2.2.2.2), out0_B_16 m c t h0 ((outsAt0 m c (t.val - 1) (Nat.lt_of_le_of_lt (Nat.sub_le _ _) t.isLt)).2.2.2.2.2.2.2.2.2.2.2.2), out0_B_17 m c t h0 ((outsAt0 m c (t.val - 1) (Nat.lt_of_le_of_lt (Nat.sub_le _ _) t.isLt)).2.2.2.2.2.2.2.2.2.2.2.2), out0_B_18 m c t h0 ((outsAt0 m c (t.val - 1) (Nat.lt_of_le_of_lt (Nat.sub_le _ _) t.isLt)).2.2.2.2.2.2.2.2.2.2.2.2), out0_B_19 m c t h0 ((outsAt0 m c (t.val - 1) (Nat.lt_of_le_of_lt (Nat.sub_le _ _) t.isLt)).2.2.2.2.2.2.2.2.2.2.2.2), out0_B_20 m c t h0 ((outsAt0 m c (t.val - 1) (Nat.lt_of_le_of_lt (Nat.sub_le _ _) t.isLt)).2.2.2.2.2.2.2.2.2.2.2.2), out0_B_21 m c t h0 ((outsAt0 m c (t.val - 1) (Nat.lt_of_le_of_lt (Nat.sub_le _ _) t.isLt)).2.2.2.2.2.2.2.2.2.2.2.2), sout0_B_0 m c t h0 ((outsAt0 m c (t.val - 1) (Nat.lt_of_le_of_lt (Nat.sub_le _ _) t.isLt)).2.2.2.2.2.2.2.2.2.2.2.2)) := by
  obtain ⟨n, hn⟩ := t
  cases n with
  | zero => exact (by exfalso; (try dsimp only at h0); exact absurd (Nat.zero_mod _) h0)
  | succ n => exact (dif_neg h0).trans rfl

end Cert.ProjIdeal.Gen

end
-- ==== Proof.ProjBody.lean ====
/-
  The data of the projection's launch: what each window holds before and after a point, and what the scratch holds between
  points. The set-up follows the generated one, stated at the points themselves.
-/
module

public import proofs.«01_k».proof.Proof.ProjOuts

public import Idealize.ShloMosaic.Lib.Claim
@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
    | ⟨11, _⟩ => (outsAt0 m c t.val t.isLt).2.1
    | ⟨12, _⟩ => (outsAt0 m c t.val t.isLt).2.2.1
    | ⟨13, _⟩ => (outsAt0 m c t.val t.isLt).2.2.2.1
    | ⟨14, _⟩ => (outsAt0 m c t.val t.isLt).2.2.2.2.1
    | ⟨15, _⟩ => (outsAt0 m c t.val t.isLt).2.2.2.2.2.1
    | ⟨16, _⟩ => (outsAt0 m c t.val t.isLt).2.2.2.2.2.2.1
    | ⟨17, _⟩ => (outsAt0 m c t.val t.isLt).2.2.2.2.2.2.2.1
    | ⟨18, _⟩ => (outsAt0 m c t.val t.isLt).2.2.2.2.2.2.2.2.1
    | ⟨19, _⟩ => (outsAt0 m c t.val t.isLt).2.2.2.2.2.2.2.2.2.1
    | ⟨20, _⟩ => (outsAt0 m c t.val t.isLt).2.2.2.2.2.2.2.2.2.2.1
    | ⟨21, _⟩ => (outsAt0 m c t.val t.isLt).2.2.2.2.2.2.2.2.2.2.2.1
    | ⟨_ + 22, h⟩ => absurd h (Nat.not_lt.2 (Nat.le_add_left _ _))
  Φ t := PhiS m c t.val (Nat.le_of_lt_succ t.isLt)
  q _ := fullShare
  owed _ := 0

/-- The arrays of the proof data are what the launch finds in them. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]
theorem after0_11 (c : Dev nD) (t : Fin cfg0.N) : (dats m 0 c).after 11 t = (outsAt0 m c t.val t.isLt).2.1 := by dsimp only [dats]
theorem after0_12 (c : Dev nD) (t : Fin cfg0.N) : (dats m 0 c).after 12 t = (outsAt0 m c t.val t.isLt).2.2.1 := by dsimp only [dats]
theorem after0_13 (c : Dev nD) (t : Fin cfg0.N) : (dats m 0 c).after 13 t = (outsAt0 m c t.val t.isLt).2.2.2.1 := by dsimp only [dats]
theorem after0_14 (c : Dev nD) (t : Fin cfg0.N) : (dats m 0 c).after 14 t = (outsAt0 m c t.val t.isLt).2.2.2.2.1 := by dsimp only [dats]
theorem after0_15 (c : Dev nD) (t : Fin cfg0.N) : (dats m 0 c).after 15 t = (outsAt0 m c t.val t.isLt).2.2.2.2.2.1 := by dsimp only [dats]
theorem after0_16 (c : Dev nD) (t : Fin cfg0.N) : (dats m 0 c).after 16 t = (outsAt0 m c t.val t.isLt).2.2.2.2.2.2.1 := by dsimp only [dats]
theorem after0_17 (c : Dev nD) (t : Fin cfg0.N) : (dats m 0 c).after 17 t = (outsAt0 m c t.val t.isLt).2.2.2.2.2.2.2.1 := by dsimp only [dats]
theorem after0_18 (c : Dev nD) (t : Fin cfg0.N) : (dats m 0 c).after 18 t = (outsAt0 m c t.val t.isLt).2.2.2.2.2.2.2.2.1 := by dsimp only [dats]
theorem after0_19 (c : Dev nD) (t : Fin cfg0.N) : (dats m 0 c).after 19 t = (outsAt0 m c t.val t.isLt).2.2.2.2.2.2.2.2.2.1 := by dsimp only [dats]
theorem after0_20 (c : Dev nD) (t : Fin cfg0.N) : (dats m 0 c).after 20 t = (outsAt0 m c t.val t.isLt).2.2.2.2.2.2.2.2.2.2.1 := by dsimp only [dats]
theorem after0_21 (c : Dev nD) (t : Fin cfg0.N) : (dats m 0 c).after 21 t = (outsAt0 m c t.val t.isLt).2.2.2.2.2.2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t))

end Cert.ProjIdeal.Gen

end
-- ==== Proof.ProjFirst.lean ====
/-
  The projection's body at the first point of the launch.
-/
module

public import proofs.«01_k».proof.Proof.ProjBody

public import Idealize.ShloMosaic.Lib.Claim
@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- The body at the first point: the scratch may hold anything. -/
theorem sound_first (c : Dev nD) (t : Fin cfg0.N) (h0 : t.val % 8 = 0) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  rw [show (dats m 0 c).Φ t.succ = PhiS m c (t.val + 1) t.isLt from rfl, PhiS_succ]
  rw [PhiS_castSucc m c t, PhiS_zero m c _ _ hz, PhiA0_eq]
  rw [outsAt0_A m c t h0]
  unfold out0_A_10 out0_A_11 out0_A_12 out0_A_13 out0_A_14 out0_A_15 out0_A_16 out0_A_17 out0_A_18 out0_A_19 out0_A_20 out0_A_21 sout0_A_0; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply ((run0_A m c t h0).2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [HS0]; · iexact HS0
  iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%es0, HS0⟩⟩
  isplitl [HS0 Hg]
  · isplitl [HS0]
    · unfold owns; iexists _; isplitr
      swap; · iexact HS0
      ipureintro; exact View.read_writes_of_cover _ _ _ _ _ (scover0_A_0 m c t h0)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover0_A_10 m c t h0)
  isplitl [H11]
  · unfold owns; iexists _; isplitr
    swap; · iexact H11
    ipureintro; exact View.read_writes_of_cover _ _ _ _ _ (cover0_A_11 m c t h0)
  isplitl [H12]
  · unfold owns; iexists _; isplitr
    swap; · iexact H12
    ipureintro; exact View.read_writes_of_cover _ _ _ _ _ (cover0_A_12 m c t h0)
  isplitl [H13]
  · unfold owns; iexists _; isplitr
    swap; · iexact H13
    ipureintro; exact View.read_writes_of_cover _ _ _ _ _ (cover0_A_13 m c t h0)
  isplitl [H14]
  · unfold owns; iexists _; isplitr
    swap; · iexact H14
    ipureintro; exact View.read_writes_of_cover _ _ _ _ _ (cover0_A_14 m c t h0)
  isplitl [H15]
  · unfold owns; iexists _; isplitr
    swap; · iexact H15
    ipureintro; exact View.read_writes_of_cover _ _ _ _ _ (cover0_A_15 m c t h0)
  isplitl [H16]
  · unfold owns; iexists _; isplitr
    swap; · iexact H16
    ipureintro; exact View.read_writes_of_cover _ _ _ _ _ (cover0_A_16 m c t h0)
  isplitl [H17]
  · unfold owns; iexists _; isplitr
    swap; · iexact H17
    ipureintro; exact View.read_writes_of_cover _ _ _ _ _ (cover0_A_17 m c t h0)
  isplitl [H18]
  · unfold owns; iexists _; isplitr
    swap; · iexact H18
    ipureintro; exact View.read_writes_of_cover _ _ _ _ _ (cover0_A_18 m c t h0)
  isplitl [H19]
  · unfold owns; iexists _; isplitr
    swap; · iexact H19
    ipureintro; exact View.read_writes_of_cover _ _ _ _ _ (cover0_A_19 m c t h0)
  isplitl [H20]
  · unfold owns; iexists _; isplitr
    swap; · iexact H20
    ipureintro; exact View.read_writes_of_cover _ _ _ _ _ (cover0_A_20 m c t h0)
  unfold owns; iexists _; isplitr
  swap; · iexact H21
  ipureintro; exact View.read_writes_of_cover _ _ _ _ _ (cover0_A_21 m c t h0)

end Cert.ProjIdeal.Gen

end
-- ==== Proof.ProjReset.lean ====
/-
  The projection's body at a later point that starts a sequence.
-/
module

public import proofs.«01_k».proof.Proof.ProjBody

public import Idealize.ShloMosaic.Lib.Claim
@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- The body at a later point that starts a sequence: the scratch holds what the point before left, and is written over. -/
theorem sound_reset (c : Dev nD) (t : Fin cfg0.N) (h0 : t.val % 8 = 0) (hz : ¬ t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  rw [show (dats m 0 c).Φ t.succ = PhiS m c (t.val + 1) t.isLt from rfl, PhiS_succ]
  rw [PhiS_castSucc m c t, PhiS_pos m c _ _ hz]
  rw [outsAt0_A m c t h0]
  unfold out0_A_10 out0_A_11 out0_A_12 out0_A_13 out0_A_14 out0_A_15 out0_A_16 out0_A_17 out0_A_18 out0_A_19 out0_A_20 out0_A_21 sout0_A_0; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply ((run0_A m c t h0).2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [HS0]; · iexists _; iexact HS0
  iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%es0, HS0⟩⟩
  isplitl [HS0 Hg]
  · isplitl [HS0]
    · unfold owns; iexists _; isplitr
      swap; · iexact HS0
      ipureintro; exact View.read_writes_of_cover _ _ _ _ _ (scover0_A_0 m c t h0)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover0_A_10 m c t h0)
  isplitl [H11]
  · unfold owns; iexists _; isplitr
    swap; · iexact H11
    ipureintro; exact View.read_writes_of_cover _ _ _ _ _ (cover0_A_11 m c t h0)
  isplitl [H12]
  · unfold owns; iexists _; isplitr
    swap; · iexact H12
    ipureintro; exact View.read_writes_of_cover _ _ _ _ _ (cover0_A_12 m c t h0)
  isplitl [H13]
  · unfold owns; iexists _; isplitr
    swap; · iexact H13
    ipureintro; exact View.read_writes_of_cover _ _ _ _ _ (cover0_A_13 m c t h0)
  isplitl [H14]
  · unfold owns; iexists _; isplitr
    swap; · iexact H14
    ipureintro; exact View.read_writes_of_cover _ _ _ _ _ (cover0_A_14 m c t h0)
  isplitl [H15]
  · unfold owns; iexists _; isplitr
    swap; · iexact H15
    ipureintro; exact View.read_writes_of_cover _ _ _ _ _ (cover0_A_15 m c t h0)
  isplitl [H16]
  · unfold owns; iexists _; isplitr
    swap; · iexact H16
    ipureintro; exact View.read_writes_of_cover _ _ _ _ _ (cover0_A_16 m c t h0)
  isplitl [H17]
  · unfold owns; iexists _; isplitr
    swap; · iexact H17
    ipureintro; exact View.read_writes_of_cover _ _ _ _ _ (cover0_A_17 m c t h0)
  isplitl [H18]
  · unfold owns; iexists _; isplitr
    swap; · iexact H18
    ipureintro; exact View.read_writes_of_cover _ _ _ _ _ (cover0_A_18 m c t h0)
  isplitl [H19]
  · unfold owns; iexists _; isplitr
    swap; · iexact H19
    ipureintro; exact View.read_writes_of_cover _ _ _ _ _ (cover0_A_19 m c t h0)
  isplitl [H20]
  · unfold owns; iexists _; isplitr
    swap; · iexact H20
    ipureintro; exact View.read_writes_of_cover _ _ _ _ _ (cover0_A_20 m c t h0)
  unfold owns; iexists _; isplitr
  swap; · iexact H21
  ipureintro; exact View.read_writes_of_cover _ _ _ _ _ (cover0_A_21 m c t h0)

end Cert.ProjIdeal.Gen

end
-- ==== Proof.ProjStep.lean ====
/-
  The projection's body inside a sequence.
-/
module

public import proofs.«01_k».proof.Proof.ProjBody

public import Idealize.ShloMosaic.Lib.Claim
@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- The body inside a sequence: the scratch holds what the point before left, and is read. -/
theorem sound_step (c : Dev nD) (t : Fin cfg0.N) (h0 : ¬ t.val % 8 = 0) (hz : ¬ t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  rw [show (dats m 0 c).Φ t.succ = PhiS m c (t.val + 1) t.isLt from rfl, PhiS_succ]
  rw [PhiS_castSucc m c t, PhiS_pos m c _ _ hz]
  rw [outsAt0_B m c t h0]
  unfold out0_B_10 out0_B_11 out0_B_12 out0_B_13 out0_B_14 out0_B_15 out0_B_16 out0_B_17 out0_B_18 out0_B_19 out0_B_20 out0_B_21 sout0_B_0; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply ((run0_B m c t h0 _).2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [HS0]; · iexact HS0
  iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%es0, HS0⟩⟩
  isplitl [HS0 Hg]
  · isplitl [HS0]
    · unfold owns; iexists _; isplitr
      swap; · iexact HS0
      ipureintro; exact View.read_writes_of_cover _ _ _ _ _ (scover0_B_0 m c t h0 _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover0_B_10 m c t h0 _)
  isplitl [H11]
  · unfold owns; iexists _; isplitr
    swap; · iexact H11
    ipureintro; exact View.read_writes_of_cover _ _ _ _ _ (cover0_B_11 m c t h0 _)
  isplitl [H12]
  · unfold owns; iexists _; isplitr
    swap; · iexact H12
    ipureintro; exact View.read_writes_of_cover _ _ _ _ _ (cover0_B_12 m c t h0 _)
  isplitl [H13]
  · unfold owns; iexists _; isplitr
    swap; · iexact H13
    ipureintro; exact View.read_writes_of_cover _ _ _ _ _ (cover0_B_13 m c t h0 _)
  isplitl [H14]
  · unfold owns; iexists _; isplitr
    swap; · iexact H14
    ipureintro; exact View.read_writes_of_cover _ _ _ _ _ (cover0_B_14 m c t h0 _)
  isplitl [H15]
  · unfold owns; iexists _; isplitr
    swap; · iexact H15
    ipureintro; exact View.read_writes_of_cover _ _ _ _ _ (cover0_B_15 m c t h0 _)
  isplitl [H16]
  · unfold owns; iexists _; isplitr
    swap; · iexact H16
    ipureintro; exact View.read_writes_of_cover _ _ _ _ _ (cover0_B_16 m c t h0 _)
  isplitl [H17]
  · unfold owns; iexists _; isplitr
    swap; · iexact H17
    ipureintro; exact View.read_writes_of_cover _ _ _ _ _ (cover0_B_17 m c t h0 _)
  isplitl [H18]
  · unfold owns; iexists _; isplitr
    swap; · iexact H18
    ipureintro; exact View.read_writes_of_cover _ _ _ _ _ (cover0_B_18 m c t h0 _)
  isplitl [H19]
  · unfold owns; iexists _; isplitr
    swap; · iexact H19
    ipureintro; exact View.read_writes_of_cover _ _ _ _ _ (cover0_B_19 m c t h0 _)
  isplitl [H20]
  · unfold owns; iexists _; isplitr
    swap; · iexact H20
    ipureintro; exact View.read_writes_of_cover _ _ _ _ _ (cover0_B_20 m c t h0 _)
  unfold owns; iexists _; isplitr
  swap; · iexact H21
  ipureintro; exact View.read_writes_of_cover _ _ _ _ _ (cover0_B_21 m c t h0 _)

end Cert.ProjIdeal.Gen

end
-- ==== Proof.ProjFrame.lean ====
/-
  The projection's launch: the body's triple at every point put together, the run, and that the arguments stay.
-/
module

public import proofs.«01_k».proof.Proof.ProjFirst
public import proofs.«01_k».proof.Proof.ProjReset
public import proofs.«01_k».proof.Proof.ProjStep

public import Idealize.ShloMosaic.Lib.Claim
@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · by_cases hz : t.val = 0
    · exact sound_first m c t h0 hz
    · exact sound_reset m c t h0 hz
  · exact sound_step m c t h0 fun e => h0 (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_ProjIdeal`'s statement (Defs.lean) at any `F` — Proof.lean cites it at `Bits`:
    `theorem Cert.Proof.claim : Cert.Claim := ⟨Cert.ProjIdeal.Gen.facts, fun m ρ _ => Cert.ProjIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.ProjIdeal.Gen

end
-- ==== Proof.ProjSpec.lean ====
/-
  The projection's results, entry by entry, over the extended reals.
-/
module

public import proofs.«01_k».proof.Defs
public import proofs.«01_k».proof.Proof.Consts
public import Idealize.ShloMosaic.Lib.Pipeline.ValueKit
public import Idealize.ShloMosaic.Lib.Claim

@[expose] public section

set_option maxRecDepth 16384

noncomputable section

namespace Cert.Rows

open Cert Cert.ProjIdeal Idealize.ShloMosaic

variable (X : FVec Ideal S16384x1024 .f32) (G : FVec Ideal S1024 .f32) (W : FVec Ideal S1024x4104 .f32)

/-- A row after its mean-square norm and the gain. -/
def normed (r : Fin 16384) (k : Fin 1024) : EReal :=
  X (ix2 r k) * Ideal.rsqrt (Ideal.div (∑ x : Fin 1024, X (ix2 r x) * X (ix2 r x)) (Ideal.ofBits .f32 1149239296#32)
    + Ideal.ofBits .f32 897988541#32) * G (ix1 k)

/-- The projected row. -/
def z (r : Fin 16384) (j : Fin 4104) : EReal := ∑ k : Fin 1024, normed X G r k * W (ix2 k j)

/-- The angle at a position for a lane of the first half. -/
def angle (p l : ℕ) : EReal :=
  FloatOps.sitofp (F := Ideal) .f32 (BitVec.ofNat 32 p) * Ideal.div 1 (Ideal.pow (Ideal.ofBits .f32 1176256512#32)
    (Ideal.div (Ideal.ofBits .f32 1073741824#32 * FloatOps.sitofp (F := Ideal) .f32 (BitVec.ofNat 32 l)) (Ideal.ofBits .f32 1124073472#32)))

/-- A head of 128 lanes turned by its position's angles: the first half against the second. -/
def rot (b : ℕ) (hb : b ≤ 3584) (r : Fin 16384) (j : Fin 512) : EReal :=
  if h : j.val % 128 < 64 then
    z X G W r ⟨b + j.val, by omega⟩ * Ideal.cos (angle (r.val % 4096) (j.val % 128))
      - z X G W r ⟨b + (j.val + 64), by omega⟩ * Ideal.sin (angle (r.val % 4096) (j.val % 128))
  else
    z X G W r ⟨b + (j.val - 64), by omega⟩ * Ideal.sin (angle (r.val % 4096) (j.val % 128 - 64))
      + z X G W r ⟨b + j.val, by omega⟩ * Ideal.cos (angle (r.val % 4096) (j.val % 128 - 64))

/-- A gate: the value times its logistic. -/
def gate (b : ℕ) (hb : b ≤ 3584) (r : Fin 16384) (j : Fin 512) : EReal :=
  z X G W r ⟨b + j.val, by omega⟩ * Ideal.div 1 (1 + Ideal.exp (-z X G W r ⟨b + j.val, by omega⟩))

/-- A head of 64 lanes after its mean-square norm. -/
def head (b : ℕ) (hb : b ≤ 3584) (r : Fin 16384) (j : Fin 512) : EReal :=
  z X G W r ⟨b + j.val, by omega⟩ * Ideal.rsqrt (Ideal.div
    (∑ x : Fin 64, z X G W r ⟨b + (j.val / 64 * 64 + x.val), by omega⟩ * z X G W r ⟨b + (j.val / 64 * 64 + x.val), by omega⟩)
    (Ideal.ofBits .f32 1115684864#32) + Ideal.ofBits .f32 897988541#32)

/-- The forget gate's logarithm: the smaller of the value and zero, less the logarithm of one and the decayed exponential. -/
def logf (B : FVec Ideal S8 .f32) (i : Fin 8) (r : Fin 16384) : EReal :=
  min (z X G W r ⟨4096 + i.val, by omega⟩ + B (ix1 i)) 0
    - Ideal.log1p (Ideal.exp (-max (z X G W r ⟨4096 + i.val, by omega⟩ + B (ix1 i)) (-(z X G W r ⟨4096 + i.val, by omega⟩ + B (ix1 i)))))

/-- The forget gates' logarithms summed over the rows of the sequence so far. -/
def running (B : FVec Ideal S8 .f32) (i : Fin 8) (r : Fin 16384) : EReal :=
  ∑ p ∈ Finset.range (r.val % 4096 + 1), if h : r.val / 4096 * 4096 + p < 16384 then logf X G W B i ⟨r.val / 4096 * 4096 + p, h⟩ else 0

/-- Every row, gain and weight is a real number. -/
structure Real (X : FVec Ideal S16384x1024 .f32) (G : FVec Ideal S1024 .f32) (W : FVec Ideal S1024x4104 .f32) : Prop where
  row : ∀ i, ∃ r : ℝ, X i = r
  gain : ∀ i, ∃ r : ℝ, G i = r
  weight : ∀ i, ∃ r : ℝ, W i = r

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is one. -/
theorem real_sum {ι : Type*} (s : Finset ι) (f : ι → EReal) (h : ∀ i, ∃ r : ℝ, f i = r) : ∃ r : ℝ, ∑ i ∈ s, f i = r := by
  choose g hg using h
  exact ⟨∑ i ∈ s, g i, by simp only [hg]; exact (coe_sum s g).symm⟩

theorem real_mul {a b : EReal} (ha : ∃ r : ℝ, a = r) (hb : ∃ r : ℝ, b = r) : ∃ r : ℝ, a * b = r := by
  obtain ⟨u, rfl⟩ := ha
  obtain ⟨v, rfl⟩ := hb
  exact ⟨u * v, (EReal.coe_mul u v).symm⟩

theorem eps_pos : ∃ e : ℝ, 0 < e ∧ Ideal.ofBits .f32 897988541#32 = e := by
  refine ⟨8796093 * (2 ^ 43)⁻¹, by positivity, ?_⟩
  simp [Ideal.ofBits, Ideal.ieee]

theorem width : Ideal.ofBits .f32 1149239296#32 = ((1024 : ℝ) : EReal) := by
  simp only [Ideal.ofBits, Ideal.ieee]
  simp
  rw [← EReal.coe_mul]
  norm_num

theorem sixtyfour : Ideal.ofBits .f32 1115684864#32 = ((64 : ℝ) : EReal) := by
  simp only [Ideal.ofBits, Ideal.ieee]
  simp
  rw [← EReal.coe_mul]
  norm_num

theorem sixtyfourth : Ideal.ofBits .f32 1015021568#32 = ((1 / 64 : ℝ) : EReal) := by
  simp only [Ideal.ofBits, Ideal.ieee]
  simp
  rw [← EReal.coe_mul]
  norm_num

/-- A projected row of real numbers is real. -/
theorem z_real {X G W} (h : Real X G W) (r : Fin 16384) (j : Fin 4104) : ∃ u : ℝ, z X G W r j = u := by
  have hs : ∃ s : ℝ, Ideal.rsqrt (Ideal.div (∑ x : Fin 1024, X (ix2 r x) * X (ix2 r x)) (Ideal.ofBits .f32 1149239296#32)
      + Ideal.ofBits .f32 897988541#32) = s := by
    choose g hg using h.row
    obtain ⟨e, he, hE⟩ := eps_pos
    have hsum : (∑ x : Fin 1024, X (ix2 r x) * X (ix2 r x)) = ((∑ x : Fin 1024, g (ix2 r x) * g (ix2 r x) : ℝ) : EReal) := by
      rw [coe_sum]
      exact Finset.sum_congr rfl fun x _ => by rw [hg, EReal.coe_mul]
    have hnn : 0 ≤ ∑ x : Fin 1024, g (ix2 r x) * g (ix2 r x) := Finset.sum_nonneg fun x _ => mul_self_nonneg _
    generalize (∑ x : Fin 1024, g (ix2 r x) * g (ix2 r x)) = q at hsum hnn
    have hq : 0 < q / 1024 + e := by positivity
    have hd : Ideal.div ((q : ℝ) : EReal) ((1024 : ℝ) : EReal) = ((q / 1024 : ℝ) : EReal) := by
      unfold Ideal.div
      rw [if_neg (by norm_num), div_eq_mul_inv, EReal.coe_mul, EReal.coe_inv]
    rw [hsum, width, hE, hd, ← EReal.coe_add]
    refine ⟨(Real.sqrt (q / 1024 + e))⁻¹, ?_⟩
    show (if q / 1024 + e < 0 then ⊥ else if q / 1024 + e = 0 then ⊤ else _) = _
    rw [if_neg (not_lt.mpr hq.le), if_neg hq.ne']
  exact real_sum _ _ fun k => real_mul (real_mul (real_mul (h.row _) hs) (h.gain _)) (h.weight _)

end Cert.Rows

end
-- ==== Proof.ProjIn.lean ====
/-
  The projection's blocks at a grid point, as the arguments' entries.
-/
module

public import proofs.«01_k».proof.Proof.Gen.ProjIdeal.Frame.Runs
public import proofs.«01_k».proof.Proof.ProjSpec
public import Idealize.ShloMosaic.Lib.Pipeline.ValueKit
public import Idealize.ShloMosaic.Lib.Claim

@[expose] public section

set_option maxRecDepth 16384

noncomputable section

namespace Cert.ProjIdeal.In

open Cert Cert.ProjIdeal Cert.ProjIdeal.Gen Idealize.ShloMosaic Idealize.ShloMosaic.TcCoe Idealize.SL.Sem

theorem idx : ∀ t : Fin cfg0.N,
    win0_0.index t = ![t.val, 0] ∧ win0_1.index t = ![0, 0] ∧ win0_2.index t = ![0, 0] ∧ win0_3.index t = ![0, 0]
    ∧ win0_4.index t = ![0, 0] ∧ win0_5.index t = ![t.val % 8, 0] ∧ win0_6.index t = ![t.val % 8, 0] ∧ win0_7.index t = ![0, 0]
    ∧ win0_8.index t = ![0, 0] ∧ win0_9.index t = ![0, 0] ∧ t.val < 32 :=
  (by decide +kernel : ∀ t : Fin grid0.N, _)

variable (m : (ℓ : Loc nD τ sig) → Buf (Elt Ideal) ℓ) (c : Dev nD) (t : Fin cfg0.N)

abbrev X : FVec Ideal S16384x1024 .f32 := m ((c : Thread nD τ).loc main_arg0)
abbrev G : FVec Ideal S1024 .f32 := m ((c : Thread nD τ).loc main_arg1)
abbrev W : FVec Ideal S1024x4104 .f32 := m ((c : Thread nD τ).loc main_arg2)
abbrev Q : FVec Ideal S64 .f32 := m ((c : Thread nD τ).loc main_arg3)
abbrev K : FVec Ideal S64 .f32 := m ((c : Thread nD τ).loc main_arg4)
abbrev B : FVec Ideal S8 .f32 := m ((c : Thread nD τ).loc main_arg5)

/-- The array's row behind a block's row. -/
abbrev row (i : Fin 512) : Fin 16384 := ⟨512 * t.val + i.val, by have := (idx t).2.2.2.2.2.2.2.2.2.2; omega⟩

theorem blk0 (i : Fin 512) (k : Fin 1024) : (show FVec Ideal S512x1024 .f32 from iblk m c 0 t) (ix2 i k) = X m c (ix2 (row t i) k) := by
  blk_point [iblk, V, idx t]

/-! The prepared operands, as the region finds them. -/

theorem v43 (k : Fin 1024) : (show FVec Ideal S1x1024 .f32 from V m c main_v43) (ix2 0 k) = G m c (ix1 k) := by
  simp only [V, hostOps0, hostOps0_1, hostOps0_2, List.flatten_cons, List.flatten_nil, List.append_nil, List.cons_append, List.nil_append]
  after_results
  pointwise

theorem v1 (k : Fin 1024) (j : Fin 4096) : (show FVec Ideal S1024x4096 .bf16 from V m c main_v1) (ix2 k j) = W m c (ix2 k ⟨j.val, by omega⟩) := by
  simp only [V, hostOps0, hostOps0_1, hostOps0_2, List.flatten_cons, List.flatten_nil, List.append_nil, List.cons_append, List.nil_append]
  after_results
  pointwise

theorem v4 (k : Fin 1024) (j : Fin 8) : (show FVec Ideal S8x1024 .bf16 from V m c main_v4) (ix2 j k) = W m c (ix2 k ⟨4096 + j.val, by omega⟩) := by
  simp only [V, hostOps0, hostOps0_1, hostOps0_2, List.flatten_cons, List.flatten_nil, List.append_nil, List.cons_append, List.nil_append]
  after_results
  pointwise

theorem v44 (j : Fin 8) : (show FVec Ideal S8x1 .f32 from V m c main_v44) (ix2 j 0) = B m c (ix1 j) := by
  simp only [V, hostOps0, hostOps0_1, hostOps0_2, List.flatten_cons, List.flatten_nil, List.append_nil, List.cons_append, List.nil_append]
  after_results
  pointwise

theorem v32 (r : Fin 4096) (j : Fin 128) : (show FVec Ideal S4096x128 .f32 from V m c main_v32) (ix2 r j) = if j.val < 64 then Ideal.cos (Rows.angle r.val j.val) else Ideal.cos (Rows.angle r.val (j.val - 64)) := by
  simp only [V, hostOps0, hostOps0_1, hostOps0_2, List.flatten_cons, List.flatten_nil, List.append_nil, List.cons_append, List.nil_append]
  after_results
  pointwise
  rfl

theorem v34 (r : Fin 4096) (j : Fin 128) : (show FVec Ideal S4096x128 .f32 from V m c main_v34) (ix2 r j) = if j.val < 64 then -Ideal.sin (Rows.angle r.val j.val) else Ideal.sin (Rows.angle r.val (j.val - 64)) := by
  simp only [V, hostOps0, hostOps0_1, hostOps0_2, List.flatten_cons, List.flatten_nil, List.append_nil, List.cons_append, List.nil_append]
  after_results
  pointwise
  rfl

theorem v45 (j : Fin 512) : (show FVec Ideal S1x512 .f32 from V m c main_v45) (ix2 0 j) = Q m c (ix1 ⟨j.val % 64, by omega⟩) * Ideal.ofBits .f32 1040187392#32 := by
  simp only [V, hostOps0, hostOps0_1, hostOps0_2, List.flatten_cons, List.flatten_nil, List.append_nil, List.cons_append, List.nil_append]
  after_results
  pointwise

theorem v46 (j : Fin 512) : (show FVec Ideal S1x512 .f32 from V m c main_v46) (ix2 0 j) = K m c (ix1 ⟨j.val % 64, by omega⟩) := by
  simp only [V, hostOps0, hostOps0_1, hostOps0_2, List.flatten_cons, List.flatten_nil, List.append_nil, List.cons_append, List.nil_append]
  after_results
  pointwise

/-- The lane's head, as the host computes it: the quotient by 64, one less where the signs differ and the division is not exact. -/
def headOf (v : BitVec 32) : BitVec 32 :=
  Scalar.select
    (IntOp.andi
      (IntOp.cmpi CmpIPredicate.ne (if v = 0 then (0 : BitVec 32) else if v.msb = true then -1 else 1)
        (if 64#32 = 0 then (0 : BitVec 32) else if (64#32).msb = true then -1 else 1))
      (IntOp.cmpi CmpIPredicate.ne (IntOp.remsi ArithUnit.host v 64#32) 0#32))
    (IntOp.subi (IntOp.divsi ArithUnit.host v 64#32) 1#32)
    (IntOp.divsi ArithUnit.host v 64#32)

theorem headOf_lane : ∀ r : Fin 512, headOf (BitVec.ofNat 32 r.val) = BitVec.ofNat 32 (r.val / 64) := by decide +kernel

theorem same_head : ∀ a b : Fin 8, IntOp.cmpi CmpIPredicate.eq (BitVec.ofNat 32 a.val) (BitVec.ofNat 32 b.val) = if a = b then 1#1 else 0#1 := by
  decide +kernel

theorem v12 (r j : Fin 512) : (show FVec Ideal S512x512 .bf16 from V m c main_v12) (ix2 r j) = if r.val / 64 = j.val / 64 then 1 else 0 := by
  simp only [V, hostOps0, hostOps0_1, hostOps0_2, List.flatten_cons, List.flatten_nil, List.append_nil, List.cons_append, List.nil_append]
  after_results
  simp only [StableHlo.TRef.toBuf, StableHlo.TRef.ofBuf, id_eq, cast_eq]
  pointwise
  show FloatOps.uitofp (F := Ideal) FTy.bf16 (IntOp.cmpi CmpIPredicate.eq (headOf (BitVec.ofNat 32 r.val)) (headOf (BitVec.ofNat 32 j.val))) = _
  rw [headOf_lane, headOf_lane]
  have := same_head ⟨r.val / 64, by omega⟩ ⟨j.val / 64, by omega⟩
  dsimp only at this
  rw [this]
  by_cases h : r.val / 64 = j.val / 64
  · simp [h, FloatOps.uitofp]
  · simp [h, FloatOps.uitofp]

/-! The blocks. -/

theorem blk1 (k : Fin 1024) : (show FVec Ideal S1x1024 .f32 from iblk m c 1 t) (ix2 0 k) = G m c (ix1 k) := by
  refine Eq.trans ?_ (v43 m c k)
  blk_ext [iblk, idx t]

theorem blk2 (k : Fin 1024) (j : Fin 4096) : (show FVec Ideal S1024x4096 .bf16 from iblk m c 2 t) (ix2 k j) = W m c (ix2 k ⟨j.val, by omega⟩) := by
  refine Eq.trans ?_ (v1 m c k j)
  blk_ext [iblk, idx t]

theorem blk3 (k : Fin 1024) (j : Fin 8) : (show FVec Ideal S8x1024 .bf16 from iblk m c 3 t) (ix2 j k) = W m c (ix2 k ⟨4096 + j.val, by omega⟩) := by
  refine Eq.trans ?_ (v4 m c k j)
  blk_ext [iblk, idx t]

theorem blk4 (j : Fin 8) : (show FVec Ideal S8x1 .f32 from iblk m c 4 t) (ix2 j 0) = B m c (ix1 j) := by
  refine Eq.trans ?_ (v44 m c j)
  blk_ext [iblk, idx t]

theorem blk5 (i : Fin 512) (j : Fin 128) : (show FVec Ideal S512x128 .f32 from iblk m c 5 t) (ix2 i j) = if j.val < 64 then Ideal.cos (Rows.angle (512 * (t.val % 8) + i.val) j.val) else Ideal.cos (Rows.angle (512 * (t.val % 8) + i.val) (j.val - 64)) := by
  refine Eq.trans ?_ (v32 m c ⟨512 * (t.val % 8) + i.val, by omega⟩ j)
  blk_ext [iblk, idx t]

theorem blk6 (i : Fin 512) (j : Fin 128) : (show FVec Ideal S512x128 .f32 from iblk m c 6 t) (ix2 i j) = if j.val < 64 then -Ideal.sin (Rows.angle (512 * (t.val % 8) + i.val) j.val) else Ideal.sin (Rows.angle (512 * (t.val % 8) + i.val) (j.val - 64)) := by
  refine Eq.trans ?_ (v34 m c ⟨512 * (t.val % 8) + i.val, by omega⟩ j)
  blk_ext [iblk, idx t]

theorem blk7 (j : Fin 512) : (show FVec Ideal S1x512 .f32 from iblk m c 7 t) (ix2 0 j) = Q m c (ix1 ⟨j.val % 64, by omega⟩) * Ideal.ofBits .f32 1040187392#32 := by
  refine Eq.trans ?_ (v45 m c j)
  blk_ext [iblk, idx t]

theorem blk8 (j : Fin 512) : (show FVec Ideal S1x512 .f32 from iblk m c 8 t) (ix2 0 j) = K m c (ix1 ⟨j.val % 64, by omega⟩) := by
  refine Eq.trans ?_ (v46 m c j)
  blk_ext [iblk, idx t]

theorem blk9 (r j : Fin 512) : (show FVec Ideal S512x512 .bf16 from iblk m c 9 t) (ix2 r j) = if r.val / 64 = j.val / 64 then 1 else 0 := by
  refine Eq.trans ?_ (v12 m c r j)
  blk_ext [iblk, idx t]

/-! The normed rows and the projected columns. -/

theorem pay4_at (i : Fin 512) (k : Fin 1024) :
    k0_pay4 (F := Ideal) (iblk m c 0 t) (iblk m c 1 t) (ix2 i k) = Rows.normed (X m c) (G m c) (row t i) k := by
  pointwise [k0_pay4]
  simp only [blk0, blk1]
  rfl

end Cert.ProjIdeal.In

end
-- ==== Proof.ProjPoint.lean ====
/-
  What the body computes at a grid point, as the entries of the projection's results.
-/
module

public import proofs.«01_k».proof.Proof.ProjIn
public import proofs.«01_k».proof.Proof.ProjOuts

@[expose] public section

set_option maxRecDepth 16384

noncomputable section

namespace Cert.ProjIdeal.Point

open Cert Cert.ProjIdeal Cert.ProjIdeal.Gen Cert.ProjIdeal.In Idealize.ShloMosaic Idealize.ShloMosaic.TcCoe Idealize.SL.Sem

variable (m : (ℓ : Loc nD τ sig) → Buf (Elt Ideal) ℓ) (c : Dev nD) (t : Fin cfg0.N)

/-- A turned lane, from the tile's lane and the lane half a head away. -/
theorem turn (b : ℕ) (hb : b ≤ 3584) (i : Fin 512) (f : Fin 512 → EReal)
    (hf : ∀ j : Fin 512, f j = Rows.z (X m c) (G m c) (W m c) (row t i) ⟨b + j.val, by omega⟩) (j a a' : Fin 512) (k : Fin 128)
    (hk : j.val % 128 = k.val) (ha : a.val = j.val) (ha' : a'.val = j.val / 128 * 128 + (k.val + 128 - 64) % 128) :
    f a * (if k.val < 64 then Ideal.cos (Rows.angle (512 * (t.val % 8) + i.val) k.val) else Ideal.cos (Rows.angle (512 * (t.val % 8) + i.val) (k.val - 64)))
      + f a' * (if k.val < 64 then -Ideal.sin (Rows.angle (512 * (t.val % 8) + i.val) k.val) else Ideal.sin (Rows.angle (512 * (t.val % 8) + i.val) (k.val - 64)))
      = Rows.rot (X m c) (G m c) (W m c) b hb (row t i) j := by
  have hp : (row t i).val % 4096 = 512 * (t.val % 8) + i.val := by dsimp only [row]; omega
  unfold Rows.rot
  simp only [hp, hk, hf, ha]
  by_cases h : k.val < 64
  · have e : a'.val = j.val + 64 := by omega
    simp only [h, if_true, dif_pos, e, mul_neg, sub_eq_add_neg]
  · have e : a'.val = j.val - 64 := by omega
    simp only [h, if_false, dif_neg, not_false_eq_true, e]
    exact add_comm _ _

/-- A gated entry: the quotient is the product with the logistic. -/
theorem gated {u : EReal} (h : ∃ r : ℝ, u = r) : Ideal.div u (1 + Ideal.exp (0 - u)) = u * Ideal.div 1 (1 + Ideal.exp (-u)) := by
  obtain ⟨r, rfl⟩ := h
  have hne : (1 : EReal) + Ideal.exp (-(r : EReal)) ≠ 0 := by
    show (1 : EReal) + ((Real.exp (-r) : ℝ) : EReal) ≠ 0
    rw [← EReal.coe_one, ← EReal.coe_add]
    have := Real.exp_pos (-r)
    exact_mod_cast (by positivity : (1 + Real.exp (-r)) ≠ 0)
  rw [zero_sub]
  unfold Ideal.div
  rw [if_neg hne, if_neg hne, one_mul]

/-- The sum over the lanes of one head. -/
theorem head_sum (f : Fin 512 → EReal) (j : Fin 512) :
    (∑ x : Fin 512, f x * (if x.val / 64 = j.val / 64 then 1 else 0)) = ∑ x : Fin 64, f ⟨j.val / 64 * 64 + x.val, by omega⟩ := by
  have e : ∀ x : Fin 512, f x * (if x.val / 64 = j.val / 64 then (1 : EReal) else 0) = if x.val / 64 = j.val / 64 then f x else 0 := by
    intro x
    split <;> simp
  simp only [e]
  rw [← Finset.sum_filter]
  symm
  refine Finset.sum_bij (fun x _ => (⟨j.val / 64 * 64 + x.val, by omega⟩ : Fin 512)) ?_ ?_ ?_ ?_
  · intro x _
    simp only [Finset.mem_filter, Finset.mem_univ, true_and]
    omega
  · intro x _ y _ h
    have := congrArg Fin.val h
    dsimp only at this
    exact Fin.ext (by omega)
  · intro y hy
    simp only [Finset.mem_filter, Finset.mem_univ, true_and] at hy
    exact ⟨⟨y.val % 64, by omega⟩, Finset.mem_univ _, Fin.ext (by dsimp only; omega)⟩
  · intro x _
    rfl

/-- A normed head's entry: the two sums against the ones of the head's lanes are its sum of squares. -/
theorem headed {X G W} (hr : Rows.Real X G W) (b : ℕ) (hb : b ≤ 3584) (r : Fin 16384) (j : Fin 512) (f : Fin 512 → EReal)
    (hf : ∀ j : Fin 512, f j = Rows.z X G W r ⟨b + j.val, by omega⟩) :
    f j * Ideal.rsqrt (((∑ x : Fin 512, f x * f x * (if x.val / 64 = j.val / 64 then 1 else 0))
      + ∑ x : Fin 512, (f x * f x - f x * f x) * (if x.val / 64 = j.val / 64 then 1 else 0)) * Ideal.ofBits .f32 1015021568#32
      + Ideal.ofBits .f32 897988541#32) = Rows.head X G W b hb r j := by
  have h0 : ∀ x : Fin 512, (f x * f x - f x * f x) = 0 := by
    intro x
    rw [hf]
    obtain ⟨u, hu⟩ := Rows.z_real hr r ⟨b + x.val, by omega⟩
    rw [hu, ← EReal.coe_mul, ← EReal.coe_sub, sub_self, EReal.coe_zero]
  simp only [h0, zero_mul, Finset.sum_const_zero, add_zero]
  rw [head_sum (fun x => f x * f x) j]
  have hd : ∀ s : EReal, s * Ideal.ofBits .f32 1015021568#32 = Ideal.div s (Ideal.ofBits .f32 1115684864#32) := by
    intro s
    rw [Rows.sixtyfour, Rows.sixtyfourth]
    unfold Ideal.div
    rw [if_neg (by norm_num), ← EReal.coe_inv, one_div]
  rw [hd]
  unfold Rows.head
  simp only [hf]

theorem p17 (i j : Fin 512) : k0_pay17 (F := Ideal) (k0_pay4 (iblk m c 0 t) (iblk m c 1 t))
      (View.ld (iblk m c 2 t) (Rect.unit ![0, 1024] ![1024, 512] inb_S1024x4096_S1024x512_0_1024)) (ix2 i j)
    = Rows.z (X m c) (G m c) (W m c) (row t i) ⟨1024 + j.val, by omega⟩ := by
  pointwise [k0_pay17]
  simp only [pay4_at, blk2]
  rfl

theorem p7 (i j : Fin 512) : k0_pay7 (F := Ideal) (iblk m c 0 t) (iblk m c 1 t)
      (View.ld (iblk m c 2 t) (Rect.unit ![0, 0] ![1024, 512] inb_S1024x4096_S1024x512_0_0)) (ix2 i j)
    = Rows.z (X m c) (G m c) (W m c) (row t i) ⟨0 + j.val, by omega⟩ := by
  unfold k0_pay7
  pointwise
  simp only [pay4_at, blk2]
  unfold Rows.z
  simp only [Nat.zero_add]

theorem p18 (hr : Rows.Real (X m c) (G m c) (W m c)) (i j : Fin 512) : k0_pay18 (F := Ideal) (k0_pay4 (iblk m c 0 t) (iblk m c 1 t))
      (View.ld (iblk m c 2 t) (Rect.unit ![0, 1536] ![1024, 512] inb_S1024x4096_S1024x512_0_1536)) (ix2 i j)
    = Rows.gate (X m c) (G m c) (W m c) 1536 (by omega) (row t i) j := by
  pointwise [k0_pay18]
  simp only [pay4_at, blk2]
  exact gated (Rows.z_real hr (row t i) ⟨1536 + j.val, by omega⟩)

theorem p19 (hr : Rows.Real (X m c) (G m c) (W m c)) (i j : Fin 512) : k0_pay19 (F := Ideal) (k0_pay4 (iblk m c 0 t) (iblk m c 1 t))
      (View.ld (iblk m c 2 t) (Rect.unit ![0, 2048] ![1024, 512] inb_S1024x4096_S1024x512_0_2048)) (iblk m c 7 t) (iblk m c 9 t) (iblk m c 9 t) (ix2 i j)
    = Rows.head (X m c) (G m c) (W m c) 2048 (by omega) (row t i) j * (Q m c (ix1 ⟨j.val % 64, by omega⟩) * Ideal.ofBits .f32 1040187392#32) := by
  pointwise [k0_pay19]
  simp only [pay4_at, blk2, blk7, blk9]
  exact congrArg (· * _) (headed hr 2048 (by omega) (row t i) j (fun j => Rows.z (X m c) (G m c) (W m c) (row t i) ⟨2048 + j.val, by omega⟩) (fun _ => rfl))

theorem p20 (hr : Rows.Real (X m c) (G m c) (W m c)) (i j : Fin 512) : k0_pay20 (F := Ideal) (k0_pay4 (iblk m c 0 t) (iblk m c 1 t))
      (View.ld (iblk m c 2 t) (Rect.unit ![0, 2560] ![1024, 512] inb_S1024x4096_S1024x512_0_2560)) (iblk m c 8 t) (iblk m c 9 t) (iblk m c 9 t) (ix2 i j)
    = Rows.head (X m c) (G m c) (W m c) 2560 (by omega) (row t i) j * K m c (ix1 ⟨j.val % 64, by omega⟩) := by
  pointwise [k0_pay20]
  simp only [pay4_at, blk2, blk8, blk9]
  exact congrArg (· * _) (headed hr 2560 (by omega) (row t i) j (fun j => Rows.z (X m c) (G m c) (W m c) (row t i) ⟨2560 + j.val, by omega⟩) (fun _ => rfl))

theorem p22 (i j : Fin 512) : k0_pay22 (F := Ideal) (k0_pay4 (iblk m c 0 t) (iblk m c 1 t))
      (View.ld (iblk m c 2 t) (Rect.unit ![0, 3072] ![1024, 512] inb_S1024x4096_S1024x512_0_3072)) (ix2 i j)
    = Rows.z (X m c) (G m c) (W m c) (row t i) ⟨3072 + j.val, by omega⟩ := by
  pointwise [k0_pay22]
  simp only [pay4_at, blk2]
  rfl

theorem p24 (hr : Rows.Real (X m c) (G m c) (W m c)) (i j : Fin 512) : k0_pay24 (F := Ideal) (k0_pay4 (iblk m c 0 t) (iblk m c 1 t))
      (View.ld (iblk m c 2 t) (Rect.unit ![0, 3584] ![1024, 512] inb_S1024x4096_S1024x512_0_3584)) (ix2 i j)
    = Rows.gate (X m c) (G m c) (W m c) 3584 (by omega) (row t i) j := by
  pointwise [k0_pay24]
  simp only [pay4_at, blk2]
  exact gated (Rows.z_real hr (row t i) ⟨3584 + j.val, by omega⟩)

theorem p25 (i : Fin 8) (j : Fin 512) : k0_pay25 (F := Ideal) (k0_pay4 (iblk m c 0 t) (iblk m c 1 t)) (iblk m c 3 t) (iblk m c 4 t) (ix2 i j)
    = Rows.logf (X m c) (G m c) (W m c) (B m c) i (row t j) := by
  pointwise [k0_pay25]
  simp only [pay4_at, blk3, blk4]
  have e : (∑ k : Fin 1024, W m c (ix2 k ⟨4096 + i.val, by omega⟩) * Rows.normed (X m c) (G m c) (row t j) k)
      = Rows.z (X m c) (G m c) (W m c) (row t j) ⟨4096 + i.val, by omega⟩ := Finset.sum_congr rfl fun k _ => mul_comm _ _
  rw [e, zero_sub]
  rfl

theorem p12 (i j : Fin 512) : k0_pay12 (F := Ideal) (k0_pay4 (iblk m c 0 t) (iblk m c 1 t))
      (View.ld (iblk m c 2 t) (Rect.unit ![0, 512] ![1024, 512] inb_S1024x4096_S1024x512_0_512)) (ix2 i j)
    = Rows.z (X m c) (G m c) (W m c) (row t i) ⟨512 + j.val, by omega⟩ := by
  pointwise [k0_pay12]
  simp only [pay4_at, blk2]
  rfl

set_option maxHeartbeats 1600000 in
/-- The first group of columns, turned. -/
theorem left10 (i j : Fin 512) : (outsAt0 m c t.val t.isLt).1 (ix2 i j) = Rows.rot (X m c) (G m c) (W m c) 0 (by omega) (row t i) j := by
  by_cases hc : t.val % 8 = 0
  all_goals
    first
    | rw [outsAt0_A m c t hc]
    | rw [outsAt0_B m c t hc]
    frame_open
    simp only [run0_A, run0_B]
    frame_out
    clear hc
    canon_tiles x h
    all_goals
      idx_vars x
      have hi : i = x0 := Fin.ext h0
      replace h1 : j.val = _ := h1
      have x1_lt : x1.val < 128 := x1.isLt
      rw [hi]
      clear hi h0
      pointwise [k0_pay8, k0_pay9, k0_pay10, k0_pay11, k0_pay5, k0_pay6]
      simp only [blk5, blk6]
      exact turn m c t 0 (by omega) x0 (fun j => k0_pay7 (F := Ideal) (iblk m c 0 t) (iblk m c 1 t)
        (View.ld (iblk m c 2 t) (Rect.unit ![0, 0] ![1024, 512] inb_S1024x4096_S1024x512_0_0)) (ix2 x0 j)) (p7 m c t x0) j _ _ x1
        (by omega) (by dsimp only; omega) (by dsimp only; omega)

set_option maxHeartbeats 1600000 in
/-- The second group of columns, turned and scaled. -/
theorem left11 (i j : Fin 512) : (outsAt0 m c t.val t.isLt).2.1 (ix2 i j) = Rows.rot (X m c) (G m c) (W m c) 512 (by omega) (row t i) j * Ideal.ofBits .f32 1035273459#32 := by
  by_cases hc : t.val % 8 = 0
  all_goals
    first
    | rw [outsAt0_A m c t hc]
    | rw [outsAt0_B m c t hc]
    frame_open
    simp only [run0_A, run0_B]
    frame_out
    clear hc
    canon_tiles x h
    all_goals
      idx_vars x
      have hi : i = x0 := Fin.ext h0
      replace h1 : j.val = _ := h1
      have x1_lt : x1.val < 128 := x1.isLt
      rw [hi]
      clear hi h0
      pointwise [k0_pay13, k0_pay14, k0_pay15, k0_pay16, k0_pay5, k0_pay6]
      simp only [blk5, blk6]
      exact congrArg (· * _) (turn m c t 512 (by omega) x0 (fun j => k0_pay12 (F := Ideal) (k0_pay4 (iblk m c 0 t) (iblk m c 1 t))
        (View.ld (iblk m c 2 t) (Rect.unit ![0, 512] ![1024, 512] inb_S1024x4096_S1024x512_0_512)) (ix2 x0 j)) (p12 m c t x0) j _ _ x1
        (by omega) (by dsimp only; omega) (by dsimp only; omega))

set_option maxHeartbeats 1600000 in
/-- The third group of columns. -/
theorem left12 (i j : Fin 512) : (outsAt0 m c t.val t.isLt).2.2.1 (ix2 i j)
    = Rows.z (X m c) (G m c) (W m c) (row t i) ⟨1024 + j.val, by omega⟩ := by
  by_cases hc : t.val % 8 = 0
  all_goals
    first
    | rw [outsAt0_A m c t hc]
    | rw [outsAt0_B m c t hc]
    frame_open
    simp only [run0_A, run0_B]
    frame_out
    exact p17 m c t i j

set_option maxHeartbeats 1600000 in
/-- The first gate. -/
theorem left13 (hr : Rows.Real (X m c) (G m c) (W m c)) (i j : Fin 512) : (outsAt0 m c t.val t.isLt).2.2.2.1 (ix2 i j)
    = Rows.gate (X m c) (G m c) (W m c) 1536 (by omega) (row t i) j := by
  by_cases hc : t.val % 8 = 0
  all_goals
    first
    | rw [outsAt0_A m c t hc]
    | rw [outsAt0_B m c t hc]
    frame_open
    simp only [run0_A, run0_B]
    frame_out
    exact p18 m c t hr i j

set_option maxHeartbeats 1600000 in
/-- The queries of the attention. -/
theorem left14 (hr : Rows.Real (X m c) (G m c) (W m c)) (i j : Fin 512) : (outsAt0 m c t.val t.isLt).2.2.2.2.1 (ix2 i j)
    = Rows.head (X m c) (G m c) (W m c) 2048 (by omega) (row t i) j * (Q m c (ix1 ⟨j.val % 64, by omega⟩) * Ideal.ofBits .f32 1040187392#32) := by
  by_cases hc : t.val % 8 = 0
  all_goals
    first
    | rw [outsAt0_A m c t hc]
    | rw [outsAt0_B m c t hc]
    frame_open
    simp only [run0_A, run0_B]
    frame_out
    exact p19 m c t hr i j

set_option maxHeartbeats 1600000 in
/-- The keys of the attention. -/
theorem left15 (hr : Rows.Real (X m c) (G m c) (W m c)) (i j : Fin 512) : (outsAt0 m c t.val t.isLt).2.2.2.2.2.1 (ix2 i j)
    = Rows.head (X m c) (G m c) (W m c) 2560 (by omega) (row t i) j * K m c (ix1 ⟨j.val % 64, by omega⟩) := by
  by_cases hc : t.val % 8 = 0
  all_goals
    first
    | rw [outsAt0_A m c t hc]
    | rw [outsAt0_B m c t hc]
    frame_open
    simp only [run0_A, run0_B]
    frame_out
    exact p20 m c t hr i j

set_option maxHeartbeats 1600000 in
/-- The keys again, in the smaller type. -/
theorem left16 (hr : Rows.Real (X m c) (G m c) (W m c)) (i j : Fin 512) : (outsAt0 m c t.val t.isLt).2.2.2.2.2.2.1 (ix2 i j)
    = Rows.head (X m c) (G m c) (W m c) 2560 (by omega) (row t i) j * K m c (ix1 ⟨j.val % 64, by omega⟩) := by
  by_cases hc : t.val % 8 = 0
  all_goals
    first
    | rw [outsAt0_A m c t hc]
    | rw [outsAt0_B m c t hc]
    frame_open
    simp only [run0_A, run0_B]
    frame_out
    exact p20 m c t hr i j

set_option maxHeartbeats 1600000 in
/-- The values of the attention. -/
theorem left17 (i j : Fin 512) : (outsAt0 m c t.val t.isLt).2.2.2.2.2.2.2.1 (ix2 i j)
    = Rows.z (X m c) (G m c) (W m c) (row t i) ⟨3072 + j.val, by omega⟩ := by
  by_cases hc : t.val % 8 = 0
  all_goals
    first
    | rw [outsAt0_A m c t hc]
    | rw [outsAt0_B m c t hc]
    frame_open
    simp only [run0_A, run0_B]
    frame_out
    exact p22 m c t i j

set_option maxHeartbeats 1600000 in
/-- The values again, in the smaller type. -/
theorem left18 (i j : Fin 512) : (outsAt0 m c t.val t.isLt).2.2.2.2.2.2.2.2.1 (ix2 i j)
    = Rows.z (X m c) (G m c) (W m c) (row t i) ⟨3072 + j.val, by omega⟩ := by
  by_cases hc : t.val % 8 = 0
  all_goals
    first
    | rw [outsAt0_A m c t hc]
    | rw [outsAt0_B m c t hc]
    frame_open
    simp only [run0_A, run0_B]
    frame_out
    exact p22 m c t i j

set_option maxHeartbeats 1600000 in
/-- The second gate. -/
theorem left19 (hr : Rows.Real (X m c) (G m c) (W m c)) (i j : Fin 512) : (outsAt0 m c t.val t.isLt).2.2.2.2.2.2.2.2.2.1 (ix2 i j)
    = Rows.gate (X m c) (G m c) (W m c) 3584 (by omega) (row t i) j := by
  by_cases hc : t.val % 8 = 0
  all_goals
    first
    | rw [outsAt0_A m c t hc]
    | rw [outsAt0_B m c t hc]
    frame_open
    simp only [run0_A, run0_B]
    frame_out
    exact p24 m c t hr i j

set_option maxHeartbeats 1600000 in
/-- The logarithms of the forget gates. -/
theorem left20 (i : Fin 8) (j : Fin 512) : (outsAt0 m c t.val t.isLt).2.2.2.2.2.2.2.2.2.2.1 (ix2 i j)
    = Rows.logf (X m c) (G m c) (W m c) (B m c) i (row t j) := by
  by_cases hc : t.val % 8 = 0
  all_goals
    first
    | rw [outsAt0_A m c t hc]
    | rw [outsAt0_B m c t hc]
    frame_open
    simp only [run0_A, run0_B]
    frame_out
    exact p25 m c t i j

end Cert.ProjIdeal.Point

end
-- ==== Proof.ProjScan.lean ====
/-
  The running sums: the doubling steps over a tile's columns, and the total carried from tile to tile.
-/
module

public import proofs.«01_k».proof.Proof.ProjPoint

@[expose] public section

set_option maxRecDepth 16384

noncomputable section

namespace Cert.ProjIdeal.Scan

open Cert Cert.ProjIdeal Cert.ProjIdeal.Gen Cert.ProjIdeal.In Idealize.ShloMosaic Idealize.ShloMosaic.TcCoe Idealize.SL.Sem

/-- One doubling step: every column plus the column some places before it, where there is one. -/
def stage (s : BitVec 32) (x : FVec Ideal S8x512 .f32) : FVec Ideal S8x512 .f32 :=
  addf x (select (cmpi .sge k0_pay26 (broadcast S8x512 s)) (dynamicRotate 1 s none x rotates_S8x512_d1)
    (broadcast S8x512 (Scalar.ofBits (F := Ideal) .f32 0x00000000#32)))

theorem lane (i : Fin 8) (k : Fin 512) : k0_pay26 (ix2 i k) = BitVec.ofNat 32 k.val := by
  pointwise [k0_pay26]
  exact (by decide +kernel : ∀ k : Fin 512, BitVec.ofNat 32 k.val &&& 511#32 = BitVec.ofNat 32 k.val) k

theorem stage_at (s : ℕ) (hs : s < 512) (x : FVec Ideal S8x512 .f32) (i : Fin 8) (k : Fin 512) :
    stage (BitVec.ofNat 32 s) x (ix2 i k) = x (ix2 i k) + if h : s ≤ k.val then x (ix2 i ⟨k.val - s, by omega⟩) else 0 := by
  have hk := k.isLt
  have hb : (BitVec.ofNat 32 s).toNat = s := by rw [BitVec.toNat_ofNat]; omega
  unfold stage
  pointwise
  rw [lane, WordCmp.cmpi_sge_ofNat (by omega) (by omega)]
  by_cases h : s ≤ k.val
  · rw [dif_pos h, decide_eq_true h]
    refine congrArg (x (ix2 i k) + ·) (congrArg (fun q => x (ix2 i q)) (Fin.ext ?_))
    show (k.val + 512 - (BitVec.ofNat 32 s).toNat % 512) % 512 = k.val - s
    rw [hb]
    omega
  · rw [dif_neg h, decide_eq_false h]
    rfl

/-- A column that sums the columns before it, as many as the width and as there are, doubles its width by one step. -/
theorem doubled (f x y : ℕ → EReal) (s n : ℕ) (hx : ∀ k < n, x k = ∑ p ∈ Finset.range (min s (k + 1)), f (k - p))
    (hy : ∀ k < n, y k = x k + if s ≤ k then x (k - s) else 0) :
    ∀ k < n, y k = ∑ p ∈ Finset.range (min (2 * s) (k + 1)), f (k - p) := by
  intro k hk
  rw [hy k hk, hx k hk]
  by_cases h : s ≤ k
  · rw [if_pos h, hx (k - s) (by omega), min_eq_left (show s ≤ k + 1 by omega),
      show min (2 * s) (k + 1) = s + min s (k - s + 1) by omega, Finset.sum_range_add]
    exact congrArg _ (Finset.sum_congr rfl fun p _ => congrArg f (by omega))
  · rw [if_neg h, add_zero, min_eq_right (by omega), min_eq_right (by omega)]

/-- A row of a tile over all naturals. -/
def along (x : FVec Ideal S8x512 .f32) (i : Fin 8) (k : ℕ) : EReal := if h : k < 512 then x (ix2 i ⟨k, h⟩) else 0

theorem along_stage (s : ℕ) (hs : s < 512) (x : FVec Ideal S8x512 .f32) (i : Fin 8) :
    ∀ k < 512, along (stage (BitVec.ofNat 32 s) x) i k = along x i k + if s ≤ k then along x i (k - s) else 0 := by
  intro k hk
  unfold along
  rw [dif_pos hk, dif_pos hk, stage_at s hs, dif_pos (show k - s < 512 by omega)]
  by_cases h : s ≤ k
  · rw [dif_pos h, if_pos h]
  · rw [dif_neg h, if_neg h]

/-- The nine steps sum a row's columns up to each. -/
theorem stages (x : FVec Ideal S8x512 .f32) (i : Fin 8) (k : Fin 512) :
    stage 256#32 (stage 128#32 (stage 64#32 (stage 32#32 (stage 16#32 (stage 8#32 (stage 4#32 (stage 2#32 (stage 1#32 x)))))))) (ix2 i k)
      = ∑ p ∈ Finset.range (k.val + 1), along x i p := by
  have h0 : ∀ k < 512, along x i k = ∑ p ∈ Finset.range (min 1 (k + 1)), along x i (k - p) := fun k _ => by
    rw [min_eq_left (by omega), Finset.sum_range_one, Nat.sub_zero]
  have h := doubled _ _ _ _ 512 h0 (along_stage 1 (by omega) x i)
  have h := doubled _ _ _ _ 512 h (along_stage 2 (by omega) _ i)
  have h := doubled _ _ _ _ 512 h (along_stage 4 (by omega) _ i)
  have h := doubled _ _ _ _ 512 h (along_stage 8 (by omega) _ i)
  have h := doubled _ _ _ _ 512 h (along_stage 16 (by omega) _ i)
  have h := doubled _ _ _ _ 512 h (along_stage 32 (by omega) _ i)
  have h := doubled _ _ _ _ 512 h (along_stage 64 (by omega) _ i)
  have h := doubled _ _ _ _ 512 h (along_stage 128 (by omega) _ i)
  have h := doubled _ _ _ _ 512 h (along_stage 256 (by omega) _ i) k.val k.isLt
  unfold along at h
  rw [dif_pos k.isLt] at h
  refine h.trans ?_
  rw [min_eq_right (by omega)]
  exact Finset.sum_range_reflect (fun p => along x i p) (k.val + 1)

/-- The column sums the body leaves: the nine steps, and the carried total added to every column. -/
theorem chain (a : FVec Ideal S512x1024 .bf16) (b : Vec Ideal S8x1024 .bf16) (d : Vec Ideal S8x1 .f32) (v : Vec Ideal S8x1 .f32) :
    k0_pay1 k0_pay26 (k0_pay28 k0_pay26 (k0_pay27 a b d) 2#32) (k0_pay29 k0_pay26 (k0_pay27 a b d) 2#32) (k0_pay30 k0_pay26) k0_pay31 v
      = addf (stage 256#32 (stage 128#32 (stage 64#32 (stage 32#32 (stage 16#32 (stage 8#32 (stage 4#32 (stage 2#32 (stage 1#32 (k0_pay25 a b d))))))))))
        (broadcastTo S8x512 v broadcasts_S8x1_S8x512) := rfl

variable (m : (ℓ : Loc nD τ sig) → Buf (Elt Ideal) ℓ) (c : Dev nD)

/-- The forget gates' logarithms over all naturals. -/
def term (i : Fin 8) (n : ℕ) : EReal := if h : n < 16384 then Rows.logf (X m c) (G m c) (W m c) (B m c) i ⟨n, h⟩ else 0

theorem sums (t : Fin cfg0.N) (v : Vec Ideal S8x1 .f32) (i : Fin 8) (j : Fin 512) :
    k0_pay1 (F := Ideal) k0_pay26 (k0_pay28 k0_pay26 (k0_pay27 (k0_pay4 (iblk m c 0 t) (iblk m c 1 t)) (iblk m c 3 t) (iblk m c 4 t)) 2#32)
      (k0_pay29 k0_pay26 (k0_pay27 (k0_pay4 (iblk m c 0 t) (iblk m c 1 t)) (iblk m c 3 t) (iblk m c 4 t)) 2#32) (k0_pay30 k0_pay26) k0_pay31 v (ix2 i j)
      = (∑ p ∈ Finset.range (j.val + 1), term m c i (512 * t.val + p)) + v (ix2 i 0) := by
  have ht : t.val < 32 := lt_of_lt_of_eq t.isLt (show cfg0.N = 32 from N_0)
  rw [chain]
  pointwise
  rw [stages]
  refine congrArg (· + _) (Finset.sum_congr rfl fun p hp => ?_)
  have hp : p < 512 := by have := Finset.mem_range.mp hp; omega
  unfold along term
  rw [dif_pos hp, dif_pos (by omega), Point.p25]

theorem total (t : Fin cfg0.N) (v : Vec Ideal S8x1 .f32) (i : Fin 8) :
    k0_pay2 (F := Ideal) (k0_pay25 (k0_pay4 (iblk m c 0 t) (iblk m c 1 t)) (iblk m c 3 t) (iblk m c 4 t)) v (ix2 i 0)
      = v (ix2 i 0) + ∑ p ∈ Finset.range 512, term m c i (512 * t.val + p) := by
  have ht : t.val < 32 := lt_of_lt_of_eq t.isLt (show cfg0.N = 32 from N_0)
  pointwise [k0_pay2]
  rw [Finset.sum_range]
  refine congrArg (_ + ·) (Finset.sum_congr rfl fun p _ => ?_)
  unfold term
  rw [dif_pos (by omega), Point.p25]

/-- The total after a point: the sum over its sequence's rows so far. -/
theorem carried (i : Fin 8) : ∀ n (h : n < cfg0.N), (outsAt0 m c n h).2.2.2.2.2.2.2.2.2.2.2.2 (ix2 i 0)
    = ∑ p ∈ Finset.range (512 * (n % 8 + 1)), term m c i (4096 * (n / 8) + p) := by
  intro n
  induction n with
  | zero =>
    intro h
    rw [outsAt0_A m c ⟨0, h⟩ rfl]
    frame_open
    simp only [run0_A, run0_B]
    frame_out
    rw [total m c ⟨0, h⟩]
    pointwise [k0_pay3]
  | succ n ih =>
    intro h
    have hN : cfg0.N = 32 := N_0
    have ih := ih (by omega)
    by_cases hc : (n + 1) % 8 = 0
    · rw [outsAt0_A m c ⟨n + 1, h⟩ hc]
      frame_open
      simp only [run0_A, run0_B]
      frame_out
      rw [total m c ⟨n + 1, h⟩]
      pointwise [k0_pay3]
      rw [hc, show 4096 * ((n + 1) / 8) = 512 * (n + 1) by omega]
    · rw [outsAt0_B m c ⟨n + 1, h⟩ hc]
      frame_open
      simp only [run0_A, run0_B]
      frame_out
      rw [total m c ⟨n + 1, h⟩]
      have e : (n + 1) / 8 = n / 8 := by omega
      have e' : (n + 1) % 8 = n % 8 + 1 := by omega
      rw [e, e', show 512 * (n % 8 + 1 + 1) = 512 * (n % 8 + 1) + 512 by ring, Finset.sum_range_add, ← ih]
      refine congrArg₂ (· + ·) ?_ (Finset.sum_congr rfl fun p _ => congrArg (term m c i) (by dsimp only; omega))
      exact congrFun (Memref.IsWhole.read_unread _ (outsAt0 m c n _).2.2.2.2.2.2.2.2.2.2.2.2) _

theorem left21 (t : Fin cfg0.N) (i : Fin 8) (j : Fin 512) : (outsAt0 m c t.val t.isLt).2.2.2.2.2.2.2.2.2.2.2.1 (ix2 i j)
    = Rows.running (X m c) (G m c) (W m c) (B m c) i (row t j) := by
  have ht : t.val < 32 := lt_of_lt_of_eq t.isLt (show cfg0.N = 32 from N_0)
  have e : Rows.running (X m c) (G m c) (W m c) (B m c) i (row t j)
      = ∑ p ∈ Finset.range (512 * (t.val % 8) + (j.val + 1)), term m c i (4096 * (t.val / 8) + p) := by
    unfold Rows.running term
    have h1 : (row t j).val % 4096 + 1 = 512 * (t.val % 8) + (j.val + 1) := by
      show (512 * t.val + j.val) % 4096 + 1 = _
      omega
    have h2 : (row t j).val / 4096 * 4096 = 4096 * (t.val / 8) := by
      show (512 * t.val + j.val) / 4096 * 4096 = _
      omega
    simp only [h1, h2]
  rw [e, Finset.sum_range_add, add_comm]
  by_cases hc : t.val % 8 = 0
  · rw [outsAt0_A m c t hc]
    frame_open
    simp only [run0_A, run0_B]
    frame_out
    rw [sums m c t]
    refine congrArg₂ (· + ·) (Finset.sum_congr rfl fun p _ => congrArg (term m c i) (by omega)) ?_
    pointwise [k0_pay3]
    rw [hc, Finset.sum_range_zero]
  · rw [outsAt0_B m c t hc]
    frame_open
    simp only [run0_A, run0_B]
    frame_out
    rw [sums m c t]
    refine congrArg₂ (· + ·) (Finset.sum_congr rfl fun p _ => congrArg (term m c i) (by omega)) ?_
    have h := carried m c i (t.val - 1) (by omega)
    rw [show (t.val - 1) % 8 + 1 = t.val % 8 by omega, show (t.val - 1) / 8 = t.val / 8 by omega] at h
    exact (congrFun (Memref.IsWhole.read_unread _ (outsAt0 m c (t.val - 1) _).2.2.2.2.2.2.2.2.2.2.2.2) _).trans h

end Cert.ProjIdeal.Scan

end
-- ==== Proof.ProjOut.lean ====
/-
  The arrays the projection leaves, and the reference's.
-/
module

public import proofs.«01_k».proof.Proof.ProjFrame
public import proofs.«01_k».proof.Proof.ProjScan

@[expose] public section

set_option maxRecDepth 16384

noncomputable section

namespace Cert.ProjIdeal.Out

open Cert Cert.ProjIdeal Cert.ProjIdeal.Gen Cert.ProjIdeal.In Cert.ProjIdeal.Point Cert.ProjIdeal.Scan Idealize.ShloMosaic Idealize.ShloMosaic.TcCoe Idealize.SL.Sem

/-- A table by row and column, as an array with a row per token. -/
def wide (f : Fin 16384 → Fin 512 → EReal) : S16384x512.Idx → EReal := fun y => f (y 0) (y 1)

/-- A table by row and column, as an array with a column per token. -/
def tall (f : Fin 8 → Fin 16384 → EReal) : S8x16384.Idx → EReal := fun y => f (y 0) (y 1)

theorem where_ : ∀ t : Fin cfg0.N,
    win0_10.index t = ![t.val, 0]
    ∧ win0_11.index t = ![t.val, 0]
    ∧ win0_12.index t = ![t.val, 0]
    ∧ win0_13.index t = ![t.val, 0]
    ∧ win0_14.index t = ![t.val, 0]
    ∧ win0_15.index t = ![t.val, 0]
    ∧ win0_16.index t = ![t.val, 0]
    ∧ win0_17.index t = ![t.val, 0]
    ∧ win0_18.index t = ![t.val, 0]
    ∧ win0_19.index t = ![t.val, 0]
    ∧ win0_20.index t = ![0, t.val] ∧ win0_21.index t = ![0, t.val] :=
  (by decide +kernel : ∀ t : Fin grid0.N, _)

variable (m : (ℓ : Loc nD τ sig) → Buf (Elt Ideal) ℓ) (c : Dev nD)

/-- The queries of the retention: turned. -/
theorem final10 : (dats m 0 c).arrAt 10 (cfgs 0).N
    = wide (Rows.rot (X m c) (G m c) (W m c) 0 (by omega)) := by
  refine (dats m 0 c).arrAt_eq_of_covers 10 _ (by decide +kernel) fun t _ y => ?_
  blk_simp
  rw [after0_10]
  idx_vars y
  have e : (((cfg0.win 10).blk t).view.emb (ix2 y0 y1) : S16384x512.Idx) = ix2 (row t y0) y1 := by
    blk_ext [where_ t]
  rw [e]
  exact left10 m c t y0 y1

/-- Its keys: turned and scaled. -/
theorem final11 : (dats m 0 c).arrAt 11 (cfgs 0).N
    = wide (fun i j => Rows.rot (X m c) (G m c) (W m c) 512 (by omega) i j * Ideal.ofBits .f32 1035273459#32) := by
  refine (dats m 0 c).arrAt_eq_of_covers 11 _ (by decide +kernel) fun t _ y => ?_
  blk_simp
  rw [after0_11]
  idx_vars y
  have e : (((cfg0.win 11).blk t).view.emb (ix2 y0 y1) : S16384x512.Idx) = ix2 (row t y0) y1 := by
    blk_ext [where_ t]
  rw [e]
  exact left11 m c t y0 y1

/-- Its values. -/
theorem final12 : (dats m 0 c).arrAt 12 (cfgs 0).N
    = wide (fun i j => Rows.z (X m c) (G m c) (W m c) i ⟨1024 + j.val, by omega⟩) := by
  refine (dats m 0 c).arrAt_eq_of_covers 12 _ (by decide +kernel) fun t _ y => ?_
  blk_simp
  rw [after0_12]
  idx_vars y
  have e : (((cfg0.win 12).blk t).view.emb (ix2 y0 y1) : S16384x512.Idx) = ix2 (row t y0) y1 := by
    blk_ext [where_ t]
  rw [e]
  exact left12 m c t y0 y1

/-- Its gate. -/
theorem final13 (hr : Rows.Real (X m c) (G m c) (W m c)) : (dats m 0 c).arrAt 13 (cfgs 0).N
    = wide (Rows.gate (X m c) (G m c) (W m c) 1536 (by omega)) := by
  refine (dats m 0 c).arrAt_eq_of_covers 13 _ (by decide +kernel) fun t _ y => ?_
  blk_simp
  rw [after0_13]
  idx_vars y
  have e : (((cfg0.win 13).blk t).view.emb (ix2 y0 y1) : S16384x512.Idx) = ix2 (row t y0) y1 := by
    blk_ext [where_ t]
  rw [e]
  exact left13 m c t hr y0 y1

/-- The queries of the attention: scaled to unit heads. -/
theorem final14 (hr : Rows.Real (X m c) (G m c) (W m c)) : (dats m 0 c).arrAt 14 (cfgs 0).N
    = wide (fun i j => Rows.head (X m c) (G m c) (W m c) 2048 (by omega) i j * (Q m c (ix1 ⟨j.val % 64, by omega⟩) * Ideal.ofBits .f32 1040187392#32)) := by
  refine (dats m 0 c).arrAt_eq_of_covers 14 _ (by decide +kernel) fun t _ y => ?_
  blk_simp
  rw [after0_14]
  idx_vars y
  have e : (((cfg0.win 14).blk t).view.emb (ix2 y0 y1) : S16384x512.Idx) = ix2 (row t y0) y1 := by
    blk_ext [where_ t]
  rw [e]
  exact left14 m c t hr y0 y1

/-- Its keys. -/
theorem final15 (hr : Rows.Real (X m c) (G m c) (W m c)) : (dats m 0 c).arrAt 15 (cfgs 0).N
    = wide (fun i j => Rows.head (X m c) (G m c) (W m c) 2560 (by omega) i j * K m c (ix1 ⟨j.val % 64, by omega⟩)) := by
  refine (dats m 0 c).arrAt_eq_of_covers 15 _ (by decide +kernel) fun t _ y => ?_
  blk_simp
  rw [after0_15]
  idx_vars y
  have e : (((cfg0.win 15).blk t).view.emb (ix2 y0 y1) : S16384x512.Idx) = ix2 (row t y0) y1 := by
    blk_ext [where_ t]
  rw [e]
  exact left15 m c t hr y0 y1

/-- Its keys in the smaller type. -/
theorem final16 (hr : Rows.Real (X m c) (G m c) (W m c)) : (dats m 0 c).arrAt 16 (cfgs 0).N
    = wide (fun i j => Rows.head (X m c) (G m c) (W m c) 2560 (by omega) i j * K m c (ix1 ⟨j.val % 64, by omega⟩)) := by
  refine (dats m 0 c).arrAt_eq_of_covers 16 _ (by decide +kernel) fun t _ y => ?_
  blk_simp
  rw [after0_16]
  idx_vars y
  have e : (((cfg0.win 16).blk t).view.emb (ix2 y0 y1) : S16384x512.Idx) = ix2 (row t y0) y1 := by
    blk_ext [where_ t]
  rw [e]
  exact left16 m c t hr y0 y1

/-- Its values. -/
theorem final17 : (dats m 0 c).arrAt 17 (cfgs 0).N
    = wide (fun i j => Rows.z (X m c) (G m c) (W m c) i ⟨3072 + j.val, by omega⟩) := by
  refine (dats m 0 c).arrAt_eq_of_covers 17 _ (by decide +kernel) fun t _ y => ?_
  blk_simp
  rw [after0_17]
  idx_vars y
  have e : (((cfg0.win 17).blk t).view.emb (ix2 y0 y1) : S16384x512.Idx) = ix2 (row t y0) y1 := by
    blk_ext [where_ t]
  rw [e]
  exact left17 m c t y0 y1

/-- Its values in the smaller type. -/
theorem final18 : (dats m 0 c).arrAt 18 (cfgs 0).N
    = wide (fun i j => Rows.z (X m c) (G m c) (W m c) i ⟨3072 + j.val, by omega⟩) := by
  refine (dats m 0 c).arrAt_eq_of_covers 18 _ (by decide +kernel) fun t _ y => ?_
  blk_simp
  rw [after0_18]
  idx_vars y
  have e : (((cfg0.win 18).blk t).view.emb (ix2 y0 y1) : S16384x512.Idx) = ix2 (row t y0) y1 := by
    blk_ext [where_ t]
  rw [e]
  exact left18 m c t y0 y1

/-- Its gate. -/
theorem final19 (hr : Rows.Real (X m c) (G m c) (W m c)) : (dats m 0 c).arrAt 19 (cfgs 0).N
    = wide (Rows.gate (X m c) (G m c) (W m c) 3584 (by omega)) := by
  refine (dats m 0 c).arrAt_eq_of_covers 19 _ (by decide +kernel) fun t _ y => ?_
  blk_simp
  rw [after0_19]
  idx_vars y
  have e : (((cfg0.win 19).blk t).view.emb (ix2 y0 y1) : S16384x512.Idx) = ix2 (row t y0) y1 := by
    blk_ext [where_ t]
  rw [e]
  exact left19 m c t hr y0 y1

/-- The forget gates' logarithms. -/
theorem final20 : (dats m 0 c).arrAt 20 (cfgs 0).N
    = tall (Rows.logf (X m c) (G m c) (W m c) (B m c)) := by
  refine (dats m 0 c).arrAt_eq_of_covers 20 _ (by decide +kernel) fun t _ y => ?_
  blk_simp
  rw [after0_20]
  idx_vars y
  have e : (((cfg0.win 20).blk t).view.emb (ix2 y0 y1) : S8x16384.Idx) = ix2 y0 (row t y1) := by
    blk_ext [where_ t]
  rw [e]
  exact left20 m c t y0 y1

/-- Their running sums. -/
theorem final21 : (dats m 0 c).arrAt 21 (cfgs 0).N
    = tall (Rows.running (X m c) (G m c) (W m c) (B m c)) := by
  refine (dats m 0 c).arrAt_eq_of_covers 21 _ (by decide +kernel) fun t _ y => ?_
  blk_simp
  rw [after0_21]
  idx_vars y
  have e : (((cfg0.win 21).blk t).view.emb (ix2 y0 y1) : S8x16384.Idx) = ix2 y0 (row t y1) := by
    blk_ext [where_ t]
  rw [e]
  exact left21 m c t y0 y1

end Cert.ProjIdeal.Out

end
-- ==== Proof.ProjRef.lean ====
/-
  The reference's twelve arrays, entry by entry.
-/
module

public import proofs.«01_k».proof.Proof.Gen.ProjRefIdeal.Run
public import proofs.«01_k».proof.Proof.ProjSpec
public import Idealize.ShloMosaic.Lib.Pipeline.ValueKit
public import Idealize.ShloMosaic.Lib.Claim

@[expose] public section
set_option maxRecDepth 16384
noncomputable section
namespace Cert.ProjRefIdeal.Out
open Cert Cert.ProjRefIdeal Cert.ProjRefIdeal.Gen Cert.ProjRefIdeal.Value Idealize.ShloMosaic Idealize.ShloMosaic.TcCoe Idealize.SL.Sem

variable (V0 : Valuation τ sig (Elt Ideal))
abbrev X : FVec Ideal S16384x1024 .f32 := V0 (Proc.tc.devRef main_arg0)
abbrev G : FVec Ideal S1024 .f32 := V0 (Proc.tc.devRef main_arg1)
abbrev W : FVec Ideal S1024x4104 .f32 := V0 (Proc.tc.devRef main_arg2)
abbrev Q : FVec Ideal S64 .f32 := V0 (Proc.tc.devRef main_arg3)
abbrev K : FVec Ideal S64 .f32 := V0 (Proc.tc.devRef main_arg4)
abbrev B : FVec Ideal S8 .f32 := V0 (Proc.tc.devRef main_arg5)

theorem z_at (r : Fin 16384) (j : Fin 4104) : res_main_v13 V0 (ix2 r j) = Rows.z (X V0) (G V0) (W V0) r j := by
  pointwise [res_main_v13]
  rfl

/-- A turned lane, with the halves of a head apart. -/
theorem turned (b : ℕ) (hb : b ≤ 3584) (i : Fin 16384) (j : Fin 512) (p q : j.val % 128 < 64 → Fin 4104) (p' q' : ¬j.val % 128 < 64 → Fin 4104)
    (hp : ∀ h, (p h).val = b + j.val) (hq : ∀ h, (q h).val = b + (j.val + 64)) (hp' : ∀ h, (p' h).val = b + (j.val - 64))
    (hq' : ∀ h, (q' h).val = b + j.val) :
    (if h : j.val % 128 < 64 then
      Rows.z (X V0) (G V0) (W V0) i (p h) * Ideal.cos (Rows.angle (i.val % 4096) (j.val % 128))
        - Rows.z (X V0) (G V0) (W V0) i (q h) * Ideal.sin (Rows.angle (i.val % 4096) (j.val % 128))
    else
      Rows.z (X V0) (G V0) (W V0) i (p' h) * Ideal.sin (Rows.angle (i.val % 4096) (j.val % 128 - 64))
        + Rows.z (X V0) (G V0) (W V0) i (q' h) * Ideal.cos (Rows.angle (i.val % 4096) (j.val % 128 - 64)))
      = Rows.rot (X V0) (G V0) (W V0) b hb i j := by
  unfold Rows.rot
  by_cases h : j.val % 128 < 64
  · rw [dif_pos h, dif_pos h, show p h = ⟨b + j.val, by omega⟩ from Fin.ext (hp h), show q h = ⟨b + (j.val + 64), by omega⟩ from Fin.ext (hq h)]
  · rw [dif_neg h, dif_neg h, show p' h = ⟨b + (j.val - 64), by omega⟩ from Fin.ext (hp' h), show q' h = ⟨b + j.val, by omega⟩ from Fin.ext (hq' h)]

theorem log1p_ne (y : EReal) : Ideal.log1p (Ideal.exp (-max y (-y))) ≠ ⊥ := by
  have h0 : ∀ r : ℝ, 0 ≤ r → Ideal.log1p (r : EReal) ≠ ⊥ := fun r hr h => by
    have e : Ideal.log1p (r : EReal) = if 1 + r ≤ 0 then ⊥ else (Real.log (1 + r) : EReal) := rfl
    rw [e, if_neg (by linarith)] at h
    exact absurd h (EReal.coe_ne_bot _)
  induction y with
  | bot => rw [EReal.neg_bot, max_eq_right bot_le, EReal.neg_top]; exact h0 0 le_rfl
  | top => rw [max_eq_left le_top, EReal.neg_top]; exact h0 0 le_rfl
  | coe r =>
    have e : Ideal.exp (-max (r : EReal) (-(r : EReal))) = (Real.exp (-max r (-r)) : EReal) := by
      rw [← EReal.coe_neg r, ← Monotone.map_max (f := ((↑) : ℝ → EReal)) EReal.coe_strictMono.monotone, ← EReal.coe_neg]
      rfl
    rw [e]
    exact h0 _ (Real.exp_pos _).le

/-- A left fold of a sum is the sum. -/
theorem fold_sum {ι : Type*} (g : ι → EReal) (l : List ι) : ∀ v : EReal, l.foldl (fun r n => r + g n) v = v + (l.map g).sum := by
  induction l with
  | nil => intro v; simp
  | cons a l ih => intro v; rw [List.foldl_cons, ih, List.map_cons, List.sum_cons, add_assoc]

/-- The window's shape: one sequence, its rows, one column. -/
abbrev Win : Shape := ⟨3, ![1, 4096, 1]⟩

/-- A position of the window is its row. -/
def rowOf : Win.Idx ≃ Fin 4096 where
  toFun w := w 1
  invFun q := ix3 0 q 0
  left_inv w := by
    funext a
    match a with
    | ⟨0, _⟩ => exact Subsingleton.elim (α := Fin 1) _ _
    | ⟨1, _⟩ => rfl
    | ⟨2, _⟩ => exact Subsingleton.elim (α := Fin 1) _ _
  right_inv q := rfl

/-- One position of the window, inside the array or before it. -/
theorem entry (x : FVec Ideal S4x4096x8 .f32) (a : Fin 4) (b : Fin 4096) (i : Fin 8) (w : Win.Idx)
    (dec : Decidable (∀ d : Fin 3, (![0, 4095, 0] : Fin 3 → ℕ) d ≤ (ix3 a b i d).val * (![1, 1, 1] : Fin 3 → ℕ) d + (w d).val
        ∧ (ix3 a b i d).val * (![1, 1, 1] : Fin 3 → ℕ) d + (w d).val - (![0, 4095, 0] : Fin 3 → ℕ) d < (![4, 4096, 8] : Fin 3 → ℕ) d)) :
    (if hin : ∀ d : Fin 3, (![0, 4095, 0] : Fin 3 → ℕ) d ≤ (ix3 a b i d).val * (![1, 1, 1] : Fin 3 → ℕ) d + (w d).val
        ∧ (ix3 a b i d).val * (![1, 1, 1] : Fin 3 → ℕ) d + (w d).val - (![0, 4095, 0] : Fin 3 → ℕ) d < (![4, 4096, 8] : Fin 3 → ℕ) d
      then x fun d => ⟨(ix3 a b i d).val * (![1, 1, 1] : Fin 3 → ℕ) d + (w d).val - (![0, 4095, 0] : Fin 3 → ℕ) d, (hin d).2⟩ else 0)
      = (fun q : ℕ => if h : 4095 ≤ b.val + q ∧ q < 4096 then x (ix3 a ⟨b.val + q - 4095, by omega⟩ i) else 0) (rowOf w).val := by
  have hb := b.isLt
  have h0 : (w 0).val = 0 := by have : (w 0).val < 1 := (w 0).isLt; omega
  have h2 : (w 2).val = 0 := by have : (w 2).val < 1 := (w 2).isLt; omega
  have h1 : (w 1).val < 4096 := (w 1).isLt
  rw [show (rowOf w).val = (w 1).val from rfl]
  dsimp only
  by_cases h : 4095 ≤ b.val + (w 1).val
  · have hin : ∀ d : Fin 3, (![0, 4095, 0] : Fin 3 → ℕ) d ≤ (ix3 a b i d).val * (![1, 1, 1] : Fin 3 → ℕ) d + (w d).val
        ∧ (ix3 a b i d).val * (![1, 1, 1] : Fin 3 → ℕ) d + (w d).val - (![0, 4095, 0] : Fin 3 → ℕ) d < (![4, 4096, 8] : Fin 3 → ℕ) d := fun d =>
      match d with
      | ⟨0, _⟩ => by show 0 ≤ a.val * 1 + (w 0).val ∧ a.val * 1 + (w 0).val - 0 < 4; omega
      | ⟨1, _⟩ => by show 4095 ≤ b.val * 1 + (w 1).val ∧ b.val * 1 + (w 1).val - 4095 < 4096; omega
      | ⟨2, _⟩ => by show 0 ≤ i.val * 1 + (w 2).val ∧ i.val * 1 + (w 2).val - 0 < 8; omega
    rw [dif_pos hin, dif_pos ⟨h, h1⟩]
    refine congrArg x (funext fun d => Fin.ext ?_)
    match d with
    | ⟨0, _⟩ => show a.val * 1 + (w 0).val - 0 = a.val; omega
    | ⟨1, _⟩ => show b.val * 1 + (w 1).val - 4095 = b.val + (w 1).val - 4095; omega
    | ⟨2, _⟩ => show i.val * 1 + (w 2).val - 0 = i.val; omega
  · rw [dif_neg fun hin => h (by have : 4095 ≤ b.val * 1 + (w 1).val := (hin 1).1; omega), dif_neg fun e => h e.1]

/-- A sum over the window positions that end at a place is the sum over the places up to it. -/
theorem window_sum (x : FVec Ideal S4x4096x8 .f32) (a : Fin 4) (b : Fin 4096) (i : Fin 8) :
    Host.reduceWindowAdd ![1, 4096, 1] ![1, 1, 1] ![0, 4095, 0] ![0, 0, 0] x (broadcastInDim S_ ![] bcast_S_S_ (constant S_ .f32 0#32))
      reduceWindows_S4x4096x8_S4x4096x8_w1s1p0_0_w4096s1p4095_0_w1s1p0_0 h_S_ (ix3 a b i)
      = ∑ p ∈ Finset.range (b.val + 1), if h : p < 4096 then x (ix3 a ⟨p, h⟩ i) else 0 := by
  have hinit : (broadcastInDim S_ ![] bcast_S_S_ (constant (F := Ideal) S_ .f32 0#32)) (Shape.Idx.first h_S_) = (0 : EReal) := by
    pointwise
  have hb := b.isLt
  unfold Host.reduceWindowAdd
  rw [hinit]
  show Ideal.hostReduceWindowAdd _ _ _ _ _ x 0 (ix3 a b i) = _
  unfold Ideal.hostReduceWindowAdd Host.reduceWindow
  dsimp only
  rw [fold_sum, zero_add, ← Fin.sum_univ_def]
  refine (Finset.sum_congr rfl fun n _ => entry x a b i (Win.rowMajor.symm n) _).trans ?_
  rw [Equiv.sum_comp Win.rowMajor.symm (fun w => (fun q : ℕ => if h : 4095 ≤ b.val + q ∧ q < 4096 then x (ix3 a ⟨b.val + q - 4095, by omega⟩ i) else 0) (rowOf w).val),
    Equiv.sum_comp rowOf (fun k : Fin 4096 => (fun q : ℕ => if h : 4095 ≤ b.val + q ∧ q < 4096 then x (ix3 a ⟨b.val + q - 4095, by omega⟩ i) else 0) k.val),
    ← Finset.sum_range (fun q : ℕ => if h : 4095 ≤ b.val + q ∧ q < 4096 then x (ix3 a ⟨b.val + q - 4095, by omega⟩ i) else 0),
    show Finset.range 4096 = Finset.range ((4095 - b.val) + (b.val + 1)) from congrArg _ (by omega), Finset.sum_range_add, Finset.sum_eq_zero, zero_add]
  · refine Finset.sum_congr rfl fun p hp => ?_
    have hp := Finset.mem_range.mp hp
    rw [dif_pos (by omega), dif_pos (by omega)]
    exact congrArg (fun q => x (ix3 a q i)) (Fin.ext (by dsimp only; omega))
  · intro q hq
    have hq := Finset.mem_range.mp hq
    rw [dif_neg (by omega)]

/-- Minus the logarithm of one plus the exponential, its two writings. -/
theorem softplus (y : EReal) :
    (-if -y ≠ -y then -y else max (-y) 0 + Ideal.log1p (Ideal.exp (-FloatOps.absf (F := Ideal) (φ := .f32) (-y))))
      = min y 0 - Ideal.log1p (Ideal.exp (-max y (-y))) := by
  rw [if_neg (by simp), show FloatOps.absf (F := Ideal) (φ := .f32) (-y) = max (-y) (- -y) from rfl, neg_neg, max_comm (-y) y]
  have ha : max (-y) 0 ≠ ⊥ := fun h => by
    have := le_max_right (-y) 0
    rw [h] at this
    exact absurd this (by simp)
  rw [EReal.neg_add (Or.inl ha) (Or.inr (log1p_ne y))]
  refine congrArg (· - _) ?_
  rcases le_total y 0 with h | h
  · rw [min_eq_left h, max_eq_left (by simpa using EReal.neg_le_neg_iff.mpr h), neg_neg]
  · rw [min_eq_right h, max_eq_right (by simpa using EReal.neg_le_neg_iff.mpr h), neg_zero]

def rq : FVec Ideal S16384x512 .bf16 := truncf .bf16 (shapeCast _ (concatenate S4x4096x4x128 3 [⟨S4x4096x4x64, (subf (mulf (res_main_v45 V0) (broadcastInDim S4x4096x4x64 ![0, 1, 2, 3] bcast_S1x4096x1x64_S4x4096x4x64_0_1_2_3 (res_main_v42 V0))) (mulf (res_main_v46 V0) (broadcastInDim S4x4096x4x64 ![0, 1, 2, 3] bcast_S1x4096x1x64_S4x4096x4x64_0_1_2_3 (res_main_v44 V0))))⟩, ⟨S4x4096x4x64, (addf (mulf (res_main_v45 V0) (broadcastInDim S4x4096x4x64 ![0, 1, 2, 3] bcast_S1x4096x1x64_S4x4096x4x64_0_1_2_3 (res_main_v44 V0))) (mulf (res_main_v46 V0) (broadcastInDim S4x4096x4x64 ![0, 1, 2, 3] bcast_S1x4096x1x64_S4x4096x4x64_0_1_2_3 (res_main_v42 V0))))⟩] concatenates_S4x4096x4x64_S4x4096x4x64_S4x4096x4x128_d3) shapeCasts_S4x4096x4x128_S16384x512) bitsLt_bf16_f32

theorem rq_at (i : Fin 16384) (j : Fin 512) : rq V0 (ix2 i j)
    = Rows.rot (X V0) (G V0) (W V0) 0 (by omega) i j := by
  pointwise [rq, res_main_v45, res_main_v46, res_main_v42, res_main_v44, res_main_v40, res_main_v23]
  simp only [z_at]
  exact turned V0 0 (by omega) i j _ _ _ _ (fun h => by dsimp only; omega) (fun h => by dsimp only; omega) (fun h => by dsimp only; omega) (fun h => by dsimp only; omega)

def rk : FVec Ideal S16384x512 .bf16 := truncf .bf16 (shapeCast _ (mulf (concatenate S4x4096x4x128 3 [⟨S4x4096x4x64, (subf (mulf (res_main_v81 V0) (broadcastInDim S4x4096x4x64 ![0, 1, 2, 3] bcast_S1x4096x1x64_S4x4096x4x64_0_1_2_3 (res_main_v78 V0))) (mulf (res_main_v82 V0) (broadcastInDim S4x4096x4x64 ![0, 1, 2, 3] bcast_S1x4096x1x64_S4x4096x4x64_0_1_2_3 (res_main_v80 V0))))⟩, ⟨S4x4096x4x64, (addf (mulf (res_main_v81 V0) (broadcastInDim S4x4096x4x64 ![0, 1, 2, 3] bcast_S1x4096x1x64_S4x4096x4x64_0_1_2_3 (res_main_v80 V0))) (mulf (res_main_v82 V0) (broadcastInDim S4x4096x4x64 ![0, 1, 2, 3] bcast_S1x4096x1x64_S4x4096x4x64_0_1_2_3 (res_main_v78 V0))))⟩] concatenates_S4x4096x4x64_S4x4096x4x64_S4x4096x4x128_d3) (broadcastInDim S4x4096x4x128 ![] bcast_S_S4x4096x4x128 (constant S_ .f32 0x3DB504F3#32))) shapeCasts_S4x4096x4x128_S16384x512) bitsLt_bf16_f32

theorem rk_at (i : Fin 16384) (j : Fin 512) : rk V0 (ix2 i j)
    = Rows.rot (X V0) (G V0) (W V0) 512 (by omega) i j * Ideal.ofBits .f32 1035273459#32 := by
  pointwise [rk, res_main_v81, res_main_v82, res_main_v78, res_main_v80, res_main_v76, res_main_v59]
  simp only [z_at]
  exact congrArg (· * _) (turned V0 512 (by omega) i j _ _ _ _ (fun _ => rfl) (fun h => by dsimp only; omega) (fun h => by dsimp only; omega) (fun h => by dsimp only; omega))

def rv : FVec Ideal S16384x512 .bf16 := truncf .bf16 (extractStridedSlice S16384x512 ![0, 1024] (res_main_v13 V0) slices_S16384x4104_S16384x512_0_1024) bitsLt_bf16_f32

theorem rv_at (i : Fin 16384) (j : Fin 512) : rv V0 (ix2 i j)
    = Rows.z (X V0) (G V0) (W V0) i ⟨1024 + j.val, by omega⟩ := by
  pointwise [rv]
  exact z_at V0 i _

def srg : FVec Ideal S16384x512 .bf16 := truncf .bf16 (mulf (res_main_v17 V0) (Host.divf (broadcastInDim S16384x512 ![] bcast_S_S16384x512 (constant S_ .f32 0x3F800000#32)) (addf (broadcastInDim S16384x512 ![] bcast_S_S16384x512 (constant S_ .f32 0x3F800000#32)) (Host.exp (Host.negf (res_main_v17 V0)))))) bitsLt_bf16_f32

theorem srg_at (i : Fin 16384) (j : Fin 512) : srg V0 (ix2 i j)
    = Rows.gate (X V0) (G V0) (W V0) 1536 (by omega) i j := by
  pointwise [srg, res_main_v17]
  simp only [z_at]
  rfl

def fq : FVec Ideal S16384x512 .bf16 := truncf .bf16 (shapeCast _ (mulf (mulf (mulf (res_main_v97 V0) (broadcastInDim S16384x8x64 ![0, 1, 2] bcast_S16384x8x1_S16384x8x64_0_1_2 (Host.rsqrt (addf (Host.divf (broadcastInDim S16384x8x1 ![0, 1] bcast_S16384x8_S16384x8x1_0_1 (Host.reduceAdd (mulf (res_main_v97 V0) (res_main_v97 V0)) (constant S_ .f32 0x00000000#32) reducesTo_S16384x8x64_S16384x8_d2 h_S_)) (broadcastInDim S16384x8x1 ![] bcast_S_S16384x8x1 (constant S_ .f32 0x42800000#32))) (broadcastInDim S16384x8x1 ![] bcast_S_S16384x8x1 (constant S_ .f32 0x358637BD#32)))))) (broadcastInDim S16384x8x64 ![0, 1, 2] bcast_S1x1x64_S16384x8x64_0_1_2 (broadcastInDim S1x1x64 ![2] bcast_S64_S1x1x64_2 (V0 (Proc.devRef .tc main_arg3))))) (broadcastInDim S16384x8x64 ![] bcast_S_S16384x8x64 (constant S_ .f32 0x3E000000#32))) shapeCasts_S16384x8x64_S16384x512) bitsLt_bf16_f32

theorem fq_at (i : Fin 16384) (j : Fin 512) : fq V0 (ix2 i j)
    = Rows.head (X V0) (G V0) (W V0) 2048 (by omega) i j * (Q V0 (ix1 ⟨j.val % 64, by omega⟩) * Ideal.ofBits .f32 1040187392#32) := by
  pointwise [fq, res_main_v97]
  simp only [z_at]
  exact mul_assoc _ _ _

def fk : FVec Ideal S16384x512 .f32 := shapeCast _ (mulf (mulf (res_main_v114 V0) (broadcastInDim S16384x8x64 ![0, 1, 2] bcast_S16384x8x1_S16384x8x64_0_1_2 (Host.rsqrt (addf (Host.divf (broadcastInDim S16384x8x1 ![0, 1] bcast_S16384x8_S16384x8x1_0_1 (Host.reduceAdd (mulf (res_main_v114 V0) (res_main_v114 V0)) (constant S_ .f32 0x00000000#32) reducesTo_S16384x8x64_S16384x8_d2 h_S_)) (broadcastInDim S16384x8x1 ![] bcast_S_S16384x8x1 (constant S_ .f32 0x42800000#32))) (broadcastInDim S16384x8x1 ![] bcast_S_S16384x8x1 (constant S_ .f32 0x358637BD#32)))))) (broadcastInDim S16384x8x64 ![0, 1, 2] bcast_S1x1x64_S16384x8x64_0_1_2 (broadcastInDim S1x1x64 ![2] bcast_S64_S1x1x64_2 (V0 (Proc.devRef .tc main_arg4))))) shapeCasts_S16384x8x64_S16384x512

theorem fk_at (i : Fin 16384) (j : Fin 512) : fk V0 (ix2 i j)
    = Rows.head (X V0) (G V0) (W V0) 2560 (by omega) i j * K V0 (ix1 ⟨j.val % 64, by omega⟩) := by
  pointwise [fk, res_main_v114]
  simp only [z_at]
  rfl

def fkb : FVec Ideal S16384x512 .bf16 := truncf .bf16 (shapeCast _ (mulf (mulf (res_main_v114 V0) (broadcastInDim S16384x8x64 ![0, 1, 2] bcast_S16384x8x1_S16384x8x64_0_1_2 (Host.rsqrt (addf (Host.divf (broadcastInDim S16384x8x1 ![0, 1] bcast_S16384x8_S16384x8x1_0_1 (Host.reduceAdd (mulf (res_main_v114 V0) (res_main_v114 V0)) (constant S_ .f32 0x00000000#32) reducesTo_S16384x8x64_S16384x8_d2 h_S_)) (broadcastInDim S16384x8x1 ![] bcast_S_S16384x8x1 (constant S_ .f32 0x42800000#32))) (broadcastInDim S16384x8x1 ![] bcast_S_S16384x8x1 (constant S_ .f32 0x358637BD#32)))))) (broadcastInDim S16384x8x64 ![0, 1, 2] bcast_S1x1x64_S16384x8x64_0_1_2 (broadcastInDim S1x1x64 ![2] bcast_S64_S1x1x64_2 (V0 (Proc.devRef .tc main_arg4))))) shapeCasts_S16384x8x64_S16384x512) bitsLt_bf16_f32

theorem fkb_at (i : Fin 16384) (j : Fin 512) : fkb V0 (ix2 i j)
    = Rows.head (X V0) (G V0) (W V0) 2560 (by omega) i j * K V0 (ix1 ⟨j.val % 64, by omega⟩) := by
  pointwise [fkb, res_main_v114]
  simp only [z_at]
  rfl

def fv : FVec Ideal S16384x512 .f32 := extractStridedSlice S16384x512 ![0, 3072] (res_main_v13 V0) slices_S16384x4104_S16384x512_0_3072

theorem fv_at (i : Fin 16384) (j : Fin 512) : fv V0 (ix2 i j)
    = Rows.z (X V0) (G V0) (W V0) i ⟨3072 + j.val, by omega⟩ := by
  pointwise [fv]
  exact z_at V0 i _

def fvb : FVec Ideal S16384x512 .bf16 := truncf .bf16 (extractStridedSlice S16384x512 ![0, 3072] (res_main_v13 V0) slices_S16384x4104_S16384x512_0_3072) bitsLt_bf16_f32

theorem fvb_at (i : Fin 16384) (j : Fin 512) : fvb V0 (ix2 i j)
    = Rows.z (X V0) (G V0) (W V0) i ⟨3072 + j.val, by omega⟩ := by
  pointwise [fvb]
  exact z_at V0 i _

def sfg : FVec Ideal S16384x512 .bf16 := truncf .bf16 (mulf (res_main_v21 V0) (Host.divf (broadcastInDim S16384x512 ![] bcast_S_S16384x512 (constant S_ .f32 0x3F800000#32)) (addf (broadcastInDim S16384x512 ![] bcast_S_S16384x512 (constant S_ .f32 0x3F800000#32)) (Host.exp (Host.negf (res_main_v21 V0)))))) bitsLt_bf16_f32

theorem sfg_at (i : Fin 16384) (j : Fin 512) : sfg V0 (ix2 i j)
    = Rows.gate (X V0) (G V0) (W V0) 3584 (by omega) i j := by
  pointwise [sfg, res_main_v21]
  simp only [z_at]
  rfl

theorem gate_at (j : Fin 16384) (i : Fin 8) : res_main_v132 V0 (ix2 j i) = Rows.logf (X V0) (G V0) (W V0) (B V0) i j := by
  pointwise [res_main_v132, res_main_call0_call0_v3, res_main_call0_v0, res_main_call0_call0_cst]
  simp only [z_at]
  exact softplus _

def lf : FVec Ideal S8x16384 .f32 := transpose S8x16384 [1, 0] (res_main_v132 V0) transposes_S16384x8_S8x16384_1_0

theorem lf_at (i : Fin 8) (j : Fin 16384) : lf V0 (ix2 i j)
    = Rows.logf (X V0) (G V0) (W V0) (B V0) i j := by
  pointwise [lf]
  exact gate_at V0 j i

def cs : FVec Ideal S8x16384 .f32 := transpose S8x16384 [1, 0] (shapeCast _ (Host.reduceWindowAdd ![1, 4096, 1] ![1, 1, 1] ![0, 4095, 0] ![0, 0, 0] (shapeCast _ (res_main_v132 V0) shapeCasts_S16384x8_S4x4096x8) (broadcastInDim S_ ![] bcast_S_S_ (constant S_ .f32 0x00000000#32)) reduceWindows_S4x4096x8_S4x4096x8_w1s1p0_0_w4096s1p4095_0_w1s1p0_0 h_S_) shapeCasts_S4x4096x8_S16384x8) transposes_S16384x8_S8x16384_1_0

theorem cs_at (i : Fin 8) (j : Fin 16384) : cs V0 (ix2 i j)
    = Rows.running (X V0) (G V0) (W V0) (B V0) i j := by
  pointwise [cs]
  rw [window_sum]
  have hj := j.isLt
  unfold Rows.running
  refine Finset.sum_congr rfl fun p hp => ?_
  have hp := Finset.mem_range.mp hp
  rw [dif_pos (by omega), dif_pos (by omega)]
  pointwise
  exact gate_at V0 ⟨j.val / 4096 * 4096 + p, by omega⟩ i

end Cert.ProjRefIdeal.Out
end
-- ==== Proof.ProjEq.lean ====
/-
  The projection: its precondition read, its reference's arrays, and the two programs side by side.
-/
module

public import proofs.«01_k».proof.Proof.ProjOut
public import proofs.«01_k».proof.Proof.ProjRef
public import proofs.«01_k».proof.Proof.Finite
public import proofs.«01_k».proof.Defs
public import Idealize.ShloMosaic.Lib.Quiescent

@[expose] public section

set_option maxRecDepth 16384

noncomputable section

namespace Cert.Proj

open Cert Cert.ProjIdeal Cert.ProjIdeal.Out Cert.ProjRefIdeal.Out Idealize.ShloMosaic Idealize.ShloMosaic.TcCoe Idealize.SL.Sem

instance facts : Cert.Pre_weights_finite.Facts where
  bcast_S_S16384x1024 := by decide
  reducesTo_S16384x1024_S_d0_1 := by decide
  h_S_ := by decide
  bcast_S_S1024 := by decide
  reducesTo_S1024_S_d0 := by decide
  bcast_S_S1024x4104 := by decide
  reducesTo_S1024x4104_S_d0_1 := by decide

instance : Subsingleton Cert.Pre_weights_finite.S_.Idx := ⟨fun _ _ => funext fun a => a.elim0⟩

/-- The precondition says that every row, gain and weight is a real number. -/
theorem decode (X : FVec Ideal Cert.Pre_weights_finite.S16384x1024 .f32) (G : FVec Ideal Cert.Pre_weights_finite.S1024 .f32)
    (W : FVec Ideal Cert.Pre_weights_finite.S1024x4104 .f32) (Q K : FVec Ideal Cert.Pre_weights_finite.S64 .f32)
    (B : FVec Ideal Cert.Pre_weights_finite.S8 .f32)
    (h : Cert.Pre_weights_finite.fn (F := Ideal) X G W Q K B = fun _ => 1#1) : Rows.Real X G W := by
  have h := congrFun h (fun a => a.elim0)
  dsimp only [Cert.Pre_weights_finite.fn] at h
  obtain ⟨h12, h3⟩ := Finite.and_one (show IntOp.andi _ _ = 1#1 from h)
  obtain ⟨h1, h2⟩ := Finite.and_one (show IntOp.andi _ _ = 1#1 from h12)
  exact ⟨fun x => Finite.real_of_abs (Host.reduce_andi_all _ _ _ _ _ h1 x), fun x => Finite.real_of_abs (Host.reduce_andi_all _ _ _ _ _ h2 x),
    fun x => Finite.real_of_abs (Host.reduce_andi_all _ _ _ _ _ h3 x)⟩

/-- The reference leaves its arguments and its counters alone. -/
theorem reference_frame : Cert.quiescent_ProjRefIdeal := by
  intro m g _
  exact (θ_run _ _ _).mono (fun r h => ⟨fun c => (h c).2.2.2.2.2.2.2.2.2.2.2.2, sem_eq_zero_of_no_sems (by decide) r.2⟩) (Cert.ProjRefIdeal.Value.run m g)

/-- The reference's arrays, entry by entry. -/
theorem arrays (V0 : Valuation Cert.ProjRefIdeal.τ Cert.ProjRefIdeal.sig (Elt Ideal)) :
    rq V0 = wide (Rows.rot (X V0) (G V0) (W V0) 0 (by omega))
    ∧ rk V0 = wide (fun i j => Rows.rot (X V0) (G V0) (W V0) 512 (by omega) i j * Ideal.ofBits .f32 1035273459#32)
    ∧ rv V0 = wide (fun i j => Rows.z (X V0) (G V0) (W V0) i ⟨1024 + j.val, by omega⟩)
    ∧ srg V0 = wide (Rows.gate (X V0) (G V0) (W V0) 1536 (by omega))
    ∧ fq V0 = wide (fun i j => Rows.head (X V0) (G V0) (W V0) 2048 (by omega) i j * (Q V0 (ix1 ⟨j.val % 64, by omega⟩) * Ideal.ofBits .f32 1040187392#32))
    ∧ fk V0 = wide (fun i j => Rows.head (X V0) (G V0) (W V0) 2560 (by omega) i j * K V0 (ix1 ⟨j.val % 64, by omega⟩))
    ∧ fkb V0 = wide (fun i j => Rows.head (X V0) (G V0) (W V0) 2560 (by omega) i j * K V0 (ix1 ⟨j.val % 64, by omega⟩))
    ∧ fv V0 = wide (fun i j => Rows.z (X V0) (G V0) (W V0) i ⟨3072 + j.val, by omega⟩)
    ∧ fvb V0 = wide (fun i j => Rows.z (X V0) (G V0) (W V0) i ⟨3072 + j.val, by omega⟩)
    ∧ sfg V0 = wide (Rows.gate (X V0) (G V0) (W V0) 3584 (by omega))
    ∧ lf V0 = tall (Rows.logf (X V0) (G V0) (W V0) (B V0))
    ∧ cs V0 = tall (Rows.running (X V0) (G V0) (W V0) (B V0)) :=
  ⟨funext fun y => by idx_vars y; exact rq_at V0 y0 y1,
    funext fun y => by idx_vars y; exact rk_at V0 y0 y1,
    funext fun y => by idx_vars y; exact rv_at V0 y0 y1,
    funext fun y => by idx_vars y; exact srg_at V0 y0 y1,
    funext fun y => by idx_vars y; exact fq_at V0 y0 y1,
    funext fun y => by idx_vars y; exact fk_at V0 y0 y1,
    funext fun y => by idx_vars y; exact fkb_at V0 y0 y1,
    funext fun y => by idx_vars y; exact fv_at V0 y0 y1,
    funext fun y => by idx_vars y; exact fvb_at V0 y0 y1,
    funext fun y => by idx_vars y; exact sfg_at V0 y0 y1,
    funext fun y => by idx_vars y; exact lf_at V0 y0 y1,
    funext fun y => by idx_vars y; exact cs_at V0 y0 y1⟩

set_option maxHeartbeats 1600000 in
/-- The projection and its reference leave the same arrays. -/
theorem algebraic : Cert.algebraic_ProjIdeal_ProjRefIdeal_pre_weights_finite := by
  intro m g m' g' hpre hagree
  have real : ∀ c, Rows.Real (In.X m c) (In.G m c) (In.W m c) := fun c => decode _ _ _ _ _ _ (hpre c)
  refine ⟨fun c => wide (Rows.rot (In.X m c) (In.G m c) (In.W m c) 0 (by omega)),
    fun c => wide (fun i j => Rows.rot (In.X m c) (In.G m c) (In.W m c) 512 (by omega) i j * Ideal.ofBits .f32 1035273459#32),
    fun c => wide (fun i j => Rows.z (In.X m c) (In.G m c) (In.W m c) i ⟨1024 + j.val, by omega⟩),
    fun c => wide (Rows.gate (In.X m c) (In.G m c) (In.W m c) 1536 (by omega)),
    fun c => wide (fun i j => Rows.head (In.X m c) (In.G m c) (In.W m c) 2048 (by omega) i j * (In.Q m c (ix1 ⟨j.val % 64, by omega⟩) * Ideal.ofBits .f32 1040187392#32)),
    fun c => wide (fun i j => Rows.head (In.X m c) (In.G m c) (In.W m c) 2560 (by omega) i j * In.K m c (ix1 ⟨j.val % 64, by omega⟩)),
    fun c => wide (fun i j => Rows.head (In.X m c) (In.G m c) (In.W m c) 2560 (by omega) i j * In.K m c (ix1 ⟨j.val % 64, by omega⟩)),
    fun c => wide (fun i j => Rows.z (In.X m c) (In.G m c) (In.W m c) i ⟨3072 + j.val, by omega⟩),
    fun c => wide (fun i j => Rows.z (In.X m c) (In.G m c) (In.W m c) i ⟨3072 + j.val, by omega⟩),
    fun c => wide (Rows.gate (In.X m c) (In.G m c) (In.W m c) 3584 (by omega)),
    fun c => tall (Rows.logf (In.X m c) (In.G m c) (In.W m c) (In.B m c)),
    fun c => tall (Rows.running (In.X m c) (In.G m c) (In.W m c) (In.B m c)), ?_, ?_⟩
  · exact (θ_run _ _ _).mono (fun r h c => ⟨((h.2 c).1 10).trans (Cert.ProjIdeal.Out.final10 m c),
      ((h.2 c).1 11).trans (Cert.ProjIdeal.Out.final11 m c),
      ((h.2 c).1 12).trans (Cert.ProjIdeal.Out.final12 m c),
      ((h.2 c).1 13).trans (Cert.ProjIdeal.Out.final13 m c (real c)),
      ((h.2 c).1 14).trans (Cert.ProjIdeal.Out.final14 m c (real c)),
      ((h.2 c).1 15).trans (Cert.ProjIdeal.Out.final15 m c (real c)),
      ((h.2 c).1 16).trans (Cert.ProjIdeal.Out.final16 m c (real c)),
      ((h.2 c).1 17).trans (Cert.ProjIdeal.Out.final17 m c),
      ((h.2 c).1 18).trans (Cert.ProjIdeal.Out.final18 m c),
      ((h.2 c).1 19).trans (Cert.ProjIdeal.Out.final19 m c (real c)),
      ((h.2 c).1 20).trans (Cert.ProjIdeal.Out.final20 m c),
      ((h.2 c).1 21).trans (Cert.ProjIdeal.Out.final21 m c),
      h.1 c⟩) (θ_run_and (Cert.ProjIdeal.Gen.unchanged m g) (Cert.ProjIdeal.Gen.run_main m g))
  · refine (θ_run _ _ _).mono (fun r h c => ?_) (Cert.ProjRefIdeal.Value.run m' g')
    obtain ⟨e0, e1, e2, e3, e4, e5⟩ := hagree c
    have hX : X (StableHlo.launchContents m' c) = In.X m c := e0
    have hG : G (StableHlo.launchContents m' c) = In.G m c := e1
    have hW : W (StableHlo.launchContents m' c) = In.W m c := e2
    have hQ : Q (StableHlo.launchContents m' c) = In.Q m c := e3
    have hK : K (StableHlo.launchContents m' c) = In.K m c := e4
    have hB : B (StableHlo.launchContents m' c) = In.B m c := e5
    have A := arrays (StableHlo.launchContents m' c)
    rw [hX, hG, hW, hQ, hK, hB] at A
    obtain ⟨a0, a1, a2, a3, a4, a5, a6, a7, a8, a9, a10, a11⟩ := A
    obtain ⟨h0, h1, h2, h3, h4, h5, h6, h7, h8, h9, h10, h11, rest⟩ := h c
    exact ⟨h0.trans a0, h1.trans a1, h2.trans a2, h3.trans a3, h4.trans a4, h5.trans a5, h6.trans a6, h7.trans a7, h8.trans a8, h9.trans a9, h10.trans a10, h11.trans a11, rest⟩

end Cert.Proj

end
-- ==== Proof.RetList.lean ====
/-
  The retention's body as its sixteen units in order, four chunks of four heads: unit `k` is head `k % 4` of chunk `k / 4`.
  `next` and `out` are what a unit makes of what it loads, and `kept`/`stored` list what the units have written.
-/
module

public import proofs.«01_k».proof.Proof.Gen.RetIdeal.Frame.RunC
public import Idealize.ShloMosaic.Lib.Pipeline.ValueKit
public import Idealize.ShloMosaic.Lib.WritesUnit
public import Idealize.ShloMosaic.Lib.Claim

@[expose] public section

set_option maxRecDepth 16384

noncomputable section

namespace Cert.RetIdeal.Units

open Cert Cert.RetIdeal Cert.RetIdeal.Gen Idealize.ShloMosaic Idealize.ShloMosaic.TcCoe Idealize.SL.Sem

/-- The state after a chunk. -/
def next (kb vb : FVec Ideal S1x128x128 .bf16) (s kd : FVec Ideal S1x128x128 .f32) (sd : FVec Ideal S1x1x128 .f32) :
    FVec Ideal S1x128x128 .f32 :=
  k0_pay9 (F := Ideal) (k0_pay5 vb) (k0_pay6 s) (k0_pay8 kb kd) sd

/-- The chunk's results, from the state before it. -/
def out (qb kb vb gb : FVec Ideal S1x128x128 .bf16) (s dec qd : FVec Ideal S1x128x128 .f32) (rg : FVec Ideal S1x128 .f32) :
    FVec Ideal S1x128x128 .bf16 :=
  k0_pay10 (F := Ideal) (k0_pay7 qb kb vb s dec qd) rg gb

theorem tile_inb (k : ℕ) (hk : k < 16) : ∀ a, (![0, 128 * (k / 4), 128 * (k % 4)] : Fin 3 → ℕ) a + S1x128x128.size a ≤ S1x512x512.size a := by
  intro a
  fin_cases a
  · exact le_refl 1
  · show 128 * (k / 4) + 128 ≤ 512
    omega
  · show 128 * (k % 4) + 128 ≤ 512
    omega

theorem plane_inb (k : ℕ) : ∀ a, (![k % 4, 0, 0] : Fin 3 → ℕ) a + S1x128x128.size a ≤ S4x128x128.size a := by
  intro a
  fin_cases a
  · show k % 4 + 1 ≤ 4
    omega
  · exact le_refl 128
  · exact le_refl 128

theorem row_inb (k : ℕ) : ∀ a, (![k % 4, 0, 0] : Fin 3 → ℕ) a + S1x1x128.size a ≤ S4x1x128.size a := by
  intro a
  fin_cases a
  · show k % 4 + 1 ≤ 4
    omega
  · exact le_refl 1
  · exact le_refl 128

theorem lane_inb (k : ℕ) : ∀ a, (![0, 128 * (k % 4)] : Fin 2 → ℕ) a + S1x128.size a ≤ S1x512.size a := by
  intro a
  fin_cases a
  · exact le_refl 1
  · show 128 * (k % 4) + 128 ≤ 512
    omega

/-- A unit's block of a tile of rows … -/
abbrev tileAt (k : ℕ) (hk : k < 16) : Rect S1x512x512 := Rect.unit (s := S1x512x512) ![0, 128 * (k / 4), 128 * (k % 4)] S1x128x128.size (tile_inb k hk)

/-- … its head's plane … -/
abbrev planeAt (k : ℕ) : Rect S4x128x128 := Rect.unit (s := S4x128x128) ![k % 4, 0, 0] S1x128x128.size (plane_inb k)

/-- What the units load. -/
def blk (w : Memref sig .tc .vmem S1x512x512 .bf16) (X : BufTy.Contents (Elt Ideal) w.view.ty) (k : ℕ) (hk : k < 16) : FVec Ideal S1x128x128 .bf16 :=
  w.view.readAt (Elt Ideal) (tileAt k hk).toLoadRect X

@[inherit_doc blk] def plane (w : Memref sig .tc .vmem S4x128x128 .f32) (X : BufTy.Contents (Elt Ideal) w.view.ty) (k : ℕ) : FVec Ideal S1x128x128 .f32 :=
  w.view.readAt (Elt Ideal) (planeAt k).toLoadRect X

@[inherit_doc blk] def row (w : Memref sig .tc .vmem S4x1x128 .f32) (X : BufTy.Contents (Elt Ideal) w.view.ty) (k : ℕ) : FVec Ideal S1x1x128 .f32 :=
  w.view.readAt (Elt Ideal) (Rect.unit (s := S4x1x128) ![k % 4, 0, 0] S1x1x128.size (row_inb k)).toLoadRect X

@[inherit_doc blk] def lane (w : Memref sig .tc .vmem S1x512 .f32) (X : BufTy.Contents (Elt Ideal) w.view.ty) (k : ℕ) : FVec Ideal S1x128 .f32 :=
  w.view.readAt (Elt Ideal) (Rect.unit (s := S1x512) ![0, 128 * (k % 4)] S1x128.size (lane_inb k)).toLoadRect X

/-- A list of states written. -/
abbrev States := List (View.Piece (Elt Ideal) S4x128x128 .f32)

section kept

variable (kb vb : (k : ℕ) → k < 16 → FVec Ideal S1x128x128 .bf16) (kd : ℕ → FVec Ideal S1x128x128 .f32)
  (sd : ℕ → FVec Ideal S1x1x128 .f32) (rd : ℕ → States → FVec Ideal S1x128x128 .f32) (base : States)

/-- The states written by the first `k` units, newest first; unit `k` finds `rd k` of them. -/
def kept : (k : ℕ) → k ≤ 16 → States
  | 0, _ => base
  | k + 1, h => ⟨planeAt k, next (kb k h) (vb k h) (rd k (kept k (by omega))) (kd k) (sd k)⟩ :: kept k (by omega)

theorem kept_next (k : ℕ) (h : k < 16) (L : States) (P : View.Piece (Elt Ideal) S4x128x128 .f32)
    (hL : L = kept kb vb kd sd rd base k (by omega)) (hP : P = ⟨planeAt k, next (kb k h) (vb k h) (rd k L) (kd k) (sd k)⟩) :
    P :: L = kept kb vb kd sd rd base (k + 1) h := by
  subst hL hP
  rfl

variable (qb gb : (k : ℕ) → k < 16 → FVec Ideal S1x128x128 .bf16) (dec qd : ℕ → FVec Ideal S1x128x128 .f32)
  (rg : ℕ → FVec Ideal S1x128 .f32)

/-- The results written by the first `k` units, newest first. -/
def stored : (k : ℕ) → k ≤ 16 → List (View.Piece (Elt Ideal) S1x512x512 .bf16)
  | 0, _ => []
  | k + 1, h => ⟨tileAt k h, out (qb k h) (kb k h) (vb k h) (gb k h) (rd k (kept kb vb kd sd rd base k (by omega))) (dec k) (qd k) (rg k)⟩ :: stored k (by omega)

theorem stored_next (k : ℕ) (h : k < 16) (M : List (View.Piece (Elt Ideal) S1x512x512 .bf16)) (P : View.Piece (Elt Ideal) S1x512x512 .bf16)
    (hM : M = stored kb vb kd sd rd base qb gb dec qd rg k (by omega)) (s : FVec Ideal S1x128x128 .f32)
    (hP : P = ⟨tileAt k h, out (qb k h) (kb k h) (vb k h) (gb k h) s (dec k) (qd k) (rg k)⟩) (hs : s = rd k (kept kb vb kd sd rd base k (by omega))) :
    P :: M = stored kb vb kd sd rd base qb gb dec qd rg (k + 1) h := by
  subst hs hM hP
  rfl

end kept

/-- What a unit finds where the body has set the state first … -/
def found (w : Memref sig .tc .vmem S4x128x128 .f32) (k : ℕ) (L : States) : FVec Ideal S1x128x128 .f32 :=
  w.view.readCov L (planeAt k).toLoadRect

/-- … and where the state comes from the point before. -/
def carried (w : Memref sig .tc .vmem S4x128x128 .f32) (X : BufTy.Contents (Elt Ideal) w.view.ty) : ℕ → States → FVec Ideal S1x128x128 .f32
  | 0, _ => plane w X 0
  | 1, _ => plane w X 1
  | 2, _ => plane w X 2
  | 3, _ => plane w X 3
  | k + 4, L => found w (k + 4) L

theorem carried_late (w : Memref sig .tc .vmem S4x128x128 .f32) (X : BufTy.Contents (Elt Ideal) w.view.ty) (k : ℕ) (L : States) :
    carried w X (k + 4) L = found w (k + 4) L := by
  rw [carried]

variable (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x4x128x128 .f32) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S4x128x128 .f32) (harg9 : arg9.IsWhole) (arg10 : Memref sig .tc .vmem S4x1x128 .f32) (harg10 : arg10.IsWhole) (arg11 : Memref sig .tc .vmem S1x512 .f32) (harg11 : arg11.IsWhole) (arg12 : Memref sig .tc .vmem S1x512x512 .bf16) (harg12 : arg12.IsWhole) (arg13 : Memref sig .tc .vmem S1x4x128x128 .f32) (harg13 : arg13.IsWhole) (arg14 : Memref sig .tc .vmem S4x128x128 .f32) (harg14 : arg14.IsWhole)
  (x0 x1 x2 x3 : FVec Ideal S1x512x512 .bf16) (x4 : FVec Ideal S1x4x128x128 .f32) (x5 x6 x7 : FVec Ideal S4x128x128 .f32) (x8 : FVec Ideal S4x1x128 .f32) (x9 : FVec Ideal S1x512 .f32) (xs0 : FVec Ideal S4x128x128 .f32)

/-- The states kept by the first `k` units of a point's blocks … -/
abbrev keptFrom (rd : ℕ → States → FVec Ideal S1x128x128 .f32) (base : States) (k : ℕ) (h : k ≤ 16) : States :=
  kept (blk arg3 (harg3.unread x1)) (blk arg4 (harg4.unread x2)) (plane arg9 (harg9.unread x7)) (row arg10 (harg10.unread x8)) rd base k h

/-- … and the results stored. -/
abbrev storedFrom (rd : ℕ → States → FVec Ideal S1x128x128 .f32) (base : States) (k : ℕ) (h : k ≤ 16) : List (View.Piece (Elt Ideal) S1x512x512 .bf16) :=
  stored (blk arg3 (harg3.unread x1)) (blk arg4 (harg4.unread x2)) (plane arg9 (harg9.unread x7)) (row arg10 (harg10.unread x8)) rd base
    (blk arg2 (harg2.unread x0)) (blk arg5 (harg5.unread x3)) (plane arg7 (harg7.unread x5)) (plane arg8 (harg8.unread x6)) (lane arg11 (harg11.unread x9)) k h

/-- The state as the first point of a sequence sets it. -/
abbrev init : States :=
  [⟨Rect.unit (s := S4x128x128) ![0, 0, 0] S4x128x128.size inb_S4x128x128_S4x128x128_0_0_0,
    k0_pay3 (F := Ideal) (arg6.view.readAt (Elt Ideal) (Rect.unit (s := S1x4x128x128) ![0, 0, 0, 0] S1x4x128x128.size inb_S1x4x128x128_S1x4x128x128_0_0_0_0).toLoadRect (harg6.unread x4))⟩]

theorem kept_A (hc0 : cond0_0 i) (hc1 : ¬cond0_1 i) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.2.1
      = keptFrom arg3 harg3 arg4 harg4 arg9 harg9 arg10 harg10 x1 x2 x7 x8 (found arg14) (init arg6 harg6 x4) 16 (le_refl _) := by
  unfold kernelRun0_A
  dsimp only
  iterate 16 refine kept_next _ _ _ _ _ _ _ _ _ _ ?_ rfl
  rfl

theorem stored_A (hc0 : cond0_0 i) (hc1 : ¬cond0_1 i) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).1
      = storedFrom arg2 harg2 arg3 harg3 arg4 harg4 arg5 harg5 arg7 harg7 arg8 harg8 arg9 harg9 arg10 harg10 arg11 harg11 x0 x1 x2 x3 x5 x6 x7 x8 x9 (found arg14) (init arg6 harg6 x4) 16 (le_refl _) := by
  unfold kernelRun0_A
  dsimp only
  iterate 16 refine stored_next _ _ _ _ _ _ _ _ _ _ _ _ _ _ _ ?_ _ rfl ?_
  rfl
  all_goals
    show arg14.view.readCov _ _ = arg14.view.readCov _ _
    refine congrArg (fun L => arg14.view.readCov L _) ?_
    repeat refine kept_next _ _ _ _ _ _ _ _ _ _ ?_ rfl
    rfl

theorem kept_B (hc0 : ¬cond0_0 i) (hc1 : ¬cond0_1 i) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0).2.2.1
      = keptFrom arg3 harg3 arg4 harg4 arg9 harg9 arg10 harg10 x1 x2 x7 x8 (carried arg14 (harg14.unread xs0)) [] 16 (le_refl _) := by
  unfold kernelRun0_B
  dsimp only
  iterate 16 refine kept_next _ _ _ _ _ _ _ _ _ _ ?_ rfl
  rfl

theorem stored_B (hc0 : ¬cond0_0 i) (hc1 : ¬cond0_1 i) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0).1
      = storedFrom arg2 harg2 arg3 harg3 arg4 harg4 arg5 harg5 arg7 harg7 arg8 harg8 arg9 harg9 arg10 harg10 arg11 harg11 x0 x1 x2 x3 x5 x6 x7 x8 x9 (carried arg14 (harg14.unread xs0)) [] 16 (le_refl _) := by
  unfold kernelRun0_B
  dsimp only
  iterate 16 refine stored_next _ _ _ _ _ _ _ _ _ _ _ _ _ _ _ ?_ _ rfl ?_
  iterate 5 rfl
  all_goals
    show arg14.view.readCov _ _ = arg14.view.readCov _ _
    refine congrArg (fun L => arg14.view.readCov L _) ?_
    repeat refine kept_next _ _ _ _ _ _ _ _ _ _ ?_ rfl
    rfl

theorem kept_C (hc0 : ¬cond0_0 i) (hc1 : cond0_1 i) :
    (kernelRun0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0).2.2.1
      = keptFrom arg3 harg3 arg4 harg4 arg9 harg9 arg10 harg10 x1 x2 x7 x8 (carried arg14 (harg14.unread xs0)) [] 16 (le_refl _) := by
  unfold kernelRun0_C
  dsimp only
  iterate 16 refine kept_next _ _ _ _ _ _ _ _ _ _ ?_ rfl
  rfl

theorem stored_C (hc0 : ¬cond0_0 i) (hc1 : cond0_1 i) :
    (kernelRun0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0).1
      = storedFrom arg2 harg2 arg3 harg3 arg4 harg4 arg5 harg5 arg7 harg7 arg8 harg8 arg9 harg9 arg10 harg10 arg11 harg11 x0 x1 x2 x3 x5 x6 x7 x8 x9 (carried arg14 (harg14.unread xs0)) [] 16 (le_refl _) := by
  unfold kernelRun0_C
  dsimp only
  iterate 16 refine stored_next _ _ _ _ _ _ _ _ _ _ _ _ _ _ _ ?_ _ rfl ?_
  iterate 5 rfl
  all_goals
    show arg14.view.readCov _ _ = arg14.view.readCov _ _
    refine congrArg (fun L => arg14.view.readCov L _) ?_
    repeat refine kept_next _ _ _ _ _ _ _ _ _ _ ?_ rfl
    rfl

/-- The last point of a sequence also writes the state out. -/
theorem last_C (hc0 : ¬cond0_0 i) (hc1 : cond0_1 i) :
    (kernelRun0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0).2.1
      = [⟨Rect.unit (s := S1x4x128x128) ![0, 0, 0, 0] S1x4x128x128.size inb_S1x4x128x128_S1x4x128x128_0_0_0_0,
          k0_pay2 (F := Ideal) (arg14.view.readCov (keptFrom arg3 harg3 arg4 harg4 arg9 harg9 arg10 harg10 x1 x2 x7 x8 (carried arg14 (harg14.unread xs0)) [] 16 (le_refl _))
            (Rect.unit (s := S4x128x128) ![0, 0, 0] S4x128x128.size inb_S4x128x128_S4x128x128_0_0_0).toLoadRect)⟩] := by
  unfold kernelRun0_C
  dsimp only
  refine congrArg (fun L : States => ([⟨Rect.unit (s := S1x4x128x128) ![0, 0, 0, 0] S1x4x128x128.size inb_S1x4x128x128_S1x4x128x128_0_0_0_0,
    k0_pay2 (F := Ideal) (arg14.view.readCov L (Rect.unit (s := S4x128x128) ![0, 0, 0] S4x128x128.size inb_S4x128x128_S4x128x128_0_0_0).toLoadRect)⟩] :
      List (View.Piece (Elt Ideal) S1x4x128x128 .f32))) ?_
  iterate 16 refine kept_next _ _ _ _ _ _ _ _ _ _ ?_ rfl
  rfl

end Cert.RetIdeal.Units

end
-- ==== Proof.RetPoint.lean ====
/-
  A unit of the retention's body, entry by entry: what a chunk adds to the state, and the chunk's normed and gated results.
-/
module

public import proofs.«01_k».proof.Proof.RetList

@[expose] public section

set_option maxRecDepth 16384

noncomputable section

namespace Cert.RetIdeal.Units

open Cert Cert.RetIdeal Cert.RetIdeal.Gen Idealize.ShloMosaic Idealize.ShloMosaic.TcCoe Idealize.SL.Sem

variable (qb kb vb gb : FVec Ideal S1x128x128 .bf16) (s dec qd kd : FVec Ideal S1x128x128 .f32) (sd : FVec Ideal S1x1x128 .f32)
  (rg : FVec Ideal S1x128 .f32)

theorem next_at (d e : Fin 128) : next kb vb s kd sd (ix3 0 d e)
    = sd (ix3 0 0 e) * s (ix3 0 d e) + ∑ j : Fin 128, (kb (ix3 0 j d) * kd (ix3 0 j d)) * vb (ix3 0 j e) := by
  pointwise [next, k0_pay9, k0_pay8, k0_pay6, k0_pay5, k0_pay4]

/-- The chunk's results before their norm. -/
def raw : FVec Ideal S128x128 .f32 := k0_pay7 (F := Ideal) qb kb vb s dec qd

theorem raw_at (i e : Fin 128) : raw qb kb vb s dec qd (ix2 i e)
    = (∑ j : Fin 128, ((∑ d : Fin 128, qb (ix3 0 i d) * kb (ix3 0 j d)) * dec (ix3 0 i j)) * vb (ix3 0 j e))
      + (∑ d : Fin 128, qb (ix3 0 i d) * s (ix3 0 d e)) * qd (ix3 0 i e) := by
  pointwise [raw, k0_pay7, k0_pay6, k0_pay5, k0_pay4]

theorem out_at (i e : Fin 128) : out qb kb vb gb s dec qd rg (ix3 0 i e)
    = raw qb kb vb s dec qd (ix2 i e)
      * Ideal.rsqrt (Ideal.div (∑ e' : Fin 128, raw qb kb vb s dec qd (ix2 i e') * raw qb kb vb s dec qd (ix2 i e')) (Ideal.ofBits .f32 1124073472#32)
        + Ideal.ofBits .f32 897988541#32)
      * rg (ix2 0 e) * gb (ix3 0 i e) := by
  show k0_pay10 (F := Ideal) (raw qb kb vb s dec qd) rg gb (ix3 0 i e) = _
  pointwise [k0_pay10]

end Cert.RetIdeal.Units

end
-- ==== Proof.RetSpec.lean ====
/-
  The retention of the prompt, chunk by chunk: the decays, a head's state before each chunk, its results, and their norm and
  gate. Rows are given as sequence, chunk and row of the chunk; lanes as head and lane of the head.
-/
module

public import Idealize.ShloMosaic.Lib.Pipeline.ValueKit
public import Idealize.ShloMosaic.Lib.Claim

@[expose] public section

noncomputable section

namespace Cert.Chunks

open Idealize.ShloMosaic

/-- A count as the program's value. -/
abbrev num (k : ℕ) : EReal := FloatOps.sitofp (F := Ideal) FTy.f32 (BitVec.ofNat 32 k)

/-- The logarithm of a head's decay. -/
def lg (h : ℕ) : EReal := Ideal.log (1 - Ideal.pow (Ideal.ofBits .f32 1073741824#32) (Ideal.ofBits .f32 3231711232#32 - num h))

def dec (h i j : ℕ) : EReal := if 0 ≤ num i - num j then Ideal.exp (max (num i - num j) 0 * lg h) else 0

def qd (h i : ℕ) : EReal := Ideal.exp ((num i + 1) * lg h)

def kd (h i : ℕ) : EReal := Ideal.exp ((Ideal.ofBits .f32 1123942400#32 - num i) * lg h)

def sd (h : ℕ) : EReal := Ideal.exp (Ideal.ofBits .f32 1124073472#32 * lg h)

/-- An array's entry for sequence `b`, head `h`, chunk `n`, row `i` of the chunk and lane `d` of the head. -/
def ent (X : Fin 16384 → Fin 512 → EReal) (b h n i d : ℕ) : EReal :=
  X (Fin.ofNat 16384 (b * 4096 + n * 128 + i)) (Fin.ofNat 512 (h * 128 + d))

theorem ent_of (X : Fin 16384 → Fin 512 → EReal) (b h n i d : ℕ) (r : Fin 16384) (j : Fin 512)
    (hr : r.val = b * 4096 + n * 128 + i) (hj : j.val = h * 128 + d) : X r j = ent X b h n i d := by
  have e1 : r = Fin.ofNat 16384 (b * 4096 + n * 128 + i) := by
    refine Fin.ext ?_
    rw [← hr]
    exact (Nat.mod_eq_of_lt r.isLt).symm
  have e2 : j = Fin.ofNat 512 (h * 128 + d) := by
    refine Fin.ext ?_
    rw [← hj]
    exact (Nat.mod_eq_of_lt j.isLt).symm
  rw [e1, e2]
  rfl

variable (Q K V G : Fin 16384 → Fin 512 → EReal) (g : ℕ → ℕ → EReal) (b h : ℕ)

/-- The state before chunk `n`. -/
def state : ℕ → Fin 128 → Fin 128 → EReal
  | 0 => fun _ _ => 0
  | n + 1 => fun d e => sd h * state n d e + ∑ j : Fin 128, (ent K b h n j d * kd h j) * ent V b h n j e

/-- The results of chunk `n` … -/
def raw (n : ℕ) (i e : Fin 128) : EReal :=
  (∑ j : Fin 128, ((∑ d : Fin 128, ent Q b h n i d * ent K b h n j d) * dec h i j) * ent V b h n j e)
    + (∑ d : Fin 128, ent Q b h n i d * state K V b h n d e) * qd h i

/-- … normed over the head and gated. -/
def gated (n : ℕ) (i e : Fin 128) : EReal :=
  raw Q K V b h n i e
    * Ideal.rsqrt (Ideal.div (∑ x : Fin 128, raw Q K V b h n i x * raw Q K V b h n i x) (Ideal.ofBits .f32 1124073472#32)
        + Ideal.ofBits .f32 897988541#32)
    * g h e * ent G b h n i e

end Cert.Chunks

end
-- ==== Proof.RetUnits.lean ====
/-
  What the sixteen units of a point leave: unit `k` finds its head's state before chunk `4 * s + k / 4` and leaves the one
  after it, and stores the chunk's gated results.
-/
module

public import proofs.«01_k».proof.Proof.RetPoint
public import proofs.«01_k».proof.Proof.RetSpec

@[expose] public section

set_option maxRecDepth 16384

noncomputable section

namespace Cert.RetIdeal.Units

open Cert Cert.RetIdeal Cert.RetIdeal.Gen Idealize.ShloMosaic Idealize.ShloMosaic.TcCoe Idealize.SL.Sem

/-- What the units load, as entries of the whole arrays: sequence `b`, chunks `4 * s` to `4 * s + 3`. -/
structure Loads (Q K W G : Fin 16384 → Fin 512 → EReal) (g : ℕ → ℕ → EReal) (b s : ℕ)
    (qb kb vb gb : (k : ℕ) → k < 16 → FVec Ideal S1x128x128 .bf16) (dec qd kd : ℕ → FVec Ideal S1x128x128 .f32)
    (sd : ℕ → FVec Ideal S1x1x128 .f32) (rg : ℕ → FVec Ideal S1x128 .f32) : Prop where
  q_at : ∀ k hk (i d : Fin 128), qb k hk (ix3 0 i d) = Chunks.ent Q b (k % 4) (4 * s + k / 4) i d
  k_at : ∀ k hk (i d : Fin 128), kb k hk (ix3 0 i d) = Chunks.ent K b (k % 4) (4 * s + k / 4) i d
  v_at : ∀ k hk (i d : Fin 128), vb k hk (ix3 0 i d) = Chunks.ent W b (k % 4) (4 * s + k / 4) i d
  g_at : ∀ k hk (i d : Fin 128), gb k hk (ix3 0 i d) = Chunks.ent G b (k % 4) (4 * s + k / 4) i d
  dec_at : ∀ k (i j : Fin 128), dec k (ix3 0 i j) = Chunks.dec (k % 4) i j
  qd_at : ∀ k (i j : Fin 128), qd k (ix3 0 i j) = Chunks.qd (k % 4) i
  kd_at : ∀ k (i j : Fin 128), kd k (ix3 0 i j) = Chunks.kd (k % 4) i
  sd_at : ∀ k (j : Fin 128), sd k (ix3 0 0 j) = Chunks.sd (k % 4)
  rg_at : ∀ k (j : Fin 128), rg k (ix2 0 j) = g (k % 4) j

/-- A head's plane of the states. -/
abbrev head (k : ℕ) : Fin 4 := ⟨k % 4, Nat.mod_lt _ (by decide)⟩

section reads

variable (v : View sig .tc .vmem S4x128x128 .f32) (f : v.ty.Contents (Elt Ideal))

theorem plane_self (k : ℕ) (w : FVec Ideal S1x128x128 .f32) (L : States) (d e : Fin 128) :
    v.read (Elt Ideal) (v.writes (Elt Ideal) f (⟨planeAt k, w⟩ :: L)) (ix3 (head k) d e) = w (ix3 0 d e) :=
  View.read_writes_cons_unit_of_mem v f (plane_inb k) w L (ix3 (head k) d e) (ix3 0 d e) rfl fun a => by
    fin_cases a
    · exact (Nat.add_zero _).symm
    · exact (Nat.zero_add _).symm
    · exact (Nat.zero_add _).symm

theorem plane_other (k : ℕ) (h : Fin 4) (hn : h.val ≠ k % 4) (w : FVec Ideal S1x128x128 .f32) (L : States) (d e : Fin 128) :
    v.read (Elt Ideal) (v.writes (Elt Ideal) f (⟨planeAt k, w⟩ :: L)) (ix3 h d e) = v.read (Elt Ideal) (v.writes (Elt Ideal) f L) (ix3 h d e) :=
  View.read_writes_cons_unit_of_not_mem v f (plane_inb k) w L (ix3 h d e) rfl 0 (by
    show h.val < k % 4 ∨ k % 4 + 1 ≤ h.val
    omega)

end reads

theorem found_at (w : Memref sig .tc .vmem S4x128x128 .f32) (k : ℕ) (L : States) (d e : Fin 128) :
    found w k L (ix3 0 d e) = w.view.read (Elt Ideal) (w.view.writes (Elt Ideal) w.view.junk L) (ix3 (head k) d e) := by
  show w.view.read (Elt Ideal) (w.view.writes (Elt Ideal) w.view.junk L) ((planeAt k).toLoadRect.idx (ix3 0 d e)) = _
  congr 1
  refine funext fun a => Fin.ext ?_
  fin_cases a
  · show k % 4 + 1 * 0 = k % 4
    omega
  · show 0 + 1 * d.val = d.val
    omega
  · show 0 + 1 * e.val = e.val
    omega

section units

variable {Q K W G : Fin 16384 → Fin 512 → EReal} {g : ℕ → ℕ → EReal} {b s : ℕ}
  {qb kb vb gb : (k : ℕ) → k < 16 → FVec Ideal S1x128x128 .bf16} {dec qd kd : ℕ → FVec Ideal S1x128x128 .f32}
  {sd : ℕ → FVec Ideal S1x1x128 .f32} {rg : ℕ → FVec Ideal S1x128 .f32} {rd : ℕ → States → FVec Ideal S1x128x128 .f32} {base : States}
  (w : Memref sig .tc .vmem S4x128x128 .f32)

/-- The first heads not yet done still read what was there. -/
theorem kept_before (v : View sig .tc .vmem S4x128x128 .f32) (f : v.ty.Contents (Elt Ideal)) (h : Fin 4) (d e : Fin 128) (k : ℕ) (hk : k ≤ 16) (hh : k ≤ h.val) :
    v.read (Elt Ideal) (v.writes (Elt Ideal) f (kept kb vb kd sd rd base k hk)) (ix3 h d e) = v.read (Elt Ideal) (v.writes (Elt Ideal) f base) (ix3 h d e) := by
  induction k with
  | zero => rfl
  | succ k ih => exact (plane_other v f k h (by omega) _ _ d e).trans (ih (by omega) (by omega))

variable (H : Loads Q K W G g b s qb kb vb gb dec qd kd sd rg)
  (h0 : ∀ k (hk : k < 4) (hk' : k ≤ 16) d e, rd k (kept kb vb kd sd rd base k hk') (ix3 0 d e) = Chunks.state K W b k (4 * s) d e)
  (h4 : ∀ k L, rd (k + 4) L = found w (k + 4) L)
include H h0 h4

/-- After `k` units each of the last four has its state in place. -/
theorem kept_read (v : View sig .tc .vmem S4x128x128 .f32) (f : v.ty.Contents (Elt Ideal)) (k : ℕ) : ∀ (hk : k ≤ 16) (k' : ℕ) (h1 : k' < k) (h2 : k ≤ k' + 4) (d e : Fin 128),
    v.read (Elt Ideal) (v.writes (Elt Ideal) f (kept kb vb kd sd rd base k hk)) (ix3 (head k') d e)
      = Chunks.state K W b (k' % 4) (4 * s + k' / 4 + 1) d e := by
  induction k using Nat.strong_induction_on generalizing v f with
  | _ k ih =>
    intro hk k' h1 h2 d e
    obtain ⟨n, rfl⟩ : ∃ n, k = n + 1 := ⟨k - 1, by omega⟩
    by_cases hn : k' = n
    · subst hn
      refine (plane_self v f k' _ _ d e).trans ?_
      rw [next_at, H.sd_at]
      simp only [H.k_at, H.v_at, H.kd_at]
      refine congrArg₂ (· + ·) (congrArg₂ (· * ·) rfl ?_) rfl
      by_cases h : k' < 4
      · rw [h0 k' h _ d e, show k' % 4 = k' by omega, show 4 * s + k' / 4 = 4 * s by omega]
      · obtain ⟨j, rfl⟩ : ∃ j, k' = j + 4 := ⟨k' - 4, by omega⟩
        rw [h4, found_at]
        have := ih (j + 4) (by omega) w.view w.view.junk (by omega) j (by omega) (by omega) d e
        rw [show head (j + 4) = head j from Fin.ext (by show (j + 4) % 4 = j % 4; omega), this, show (j + 4) % 4 = j % 4 by omega,
          show 4 * s + (j + 4) / 4 = 4 * s + j / 4 + 1 by omega]
    · exact (plane_other v f n (head k') (by show k' % 4 ≠ n % 4; omega) _ _ d e).trans
        (ih n (by omega) v f (by omega) k' (by omega) (by omega) d e)

/-- What a unit finds. -/
theorem rd_at (k : ℕ) (hk : k < 16) (d e : Fin 128) : rd k (kept kb vb kd sd rd base k (by omega)) (ix3 0 d e)
    = Chunks.state K W b (k % 4) (4 * s + k / 4) d e := by
  by_cases h : k < 4
  · rw [h0 k h _ d e, show k % 4 = k by omega, show 4 * s + k / 4 = 4 * s by omega]
  · obtain ⟨j, rfl⟩ : ∃ j, k = j + 4 := ⟨k - 4, by omega⟩
    rw [h4, found_at]
    have := kept_read w H h0 h4 w.view w.view.junk (j + 4) (by omega) j (by omega) (by omega) d e
    rw [show head (j + 4) = head j from Fin.ext (by show (j + 4) % 4 = j % 4; omega), this, show (j + 4) % 4 = j % 4 by omega,
      show 4 * s + (j + 4) / 4 = 4 * s + j / 4 + 1 by omega]

theorem raw_unit (k : ℕ) (hk : k < 16) (i e : Fin 128) :
    raw (qb k hk) (kb k hk) (vb k hk) (rd k (kept kb vb kd sd rd base k (by omega))) (dec k) (qd k) (ix2 i e)
      = Chunks.raw Q K W b (k % 4) (4 * s + k / 4) i e := by
  rw [raw_at]
  simp only [H.q_at, H.k_at, H.v_at, H.dec_at, H.qd_at, rd_at w H h0 h4 k hk]
  rfl

/-- Every unit's results are in place. -/
theorem stored_read (v : View sig .tc .vmem S1x512x512 .bf16) (f : v.ty.Contents (Elt Ideal)) (k' : ℕ) (h' : k' < 16) (i e : Fin 128) (k : ℕ) (hk : k ≤ 16) (h1 : k' < k) :
    v.read (Elt Ideal) (v.writes (Elt Ideal) f (stored kb vb kd sd rd base qb gb dec qd rg k hk))
        (ix3 0 ⟨128 * (k' / 4) + i.val, by omega⟩ ⟨128 * (k' % 4) + e.val, by omega⟩)
      = Chunks.gated Q K W G g b (k' % 4) (4 * s + k' / 4) i e := by
  induction k with
  | zero => omega
  | succ k ih =>
    by_cases hn : k' = k
    · subst hn
      refine (View.read_writes_cons_unit_of_mem v f (tile_inb k' hk) _ _ _ (ix3 0 i e) rfl fun a => ?_).trans ?_
      · fin_cases a
        · rfl
        · rfl
        · rfl
      · rw [out_at, H.rg_at, H.g_at]
        simp only [raw_unit w H h0 h4 k' hk]
        rfl
    · refine Eq.trans ?_ (ih (by omega) (by omega))
      by_cases hr : k' / 4 = k / 4
      · exact View.read_writes_cons_unit_of_not_mem v f (tile_inb k hk) _ _ _ rfl 2 (by
          show 128 * (k' % 4) + e.val < 128 * (k % 4) ∨ 128 * (k % 4) + 128 ≤ 128 * (k' % 4) + e.val
          omega)
      · exact View.read_writes_cons_unit_of_not_mem v f (tile_inb k hk) _ _ _ rfl 1 (by
          show 128 * (k' / 4) + i.val < 128 * (k / 4) ∨ 128 * (k / 4) + 128 ≤ 128 * (k' / 4) + i.val
          omega)

end units

end Cert.RetIdeal.Units

end
-- ==== Proof.RetIn.lean ====
/-
  The retention's blocks at a grid point: the rows of the prompt, the decay tables, the gain and the zero state.
-/
module

public import proofs.«01_k».proof.Proof.Gen.RetIdeal.Frame.Runs
public import proofs.«01_k».proof.Proof.RetSpec
public import Idealize.ShloMosaic.Lib.Pipeline.ValueKit
public import Idealize.ShloMosaic.Lib.Claim

@[expose] public section

set_option maxRecDepth 16384

noncomputable section

namespace Cert.RetIdeal.In

open Cert Cert.RetIdeal Cert.RetIdeal.Gen Idealize.ShloMosaic Idealize.ShloMosaic.TcCoe Idealize.SL.Sem

theorem idx : ∀ t : Fin cfg0.N,
    win0_0.index t = ![t.val / 8, t.val % 8, 0] ∧ win0_1.index t = ![t.val / 8, t.val % 8, 0] ∧ win0_2.index t = ![t.val / 8, t.val % 8, 0]
    ∧ win0_3.index t = ![t.val / 8, t.val % 8, 0] ∧ win0_4.index t = ![t.val / 8, 0, 0, 0] ∧ win0_5.index t = ![0, 0, 0]
    ∧ win0_6.index t = ![0, 0, 0] ∧ win0_7.index t = ![0, 0, 0] ∧ win0_8.index t = ![0, 0, 0] ∧ win0_9.index t = ![0, 0] ∧ t.val < 32 :=
  (by decide +kernel : ∀ t : Fin grid0.N, _)

variable (m : (ℓ : Loc nD τ sig) → Buf (Elt Ideal) ℓ) (c : Dev nD) (t : Fin cfg0.N)

abbrev Q (r : Fin 16384) (j : Fin 512) : EReal := (m ((c : Thread nD τ).loc main_arg0) : FVec Ideal S16384x512 .bf16) (ix2 r j)
abbrev K (r : Fin 16384) (j : Fin 512) : EReal := (m ((c : Thread nD τ).loc main_arg1) : FVec Ideal S16384x512 .bf16) (ix2 r j)
abbrev W (r : Fin 16384) (j : Fin 512) : EReal := (m ((c : Thread nD τ).loc main_arg2) : FVec Ideal S16384x512 .bf16) (ix2 r j)
abbrev G (r : Fin 16384) (j : Fin 512) : EReal := (m ((c : Thread nD τ).loc main_arg3) : FVec Ideal S16384x512 .bf16) (ix2 r j)

/-- The gain of a head's lane. -/
abbrev gain (h d : ℕ) : EReal := (m ((c : Thread nD τ).loc main_arg4) : FVec Ideal S4x128 .f32) (ix2 (Fin.ofNat 4 h) (Fin.ofNat 128 d))

/-- The sequence's row behind a block's row. -/
abbrev row (i : Fin 512) : Fin 4096 := ⟨512 * (t.val % 8) + i.val, by omega⟩

/-- The sequence of a point. -/
abbrev seq : Fin 4 := ⟨t.val / 8, by have := (idx t).2.2.2.2.2.2.2.2.2.2; omega⟩

/-! The prepared operands, as the region finds them. -/

theorem v30 (h : Fin 4) (i j : Fin 128) : (show FVec Ideal S4x128x128 .f32 from V m c main_v30) (ix3 h i j) = Chunks.dec h i j := by
  simp only [V, hostOps0, hostOps0_1, hostOps0_2, List.flatten_cons, List.flatten_nil, List.append_nil, List.cons_append, List.nil_append]
  after_results
  simp only [StableHlo.TRef.toBuf, StableHlo.TRef.ofBuf, id_eq, cast_eq]
  pointwise
  rfl

theorem v51 (h : Fin 4) (i j : Fin 128) : (show FVec Ideal S4x128x128 .f32 from V m c main_v51) (ix3 h i j) = Chunks.qd h i := by
  simp only [V, hostOps0, hostOps0_1, hostOps0_2, List.flatten_cons, List.flatten_nil, List.append_nil, List.cons_append, List.nil_append]
  after_results
  pointwise
  rfl

theorem v53 (h : Fin 4) (i j : Fin 128) : (show FVec Ideal S4x128x128 .f32 from V m c main_v53) (ix3 h i j) = Chunks.kd h i := by
  simp only [V, hostOps0, hostOps0_1, hostOps0_2, List.flatten_cons, List.flatten_nil, List.append_nil, List.cons_append, List.nil_append]
  after_results
  pointwise
  rfl

theorem v55 (h : Fin 4) (j : Fin 128) : (show FVec Ideal S4x1x128 .f32 from V m c main_v55) (ix3 h 0 j) = Chunks.sd h := by
  simp only [V, hostOps0, hostOps0_1, hostOps0_2, List.flatten_cons, List.flatten_nil, List.append_nil, List.cons_append, List.nil_append]
  after_results
  pointwise
  rfl

theorem v1 (j : Fin 512) : (show FVec Ideal S1x512 .f32 from V m c main_v1) (ix2 0 j) = gain m c (j.val / 128) (j.val % 128) := by
  refine Eq.trans (b := (m ((c : Thread nD τ).loc main_arg4) : FVec Ideal S4x128 .f32) (ix2 ⟨j.val / 128, by omega⟩ ⟨j.val % 128, by omega⟩)) ?_ ?_
  · simp only [V, hostOps0, hostOps0_1, hostOps0_2, List.flatten_cons, List.flatten_nil, List.append_nil, List.cons_append, List.nil_append]
    after_results
    pointwise
  · refine congrArg (m ((c : Thread nD τ).loc main_arg4) : FVec Ideal S4x128 .f32) ?_
    congr 1
    · exact Fin.ext (Nat.mod_eq_of_lt (by omega : j.val / 128 < 4)).symm
    · exact Fin.ext (Nat.mod_eq_of_lt (by omega : j.val % 128 < 128)).symm

theorem v2 (b : Fin 4) (r : Fin 4096) (j : Fin 512) : (show FVec Ideal S4x4096x512 .bf16 from V m c main_v2) (ix3 b r j) = Q m c ⟨b.val * 4096 + r.val, by omega⟩ j := by
  simp only [V, hostOps0, hostOps0_1, hostOps0_2, List.flatten_cons, List.flatten_nil, List.append_nil, List.cons_append, List.nil_append]
  after_results
  pointwise

theorem v3 (b : Fin 4) (r : Fin 4096) (j : Fin 512) : (show FVec Ideal S4x4096x512 .bf16 from V m c main_v3) (ix3 b r j) = K m c ⟨b.val * 4096 + r.val, by omega⟩ j := by
  simp only [V, hostOps0, hostOps0_1, hostOps0_2, List.flatten_cons, List.flatten_nil, List.append_nil, List.cons_append, List.nil_append]
  after_results
  pointwise

theorem v4 (b : Fin 4) (r : Fin 4096) (j : Fin 512) : (show FVec Ideal S4x4096x512 .bf16 from V m c main_v4) (ix3 b r j) = W m c ⟨b.val * 4096 + r.val, by omega⟩ j := by
  simp only [V, hostOps0, hostOps0_1, hostOps0_2, List.flatten_cons, List.flatten_nil, List.append_nil, List.cons_append, List.nil_append]
  after_results
  pointwise

theorem v5 (b : Fin 4) (r : Fin 4096) (j : Fin 512) : (show FVec Ideal S4x4096x512 .bf16 from V m c main_v5) (ix3 b r j) = G m c ⟨b.val * 4096 + r.val, by omega⟩ j := by
  simp only [V, hostOps0, hostOps0_1, hostOps0_2, List.flatten_cons, List.flatten_nil, List.append_nil, List.cons_append, List.nil_append]
  after_results
  pointwise

theorem v0 (b h : Fin 4) (d e : Fin 128) : (show FVec Ideal S4x4x128x128 .f32 from V m c main_v0) (ix4 b h d e) = 0 := by
  simp only [V, hostOps0, hostOps0_1, hostOps0_2, List.flatten_cons, List.flatten_nil, List.append_nil, List.cons_append, List.nil_append]
  after_results
  pointwise

/-! The blocks. -/

theorem blk0 (i j : Fin 512) : (show FVec Ideal S1x512x512 .bf16 from iblk m c 0 t) (ix3 0 i j) = Q m c ⟨(seq t).val * 4096 + (row t i).val, by omega⟩ j := by
  refine Eq.trans ?_ (v2 m c (seq t) (row t i) j)
  blk_ext [iblk, idx t]

theorem blk1 (i j : Fin 512) : (show FVec Ideal S1x512x512 .bf16 from iblk m c 1 t) (ix3 0 i j) = K m c ⟨(seq t).val * 4096 + (row t i).val, by omega⟩ j := by
  refine Eq.trans ?_ (v3 m c (seq t) (row t i) j)
  blk_ext [iblk, idx t]

theorem blk2 (i j : Fin 512) : (show FVec Ideal S1x512x512 .bf16 from iblk m c 2 t) (ix3 0 i j) = W m c ⟨(seq t).val * 4096 + (row t i).val, by omega⟩ j := by
  refine Eq.trans ?_ (v4 m c (seq t) (row t i) j)
  blk_ext [iblk, idx t]

theorem blk3 (i j : Fin 512) : (show FVec Ideal S1x512x512 .bf16 from iblk m c 3 t) (ix3 0 i j) = G m c ⟨(seq t).val * 4096 + (row t i).val, by omega⟩ j := by
  refine Eq.trans ?_ (v5 m c (seq t) (row t i) j)
  blk_ext [iblk, idx t]

theorem blk4 (h : Fin 4) (d e : Fin 128) : (show FVec Ideal S1x4x128x128 .f32 from iblk m c 4 t) (ix4 0 h d e) = 0 := by
  refine Eq.trans ?_ (v0 m c (seq t) h d e)
  blk_ext [iblk, idx t]

theorem blk5 (h : Fin 4) (i j : Fin 128) : (show FVec Ideal S4x128x128 .f32 from iblk m c 5 t) (ix3 h i j) = Chunks.dec h i j := by
  refine Eq.trans ?_ (v30 m c h i j)
  blk_ext [iblk, idx t]

theorem blk6 (h : Fin 4) (i j : Fin 128) : (show FVec Ideal S4x128x128 .f32 from iblk m c 6 t) (ix3 h i j) = Chunks.qd h i := by
  refine Eq.trans ?_ (v51 m c h i j)
  blk_ext [iblk, idx t]

theorem blk7 (h : Fin 4) (i j : Fin 128) : (show FVec Ideal S4x128x128 .f32 from iblk m c 7 t) (ix3 h i j) = Chunks.kd h i := by
  refine Eq.trans ?_ (v53 m c h i j)
  blk_ext [iblk, idx t]

theorem blk8 (h : Fin 4) (j : Fin 128) : (show FVec Ideal S4x1x128 .f32 from iblk m c 8 t) (ix3 h 0 j) = Chunks.sd h := by
  refine Eq.trans ?_ (v55 m c h j)
  blk_ext [iblk, idx t]

theorem blk9 (j : Fin 512) : (show FVec Ideal S1x512 .f32 from iblk m c 9 t) (ix2 0 j) = gain m c (j.val / 128) (j.val % 128) := by
  refine Eq.trans ?_ (v1 m c j)
  blk_ext [iblk, idx t]

end Cert.RetIdeal.In

end
-- ==== Proof.RetLoads.lean ====
/-
  What a point's units load, from its blocks; and the state the first point of a sequence sets.
-/
module

public import proofs.«01_k».proof.Proof.RetUnits
public import proofs.«01_k».proof.Proof.RetIn
public import Idealize.ShloMosaic.Lib.VecWindow

@[expose] public section

set_option maxRecDepth 16384

noncomputable section

namespace Cert.RetIdeal.Units

open Cert Cert.RetIdeal Cert.RetIdeal.Gen Cert.RetIdeal.In Idealize.ShloMosaic Idealize.ShloMosaic.TcCoe Idealize.SL.Sem

theorem blk_at (w : Memref sig .tc .vmem S1x512x512 .bf16) (hw : w.IsWhole) (x : FVec Ideal S1x512x512 .bf16) (k : ℕ) (hk : k < 16) (i d : Fin 128) :
    blk w (hw.unread x) k hk (ix3 0 i d) = x (ix3 0 ⟨128 * (k / 4) + i.val, by omega⟩ ⟨128 * (k % 4) + d.val, by omega⟩) := by
  show w.view.read (Elt Ideal) (hw.unread x) ((tileAt k hk).toLoadRect.idx (ix3 0 i d)) = _
  rw [hw.read_unread]
  congr 1
  refine funext fun a => Fin.ext ?_
  fin_cases a
  · rfl
  · show 128 * (k / 4) + 1 * i.val = 128 * (k / 4) + i.val
    omega
  · show 128 * (k % 4) + 1 * d.val = 128 * (k % 4) + d.val
    omega

theorem plane_at (w : Memref sig .tc .vmem S4x128x128 .f32) (hw : w.IsWhole) (x : FVec Ideal S4x128x128 .f32) (k : ℕ) (i d : Fin 128) :
    plane w (hw.unread x) k (ix3 0 i d) = x (ix3 (head k) i d) := by
  show w.view.read (Elt Ideal) (hw.unread x) ((planeAt k).toLoadRect.idx (ix3 0 i d)) = _
  rw [hw.read_unread]
  congr 1
  refine funext fun a => Fin.ext ?_
  fin_cases a
  · show k % 4 + 1 * 0 = k % 4
    omega
  · show 0 + 1 * i.val = i.val
    omega
  · show 0 + 1 * d.val = d.val
    omega

theorem row_at (w : Memref sig .tc .vmem S4x1x128 .f32) (hw : w.IsWhole) (x : FVec Ideal S4x1x128 .f32) (k : ℕ) (d : Fin 128) :
    Units.row w (hw.unread x) k (ix3 0 0 d) = x (ix3 (head k) 0 d) := by
  show w.view.read (Elt Ideal) (hw.unread x) ((Rect.unit (s := S4x1x128) ![k % 4, 0, 0] S1x1x128.size (row_inb k)).toLoadRect.idx (ix3 0 0 d)) = _
  rw [hw.read_unread]
  congr 1
  refine funext fun a => Fin.ext ?_
  fin_cases a
  · show k % 4 + 1 * 0 = k % 4
    omega
  · rfl
  · show 0 + 1 * d.val = d.val
    omega

theorem lane_at (w : Memref sig .tc .vmem S1x512 .f32) (hw : w.IsWhole) (x : FVec Ideal S1x512 .f32) (k : ℕ) (d : Fin 128) :
    lane w (hw.unread x) k (ix2 0 d) = x (ix2 0 ⟨128 * (k % 4) + d.val, by omega⟩) := by
  show w.view.read (Elt Ideal) (hw.unread x) ((Rect.unit (s := S1x512) ![0, 128 * (k % 4)] S1x128.size (lane_inb k)).toLoadRect.idx (ix2 0 d)) = _
  rw [hw.read_unread]
  congr 1
  refine funext fun a => Fin.ext ?_
  fin_cases a
  · rfl
  · show 128 * (k % 4) + 1 * d.val = 128 * (k % 4) + d.val
    omega

variable (m : (ℓ : Loc nD τ sig) → Buf (Elt Ideal) ℓ) (c : Dev nD) (t : Fin cfg0.N)

section

variable (arg2 : Memref sig .tc .vmem S1x512x512 .bf16) (harg2 : arg2.IsWhole) (arg3 : Memref sig .tc .vmem S1x512x512 .bf16) (harg3 : arg3.IsWhole)
  (arg4 : Memref sig .tc .vmem S1x512x512 .bf16) (harg4 : arg4.IsWhole) (arg5 : Memref sig .tc .vmem S1x512x512 .bf16) (harg5 : arg5.IsWhole)
  (arg6 : Memref sig .tc .vmem S1x4x128x128 .f32) (harg6 : arg6.IsWhole) (arg7 : Memref sig .tc .vmem S4x128x128 .f32) (harg7 : arg7.IsWhole)
  (arg8 : Memref sig .tc .vmem S4x128x128 .f32) (harg8 : arg8.IsWhole) (arg9 : Memref sig .tc .vmem S4x128x128 .f32) (harg9 : arg9.IsWhole)
  (arg10 : Memref sig .tc .vmem S4x1x128 .f32) (harg10 : arg10.IsWhole) (arg11 : Memref sig .tc .vmem S1x512 .f32) (harg11 : arg11.IsWhole)

theorem loads : Loads (Q m c) (K m c) (W m c) (G m c) (gain m c) (t.val / 8) (t.val % 8)
    (blk arg2 (harg2.unread (iblk m c 0 t))) (blk arg3 (harg3.unread (iblk m c 1 t))) (blk arg4 (harg4.unread (iblk m c 2 t)))
    (blk arg5 (harg5.unread (iblk m c 3 t))) (plane arg7 (harg7.unread (iblk m c 5 t))) (plane arg8 (harg8.unread (iblk m c 6 t)))
    (plane arg9 (harg9.unread (iblk m c 7 t))) (Units.row arg10 (harg10.unread (iblk m c 8 t))) (lane arg11 (harg11.unread (iblk m c 9 t))) where
  q_at k hk i d := (blk_at _ _ _ k hk i d).trans ((blk0 m c t _ _).trans (Chunks.ent_of _ _ _ _ _ _ _ _
    (by dsimp only; omega) (by dsimp only; omega)))
  k_at k hk i d := (blk_at _ _ _ k hk i d).trans ((blk1 m c t _ _).trans (Chunks.ent_of _ _ _ _ _ _ _ _
    (by dsimp only; omega) (by dsimp only; omega)))
  v_at k hk i d := (blk_at _ _ _ k hk i d).trans ((blk2 m c t _ _).trans (Chunks.ent_of _ _ _ _ _ _ _ _
    (by dsimp only; omega) (by dsimp only; omega)))
  g_at k hk i d := (blk_at _ _ _ k hk i d).trans ((blk3 m c t _ _).trans (Chunks.ent_of _ _ _ _ _ _ _ _
    (by dsimp only; omega) (by dsimp only; omega)))
  dec_at k i j := (plane_at _ _ _ k i j).trans (blk5 m c t _ i j)
  qd_at k i j := (plane_at _ _ _ k i j).trans (blk6 m c t _ i j)
  kd_at k i j := (plane_at _ _ _ k i j).trans (blk7 m c t _ i j)
  sd_at k j := (row_at _ _ _ k j).trans (blk8 m c t _ j)
  rg_at k j := (lane_at _ _ _ k j).trans ((blk9 m c t _).trans (congrArg₂ (gain m c)
    (by dsimp only; omega) (by dsimp only; omega)))

/-- The state set first is zero. -/
theorem init_at (v : View sig .tc .vmem S4x128x128 .f32) (f : v.ty.Contents (Elt Ideal)) (h : Fin 4) (d e : Fin 128) :
    v.read (Elt Ideal) (v.writes (Elt Ideal) f (init arg6 harg6 (iblk m c 4 t))) (ix3 h d e) = 0 := by
  unfold init
  rw [View.read_writes_full]
  refine Eq.trans (b := (arg6.view.readAt (Elt Ideal) (Rect.unit (s := S1x4x128x128) ![0, 0, 0, 0] S1x4x128x128.size inb_S1x4x128x128_S1x4x128x128_0_0_0_0).toLoadRect
    (harg6.unread (iblk m c 4 t)) : FVec Ideal S1x4x128x128 .f32) (ix4 0 h d e)) ?_ ?_
  · pointwise [k0_pay3]
  · rw [View.readAt_full, harg6.read_unread]
    exact blk4 m c t h d e

end

/-- The state after point `n`, as the scratch holds it. -/
def Scratch (n : ℕ) (x : FVec Ideal S4x128x128 .f32) : Prop :=
  ∀ (h : Fin 4) (d e : Fin 128), x (ix3 h d e) = Chunks.state (K m c) (W m c) (n / 8) h (4 * (n % 8) + 4) d e

/-- A whole scratch of states, once the sixteen units are through. -/
theorem scratch_of {Q K W G : Fin 16384 → Fin 512 → EReal} {g : ℕ → ℕ → EReal} {b s : ℕ}
    {qb kb vb gb : (k : ℕ) → k < 16 → FVec Ideal S1x128x128 .bf16} {dec qd kd : ℕ → FVec Ideal S1x128x128 .f32}
    {sd : ℕ → FVec Ideal S1x1x128 .f32} {rg : ℕ → FVec Ideal S1x128 .f32} {rd : ℕ → States → FVec Ideal S1x128x128 .f32} {base : States}
    (w : Memref sig .tc .vmem S4x128x128 .f32) (H : Loads Q K W G g b s qb kb vb gb dec qd kd sd rg)
    (h0 : ∀ k (hk : k < 4) (hk' : k ≤ 16) d e, rd k (kept kb vb kd sd rd base k hk') (ix3 0 d e) = Chunks.state K W b k (4 * s) d e)
    (h4 : ∀ k L, rd (k + 4) L = found w (k + 4) L)
    (v : View sig .tc .vmem S4x128x128 .f32) (f : v.ty.Contents (Elt Ideal)) (h : Fin 4) (d e : Fin 128) :
    v.read (Elt Ideal) (v.writes (Elt Ideal) f (kept kb vb kd sd rd base 16 (le_refl _))) (ix3 h d e) = Chunks.state K W b h (4 * s + 4) d e := by
  have := kept_read w H h0 h4 v f 16 (le_refl _) (12 + h.val) (by omega) (by omega) d e
  rw [show head (12 + h.val) = h from Fin.ext (by show (12 + h.val) % 4 = h.val; omega), show (12 + h.val) % 4 = h.val by omega,
    show 4 * s + (12 + h.val) / 4 + 1 = 4 * s + 4 by omega] at this
  exact this

end Cert.RetIdeal.Units

end
-- ==== Proof.RetLeft.lean ====
/-
  What each point of the retention leaves, and what the two results end holding.
-/
module

public import proofs.«01_k».proof.Proof.RetLoads
public import proofs.«01_k».proof.Proof.Gen.RetIdeal.Value

@[expose] public section

set_option maxRecDepth 16384

noncomputable section

namespace Cert.RetIdeal.Left

open Cert Cert.RetIdeal Cert.RetIdeal.Gen Cert.RetIdeal.In Cert.RetIdeal.Units Cert.RetIdeal.Value Idealize.ShloMosaic Idealize.ShloMosaic.TcCoe Idealize.SL.Sem

/-- A tile of results, once the sixteen units are through. -/
theorem tile_of {Q K W G : Fin 16384 → Fin 512 → EReal} {g : ℕ → ℕ → EReal} {b s : ℕ}
    {qb kb vb gb : (k : ℕ) → k < 16 → FVec Ideal S1x128x128 .bf16} {dec qd kd : ℕ → FVec Ideal S1x128x128 .f32}
    {sd : ℕ → FVec Ideal S1x1x128 .f32} {rg : ℕ → FVec Ideal S1x128 .f32} {rd : ℕ → States → FVec Ideal S1x128x128 .f32} {base : States}
    (w : Memref sig .tc .vmem S4x128x128 .f32) (H : Loads Q K W G g b s qb kb vb gb dec qd kd sd rg)
    (h0 : ∀ k (hk : k < 4) (hk' : k ≤ 16) d e, rd k (kept kb vb kd sd rd base k hk') (ix3 0 d e) = Chunks.state K W b k (4 * s) d e)
    (h4 : ∀ k L, rd (k + 4) L = found w (k + 4) L)
    (v : View sig .tc .vmem S1x512x512 .bf16) (f : v.ty.Contents (Elt Ideal)) (i j : Fin 512) :
    v.read (Elt Ideal) (v.writes (Elt Ideal) f (stored kb vb kd sd rd base qb gb dec qd rg 16 (le_refl _))) (ix3 0 i j)
      = Chunks.gated Q K W G g b (j.val / 128) (4 * s + i.val / 128) ⟨i.val % 128, Nat.mod_lt _ (by decide)⟩ ⟨j.val % 128, Nat.mod_lt _ (by decide)⟩ := by
  have e := stored_read w H h0 h4 v f (4 * (i.val / 128) + j.val / 128) (by omega) ⟨i.val % 128, Nat.mod_lt _ (by decide)⟩ ⟨j.val % 128, Nat.mod_lt _ (by decide)⟩ 16 (le_refl _) (by omega)
  have hd : (4 * (i.val / 128) + j.val / 128) / 4 = i.val / 128 := by omega
  have hm : (4 * (i.val / 128) + j.val / 128) % 4 = j.val / 128 := by omega
  refine Eq.trans (congrArg (v.read (Elt Ideal) _) ?_) (e.trans (by rw [hd, hm]))
  refine funext fun a => Fin.ext ?_
  fin_cases a
  · rfl
  · show i.val = 128 * ((4 * (i.val / 128) + j.val / 128) / 4) + i.val % 128
    omega
  · show j.val = 128 * ((4 * (i.val / 128) + j.val / 128) % 4) + j.val % 128
    omega

variable (m : (ℓ : Loc nD τ sig) → Buf (Elt Ideal) ℓ) (c : Dev nD)

/-- What a point leaves: its tile of results, the state in the scratch, and at the end of a sequence the state written out. -/
structure Leaves (n : ℕ) (x : FVec Ideal S1x512x512 .bf16 × FVec Ideal S1x4x128x128 .f32 × FVec Ideal S4x128x128 .f32) : Prop where
  tile : ∀ i j : Fin 512, x.1 (ix3 0 i j) = Chunks.gated (Q m c) (K m c) (W m c) (G m c) (gain m c) (n / 8) (j.val / 128) (4 * (n % 8) + i.val / 128)
    ⟨i.val % 128, Nat.mod_lt _ (by decide)⟩ ⟨j.val % 128, Nat.mod_lt _ (by decide)⟩
  scratch : Scratch m c n x.2.2
  last : n % 8 = 7 → ∀ (h : Fin 4) (d e : Fin 128), x.2.1 (ix4 0 h d e) = Chunks.state (K m c) (W m c) (n / 8) h 32 d e

variable (t : Fin cfg0.N) (acc : Vec Ideal S1x512x512 .bf16 × Vec Ideal S1x4x128x128 .f32 × Vec Ideal S4x128x128 .f32)

theorem carried_at (w : Memref sig .tc .vmem S4x128x128 .f32) (hw : w.IsWhole) (x : FVec Ideal S4x128x128 .f32) (k : ℕ) (hk : k < 4) (L : States) (d e : Fin 128) :
    carried w (hw.unread x) k L (ix3 0 d e) = x (ix3 ⟨k, hk⟩ d e) := by
  have h := plane_at w hw x k d e
  rw [show head k = ⟨k, hk⟩ from Fin.ext (Nat.mod_eq_of_lt hk)] at h
  refine Eq.trans ?_ h
  interval_cases k <;> rfl

/-- The state that comes in, from the point before. -/
theorem come (h0 : ¬t.val % 8 = 0) (hs : Scratch m c (t.val - 1) acc.2.2) (k : ℕ) (hk : k < 4) (d e : Fin 128) :
    acc.2.2 (ix3 ⟨k, hk⟩ d e) = Chunks.state (K m c) (W m c) (t.val / 8) k (4 * (t.val % 8)) d e := by
  have := hs ⟨k, hk⟩ d e
  rw [show (t.val - 1) / 8 = t.val / 8 by omega, show 4 * ((t.val - 1) % 8) + 4 = 4 * (t.val % 8) by omega] at this
  exact this

theorem point_A (h0 : t.val % 8 = 0) (h1 : ¬t.val % 8 = 7) : Leaves m c t.val (stAt0 m c t.val t.isLt acc) := by
  rw [stAt0_A m c t acc h0 h1]
  have H := loads m c t (ms0_0 t) (hs0_0 t) (ms0_1 t) (hs0_1 t) (ms0_2 t) (hs0_2 t) (ms0_3 t) (hs0_3 t) (ms0_5 t) (hs0_5 t) (ms0_6 t) (hs0_6 t) (ms0_7 t) (hs0_7 t) (ms0_8 t) (hs0_8 t) (ms0_9 t) (hs0_9 t)
  have hr : ∀ k (hk : k < 4) (hk' : k ≤ 16) d e, found scM0_0 k (keptFrom (ms0_1 t) (hs0_1 t) (ms0_2 t) (hs0_2 t) (ms0_7 t) (hs0_7 t) (ms0_8 t) (hs0_8 t)
      (iblk m c 1 t) (iblk m c 2 t) (iblk m c 7 t) (iblk m c 8 t) (found scM0_0) (init (ms0_4 t) (hs0_4 t) (iblk m c 4 t)) k hk') (ix3 0 d e)
        = Chunks.state (K m c) (W m c) (t.val / 8) k (4 * (t.val % 8)) d e := by
    intro k hk hk' d e
    rw [found_at, kept_before _ _ _ _ _ _ _ (by show k ≤ k % 4; omega), init_at, h0]
    rfl
  refine ⟨fun i j => ?_, fun h d e => ?_, fun h => absurd h h1⟩
  · dsimp only
    unfold out0_A_10
    rw [stored_A]
    exact tile_of scM0_0 H hr (fun k L => rfl) VO0_10 VO0_10.junk i j
  · dsimp only
    unfold sout0_A_0
    rw [kept_A]
    exact scratch_of scM0_0 H hr (fun k L => rfl) VS0_0 VS0_0.junk h d e

theorem point_B (h0 : ¬t.val % 8 = 0) (h1 : ¬t.val % 8 = 7) (hs : Scratch m c (t.val - 1) acc.2.2) : Leaves m c t.val (stAt0 m c t.val t.isLt acc) := by
  rw [stAt0_B m c t acc h0 h1]
  have H := loads m c t (ms0_0 t) (hs0_0 t) (ms0_1 t) (hs0_1 t) (ms0_2 t) (hs0_2 t) (ms0_3 t) (hs0_3 t) (ms0_5 t) (hs0_5 t) (ms0_6 t) (hs0_6 t) (ms0_7 t) (hs0_7 t) (ms0_8 t) (hs0_8 t) (ms0_9 t) (hs0_9 t)
  refine ⟨fun i j => ?_, fun h d e => ?_, fun h => absurd h h1⟩
  · dsimp only
    unfold out0_B_10
    rw [stored_B]
    exact tile_of scM0_0 H (fun k hk _ d e => (carried_at scM0_0 (Memref.isWhole_whole _) acc.2.2 k hk _ d e).trans (come m c t acc h0 hs k hk d e)) (carried_late _ _) VO0_10 VO0_10.junk i j
  · dsimp only
    unfold sout0_B_0
    rw [kept_B]
    exact scratch_of scM0_0 H (fun k hk _ d e => (carried_at scM0_0 (Memref.isWhole_whole _) acc.2.2 k hk _ d e).trans (come m c t acc h0 hs k hk d e)) (carried_late _ _) VS0_0 VS0_0.junk h d e

theorem point_C (h0 : ¬t.val % 8 = 0) (h1 : t.val % 8 = 7) (hs : Scratch m c (t.val - 1) acc.2.2) : Leaves m c t.val (stAt0 m c t.val t.isLt acc) := by
  rw [stAt0_C m c t acc h0 h1]
  have H := loads m c t (ms0_0 t) (hs0_0 t) (ms0_1 t) (hs0_1 t) (ms0_2 t) (hs0_2 t) (ms0_3 t) (hs0_3 t) (ms0_5 t) (hs0_5 t) (ms0_6 t) (hs0_6 t) (ms0_7 t) (hs0_7 t) (ms0_8 t) (hs0_8 t) (ms0_9 t) (hs0_9 t)
  refine ⟨fun i j => ?_, fun h d e => ?_, fun _ h d e => ?_⟩
  · dsimp only
    unfold out0_C_10
    rw [stored_C]
    exact tile_of scM0_0 H (fun k hk _ d e => (carried_at scM0_0 (Memref.isWhole_whole _) acc.2.2 k hk _ d e).trans (come m c t acc h0 hs k hk d e)) (carried_late _ _) VO0_10 VO0_10.junk i j
  · dsimp only
    unfold sout0_C_0
    rw [kept_C]
    exact scratch_of scM0_0 H (fun k hk _ d e => (carried_at scM0_0 (Memref.isWhole_whole _) acc.2.2 k hk _ d e).trans (come m c t acc h0 hs k hk d e)) (carried_late _ _) VS0_0 VS0_0.junk h d e
  · dsimp only
    unfold out0_C_11
    rw [last_C]
    rw [View.read_writes_full]
    have e1 := scratch_of (base := []) scM0_0 H (fun k hk _ d e => (carried_at scM0_0 (Memref.isWhole_whole _) acc.2.2 k hk _ d e).trans (come m c t acc h0 hs k hk d e)) (carried_late _ _)
      scM0_0.view scM0_0.view.junk h d e
    rw [h1] at e1
    refine Eq.trans ?_ e1
    unfold View.readCov
    rw [View.readAt_full]
    pointwise [k0_pay2]

theorem leaves (n : ℕ) (h : 0 + n < cfg0.N) : Leaves m c n (Pipeline.accAt (fun n h => stAt0 m c n h junk0) (stAt0 m c) 0 n h) := by
  have hN : cfg0.N = 32 := N_0
  induction n with
  | zero => exact point_A m c ⟨0, by omega⟩ junk0 rfl (by show ¬0 % 8 = 7; decide)
  | succ n ih =>
    have hi := ih (by omega)
    rw [Pipeline.accAt_succ]
    have key : ∀ (k : ℕ) (hk : k < cfg0.N), k = n + 1 → Leaves m c (n + 1) (stAt0 m c k hk (Pipeline.accAt (fun n h => stAt0 m c n h junk0) (stAt0 m c) 0 n (by omega))) := by
      intro k hk e
      subst e
      by_cases h0 : (n + 1) % 8 = 0
      · exact point_A m c ⟨n + 1, hk⟩ _ h0 (by show ¬(n + 1) % 8 = 7; omega)
      · by_cases h1 : (n + 1) % 8 = 7
        · exact point_C m c ⟨n + 1, hk⟩ _ h0 h1 hi.scratch
        · exact point_B m c ⟨n + 1, hk⟩ _ h0 h1 hi.scratch
    exact key _ _ (by omega)

theorem G10_at (b : Fin 4) (r : Fin 4096) (j : Fin 512) : (show FVec Ideal S4x4096x512 .bf16 from G10 m c) (ix3 b r j)
    = Chunks.gated (Q m c) (K m c) (W m c) (G m c) (gain m c) b (j.val / 128) (r.val / 128) ⟨r.val % 128, Nat.mod_lt _ (by decide)⟩ ⟨j.val % 128, Nat.mod_lt _ (by decide)⟩ := by
  have hp : pt10Of (ix3 b r j) = 8 * b.val + r.val / 512 := by
    show 8 * (b.val / 1 - 0) + 1 * (r.val / 512 - 0) + 1 * (j.val / 512 - 0) = _
    omega
  have hN : cfg0.N = 32 := N_0
  have hl : 0 + (8 * b.val + r.val / 512) < cfg0.N := by omega
  have e := (leaves m c (8 * b.val + r.val / 512) hl).tile ⟨r.val % 512, Nat.mod_lt _ (by decide)⟩ j
  refine (dif_pos (show pt10Of (ix3 b r j) < cfg0.N by omega)).trans ?_
  rw [fold0_congr m c _ _ _ hl hp]
  have hx : loc10Of (ix3 b r j) = ix3 0 ⟨r.val % 512, Nat.mod_lt _ (by decide)⟩ j := by
    refine funext fun a => Fin.ext ?_
    fin_cases a
    · show b.val % 1 = 0
      omega
    · rfl
    · show j.val % 512 = j.val
      omega
  rw [hx, e]
  have h1 : (8 * b.val + r.val / 512) / 8 = b.val := by omega
  have h2 : 4 * ((8 * b.val + r.val / 512) % 8) + r.val % 512 / 128 = r.val / 128 := by omega
  have h3 : r.val % 512 % 128 = r.val % 128 := by omega
  simp only [h1, h2, h3]

theorem G11_at (b h : Fin 4) (d e : Fin 128) : (show FVec Ideal S4x4x128x128 .f32 from G11 m c) (ix4 b h d e)
    = Chunks.state (K m c) (W m c) b h 32 d e := by
  have hp : pt11Of (ix4 b h d e) = 8 * b.val + 7 := by
    show 8 * (1 * (b.val / 1 - 0) + 1 * (h.val / 4 - 0) + 1 * (d.val / 128 - 0) + 1 * (e.val / 128 - 0)) + 7 = _
    omega
  have hN : cfg0.N = 32 := N_0
  have hl : 0 + (8 * b.val + 7) < cfg0.N := by omega
  have e1 := (leaves m c (8 * b.val + 7) hl).last (by omega) h d e
  refine (dif_pos (show pt11Of (ix4 b h d e) < cfg0.N by omega)).trans ?_
  rw [fold0_congr m c _ _ _ hl hp]
  have hx : loc11Of (ix4 b h d e) = ix4 0 h d e := by
    refine funext fun a => Fin.ext ?_
    fin_cases a
    · show b.val % 1 = 0
      omega
    · show h.val % 4 = h.val
      omega
    · show d.val % 128 = d.val
      omega
    · show e.val % 128 = e.val
      omega
  rw [hx, e1, show (8 * b.val + 7) / 8 = b.val by omega]

end Cert.RetIdeal.Left

end
-- ==== Proof.RetRef.lean ====
/-
  The reference's retention: the loop's tables and rows at its entry, what one trip makes of the state and the stacked
  results, and by induction over the chunks the state and the results the loop leaves.
-/
module

public import proofs.«01_k».proof.Proof.Gen.RetRefIdeal.Run
public import proofs.«01_k».proof.Proof.RetSpec

@[expose] public section

set_option maxRecDepth 16384

noncomputable section

namespace Cert.RetRefIdeal.Fold

open Cert Cert.RetRefIdeal Cert.RetRefIdeal.Gen Cert.RetRefIdeal.Value Idealize.ShloMosaic Idealize.ShloMosaic.TcCoe
  Idealize.SL.Sem Idealize.ShloMosaic.StableHlo

/-! ## A chunk's slice of the stacked arrays -/

/-- The corner of chunk `n`. -/
abbrev corner (n : ℕ) : Fin 5 → Int := fun k =>
  (((![fun _ => BitVec.ofNat 32 n, constantI S_ 32 0#32, constantI S_ 32 0#32, constantI S_ 32 0#32, constantI S_ 32 0#32] :
    Fin 5 → (⟨S_, .i32⟩ : BufTy).Contents (Elt Ideal))) k (Shape.Idx.first h_S_)).toInt

theorem corner_at : ∀ n : Fin 32, ∀ a : Fin 5,
    Host.clampedStart S32x4x128x4x128 S1x4x128x4x128 rfl (corner n.val) a = (![n.val, 0, 0, 0, 0] : Fin 5 → ℕ) a := by
  decide +kernel

section slice

variable {α : Type} (x : S32x4x128x4x128.Idx → α) (u : S1x4x128x4x128.Idx → α) (n : Fin 32) (b : Fin 4) (i : Fin 128) (h : Fin 4) (d : Fin 128)

theorem slice_at (H : S32x4x128x4x128.Slices (fun _ => 0) S1x4x128x4x128) :
    Host.dynamicSlice S1x4x128x4x128 x (corner n.val) H (ix5 0 b i h d) = x (ix5 n b i h d) := by
  rw [Host.dynamicSlice_apply]
  refine congrArg x (funext fun a => Fin.ext ?_)
  fin_cases a
  · exact congrArg (· + 0) (corner_at n 0)
  · exact (congrArg (· + b.val) (corner_at n 1)).trans (Nat.zero_add _)
  · exact (congrArg (· + i.val) (corner_at n 2)).trans (Nat.zero_add _)
  · exact (congrArg (· + h.val) (corner_at n 3)).trans (Nat.zero_add _)
  · exact (congrArg (· + d.val) (corner_at n 4)).trans (Nat.zero_add _)

theorem update_at (H : S32x4x128x4x128.Slices (fun _ => 0) S1x4x128x4x128) :
    Host.dynamicUpdateSlice x u (corner n.val) H (ix5 n b i h d) = u (ix5 0 b i h d) := by
  rw [Host.dynamicUpdateSlice_apply, dif_pos]
  · refine congrArg u (funext fun a => Fin.ext ?_)
    fin_cases a
    · exact (congrArg (n.val - ·) (corner_at n 0)).trans (Nat.sub_self _)
    · exact congrArg (b.val - ·) (corner_at n 1)
    · exact congrArg (i.val - ·) (corner_at n 2)
    · exact congrArg (h.val - ·) (corner_at n 3)
    · exact congrArg (d.val - ·) (corner_at n 4)
  · intro a
    rw [corner_at n a]
    fin_cases a
    · exact ⟨le_refl _, Nat.lt_succ_self _⟩
    · exact ⟨Nat.zero_le _, (Nat.zero_add 4).symm ▸ b.isLt⟩
    · exact ⟨Nat.zero_le _, (Nat.zero_add 128).symm ▸ i.isLt⟩
    · exact ⟨Nat.zero_le _, (Nat.zero_add 4).symm ▸ h.isLt⟩
    · exact ⟨Nat.zero_le _, (Nat.zero_add 128).symm ▸ d.isLt⟩

theorem update_ne (H : S32x4x128x4x128.Slices (fun _ => 0) S1x4x128x4x128) (n' : Fin 32) (hn : n' ≠ n) :
    Host.dynamicUpdateSlice x u (corner n.val) H (ix5 n' b i h d) = x (ix5 n' b i h d) := by
  rw [Host.dynamicUpdateSlice_apply, dif_neg]
  intro hin
  have h0 := hin 0
  rw [corner_at n 0] at h0
  have h1 : n.val ≤ n'.val ∧ n'.val < n.val + 1 := h0
  exact hn (Fin.ext (by omega))

end slice

/-! ## One trip -/

section trip

variable (X : Valuation τ sig (Elt Ideal)) (n : Fin 32) (hn : X (Proc.devRef .tc main_v52_7) = fun _ => BitVec.ofNat 32 n.val)
  (b h : Fin 4)

abbrev stacked : FVec Ideal S32x4x128x4x128 .f32 := X (Proc.devRef .tc main_v52_9)
abbrev held : FVec Ideal S4x4x128x128 .f32 := X (Proc.devRef .tc main_v52_8)
abbrev qs : FVec Ideal S32x4x128x4x128 .f32 := X (Proc.devRef .tc main_v52_0)
abbrev ks : FVec Ideal S32x4x128x4x128 .f32 := X (Proc.devRef .tc main_v52_1)
abbrev vs : FVec Ideal S32x4x128x4x128 .f32 := X (Proc.devRef .tc main_v52_2)

/-- A chunk's results from the rows, the decays and the state before it. -/
def fresh (i e : Fin 128) : EReal :=
  (∑ j : Fin 128, vs X (ix5 n b j h e) * ((∑ d : Fin 128, qs X (ix5 n b i h d) * ks X (ix5 n b j h d))
      * (show FVec Ideal S4x128x128 .f32 from X (Proc.devRef .tc main_v52_3)) (ix3 h i j)))
    + (∑ d : Fin 128, held X (ix4 b h d e) * qs X (ix5 n b i h d)) * (show FVec Ideal S128x4 .f32 from X (Proc.devRef .tc main_v52_4)) (ix2 i h)

include hn

theorem q_at (i d : Fin 128) : (show FVec Ideal S4x128x4x128 .f32 from res_main_while0b_v73 X) (ix4 b i h d) = qs X (ix5 n b i h d) := by
  unfold res_main_while0b_v73
  rw [hn]
  refine Eq.trans ?_ (slice_at (qs X) n b i h d sliceFits_S32x4x128x4x128_S1x4x128x4x128)
  generalize Host.dynamicSlice S1x4x128x4x128 _ _ _ = y
  pointwise

theorem k_at (i d : Fin 128) : (show FVec Ideal S4x128x4x128 .f32 from res_main_while0b_v74 X) (ix4 b i h d) = ks X (ix5 n b i h d) := by
  unfold res_main_while0b_v74
  rw [hn]
  refine Eq.trans ?_ (slice_at (ks X) n b i h d sliceFits_S32x4x128x4x128_S1x4x128x4x128)
  generalize Host.dynamicSlice S1x4x128x4x128 _ _ _ = y
  pointwise

theorem v_at (i d : Fin 128) : (show FVec Ideal S4x128x4x128 .f32 from res_main_while0b_v75 X) (ix4 b i h d) = vs X (ix5 n b i h d) := by
  unfold res_main_while0b_v75
  rw [hn]
  refine Eq.trans ?_ (slice_at (vs X) n b i h d sliceFits_S32x4x128x4x128_S1x4x128x4x128)
  generalize Host.dynamicSlice S1x4x128x4x128 _ _ _ = y
  pointwise

theorem held_step (d e : Fin 128) : held (STEP X) (ix4 b h d e)
    = Ideal.exp (Ideal.ofBits .f32 1124073472#32 * (show FVec Ideal S4 .f32 from X (Proc.devRef .tc main_v52_5)) (ix1 h)) * held X (ix4 b h d e)
      + ∑ j : Fin 128, (ks X (ix5 n b j h d) * (show FVec Ideal S128x4 .f32 from X (Proc.devRef .tc main_v52_6)) (ix2 j h)) * vs X (ix5 n b j h e) := by
  show (show FVec Ideal S4x4x128x128 .f32 from STEP X (Proc.devRef .tc main_v52_8)) (ix4 b h d e) = _
  rw [STEP_main_v52_8]
  simp only [← k_at X n hn, ← v_at X n hn]
  unfold step_main_v52_8
  rw [id_eq]
  pointwise

theorem stacked_step (i e : Fin 128) : stacked (STEP X) (ix5 n b i h e) = fresh X n b h i e := by
  show (show FVec Ideal S32x4x128x4x128 .f32 from STEP X (Proc.devRef .tc main_v52_9)) (ix5 n b i h e) = _
  unfold fresh
  rw [STEP_main_v52_9]
  simp only [← q_at X n hn, ← k_at X n hn, ← v_at X n hn]
  unfold step_main_v52_9
  rw [id_eq, hn]
  refine (update_at _ _ n b i h e updateFits_S32x4x128x4x128_S1x4x128x4x128).trans ?_
  pointwise

theorem stacked_kept (n' : Fin 32) (hne : n' ≠ n) (i e : Fin 128) : stacked (STEP X) (ix5 n' b i h e) = stacked X (ix5 n' b i h e) := by
  show (show FVec Ideal S32x4x128x4x128 .f32 from STEP X (Proc.devRef .tc main_v52_9)) (ix5 n' b i h e) = _
  rw [STEP_main_v52_9]
  unfold step_main_v52_9
  rw [id_eq, hn]
  exact update_ne _ _ n b i h e updateFits_S32x4x128x4x128_S1x4x128x4x128 n' hne

end trip

/-! ## The loop's entry -/

variable (m : (ℓ : Loc nD τ sig) → Buf (Elt Ideal) ℓ) (c : Dev nD)

abbrev Q (r : Fin 16384) (j : Fin 512) : EReal := (m ((c : Thread nD τ).loc main_arg0) : FVec Ideal S16384x512 .bf16) (ix2 r j)
abbrev K (r : Fin 16384) (j : Fin 512) : EReal := (m ((c : Thread nD τ).loc main_arg1) : FVec Ideal S16384x512 .bf16) (ix2 r j)
abbrev V (r : Fin 16384) (j : Fin 512) : EReal := (m ((c : Thread nD τ).loc main_arg2) : FVec Ideal S16384x512 .bf16) (ix2 r j)
abbrev G (r : Fin 16384) (j : Fin 512) : EReal := (m ((c : Thread nD τ).loc main_arg3) : FVec Ideal S16384x512 .bf16) (ix2 r j)

/-- The loop's contents after `k` trips. -/
abbrev at' (k : ℕ) : Valuation τ sig (Elt Ideal) := STEP^[k] (entryContents preI m c)

theorem entry_dec (h : Fin 4) (i j : Fin 128) : (show FVec Ideal S4x128x128 .f32 from at' m c 0 (Proc.devRef .tc main_v52_3)) (ix3 h i j) = Chunks.dec h i j := by
  simp only [at', Function.iterate_zero, id_eq, entryContents, afterL_cons, afterL_nil, preI, hostOps0, hostOps0_1, hostOps0_2]
  after_results
  simp only [StableHlo.TRef.toBuf, StableHlo.TRef.ofBuf, id_eq, cast_eq]
  pointwise
  rfl

theorem entry_qd (h : Fin 4) (i : Fin 128) : (show FVec Ideal S128x4 .f32 from at' m c 0 (Proc.devRef .tc main_v52_4)) (ix2 i h) = Chunks.qd h i := by
  simp only [at', Function.iterate_zero, id_eq, entryContents, afterL_cons, afterL_nil, preI, hostOps0, hostOps0_1, hostOps0_2]
  after_results
  simp only [id_eq]
  pointwise
  rfl

theorem entry_lg (h : Fin 4) : (show FVec Ideal S4 .f32 from at' m c 0 (Proc.devRef .tc main_v52_5)) (ix1 h) = Chunks.lg h := by
  simp only [at', Function.iterate_zero, id_eq, entryContents, afterL_cons, afterL_nil, preI, hostOps0, hostOps0_1, hostOps0_2]
  after_results
  simp only [id_eq]
  pointwise
  rfl

theorem entry_kd (h : Fin 4) (i : Fin 128) : (show FVec Ideal S128x4 .f32 from at' m c 0 (Proc.devRef .tc main_v52_6)) (ix2 i h) = Chunks.kd h i := by
  simp only [at', Function.iterate_zero, id_eq, entryContents, afterL_cons, afterL_nil, preI, hostOps0, hostOps0_1, hostOps0_2]
  after_results
  simp only [id_eq]
  pointwise
  rfl

theorem entry_held (b h : Fin 4) (d e : Fin 128) : held (at' m c 0) (ix4 b h d e) = 0 := by
  simp only [held, at', Function.iterate_zero, id_eq, entryContents, afterL_cons, afterL_nil, preI, hostOps0, hostOps0_1, hostOps0_2]
  after_results
  simp only [id_eq]
  pointwise

theorem entry_q (n : Fin 32) (b h : Fin 4) (i d : Fin 128) : qs (at' m c 0) (ix5 n b i h d) = Chunks.ent (Q m c) b h n i d := by
  refine Eq.trans ?_ (Chunks.ent_of (Q m c) b h n i d ⟨b.val * 4096 + n.val * 128 + i.val, by omega⟩ ⟨h.val * 128 + d.val, by omega⟩ rfl rfl)
  simp only [qs, at', Function.iterate_zero, id_eq, entryContents, afterL_cons, afterL_nil, preI, hostOps0, hostOps0_1, hostOps0_2]
  after_results
  simp only [id_eq]
  pointwise

theorem entry_k (n : Fin 32) (b h : Fin 4) (i d : Fin 128) : ks (at' m c 0) (ix5 n b i h d) = Chunks.ent (K m c) b h n i d := by
  refine Eq.trans ?_ (Chunks.ent_of (K m c) b h n i d ⟨b.val * 4096 + n.val * 128 + i.val, by omega⟩ ⟨h.val * 128 + d.val, by omega⟩ rfl rfl)
  simp only [ks, at', Function.iterate_zero, id_eq, entryContents, afterL_cons, afterL_nil, preI, hostOps0, hostOps0_1, hostOps0_2]
  after_results
  simp only [id_eq]
  pointwise

theorem entry_v (n : Fin 32) (b h : Fin 4) (i d : Fin 128) : vs (at' m c 0) (ix5 n b i h d) = Chunks.ent (V m c) b h n i d := by
  refine Eq.trans ?_ (Chunks.ent_of (V m c) b h n i d ⟨b.val * 4096 + n.val * 128 + i.val, by omega⟩ ⟨h.val * 128 + d.val, by omega⟩ rfl rfl)
  simp only [vs, at', Function.iterate_zero, id_eq, entryContents, afterL_cons, afterL_nil, preI, hostOps0, hostOps0_1, hostOps0_2]
  after_results
  simp only [id_eq]
  pointwise

/-! ## The loop -/

/-- What every trip leaves as it was. -/
theorem same (k : ℕ) : at' m c k (Proc.devRef .tc main_v52_0) = at' m c 0 (Proc.devRef .tc main_v52_0)
    ∧ at' m c k (Proc.devRef .tc main_v52_1) = at' m c 0 (Proc.devRef .tc main_v52_1)
    ∧ at' m c k (Proc.devRef .tc main_v52_2) = at' m c 0 (Proc.devRef .tc main_v52_2)
    ∧ at' m c k (Proc.devRef .tc main_v52_3) = at' m c 0 (Proc.devRef .tc main_v52_3)
    ∧ at' m c k (Proc.devRef .tc main_v52_4) = at' m c 0 (Proc.devRef .tc main_v52_4)
    ∧ at' m c k (Proc.devRef .tc main_v52_5) = at' m c 0 (Proc.devRef .tc main_v52_5)
    ∧ at' m c k (Proc.devRef .tc main_v52_6) = at' m c 0 (Proc.devRef .tc main_v52_6) := by
  induction k with
  | zero => exact ⟨rfl, rfl, rfl, rfl, rfl, rfl, rfl⟩
  | succ k ih =>
    simp only [at', Function.iterate_succ_apply', STEP_main_v52_0, STEP_main_v52_1, STEP_main_v52_2, STEP_main_v52_3, STEP_main_v52_4,
      STEP_main_v52_5, STEP_main_v52_6]
    exact ih

theorem counter (k : ℕ) : at' m c k (Proc.devRef .tc main_v52_7) = fun _ => BitVec.ofNat 32 k := by
  induction k with
  | zero => exact ctr_entry m c
  | succ k ih =>
    rw [show at' m c (k + 1) = STEP (at' m c k) from Function.iterate_succ_apply' .., STEP_main_v52_7]
    unfold step_main_v52_7
    rw [ih]
    funext x
    exact (BitVec.ofNat_add k 1).symm

theorem held_at (k : ℕ) (hk : k ≤ 32) (b h : Fin 4) (d e : Fin 128) :
    held (at' m c k) (ix4 b h d e) = Chunks.state (K m c) (V m c) b h k d e := by
  induction k generalizing d e with
  | zero => exact entry_held m c b h d e
  | succ k ih =>
    obtain ⟨-, h1, h2, -, -, h5, h6⟩ := same m c k
    have hs := held_step (at' m c k) ⟨k, by omega⟩ (counter m c k) b h d e
    rw [show at' m c (k + 1) = STEP (at' m c k) from Function.iterate_succ_apply' ..]
    rw [hs, ih (by omega)]
    simp only [ks, vs, h1, h2, h5, h6]
    exact congrArg₂ (· + ·) (congrArg (fun x => Ideal.exp (_ * x) * _) (entry_lg m c h))
      (Finset.sum_congr rfl fun j _ => congrArg₂ (· * ·)
        (congrArg₂ (· * ·) (entry_k m c ⟨k, by omega⟩ b h j d) (entry_kd m c h j)) (entry_v m c ⟨k, by omega⟩ b h j e))

theorem fresh_at (n : Fin 32) (b h : Fin 4) (i e : Fin 128) :
    fresh (at' m c n.val) n b h i e = Chunks.raw (Q m c) (K m c) (V m c) b h n i e := by
  obtain ⟨h0, h1, h2, h3, h4, -, -⟩ := same m c n.val
  unfold fresh Chunks.raw
  simp only [held_at m c n.val (by omega)]
  simp only [qs, ks, vs, h0, h1, h2, h3, h4]
  refine congrArg₂ (· + ·) (Finset.sum_congr rfl fun j _ => ?_) (congrArg₂ (· * ·) (Finset.sum_congr rfl fun d _ => ?_) (entry_qd m c h i))
  · rw [mul_comm]
    refine congrArg₂ (· * ·) (congrArg₂ (· * ·) (Finset.sum_congr rfl fun d _ => ?_) (entry_dec m c h i j)) (entry_v m c n b h j e)
    exact congrArg₂ (· * ·) (entry_q m c n b h i d) (entry_k m c n b h j d)
  · rw [mul_comm]
    exact congrArg (· * _) (entry_q m c n b h i d)

theorem stacked_at (k : ℕ) (hk : k ≤ 32) (n : Fin 32) (hn : n.val < k) (b h : Fin 4) (i e : Fin 128) :
    stacked (at' m c k) (ix5 n b i h e) = Chunks.raw (Q m c) (K m c) (V m c) b h n i e := by
  induction k with
  | zero => exact absurd hn (Nat.not_lt_zero _)
  | succ k ih =>
    rw [show at' m c (k + 1) = STEP (at' m c k) from Function.iterate_succ_apply' ..]
    by_cases he : n.val = k
    · subst he
      rw [stacked_step (at' m c n.val) n (counter m c n.val) b h i e, fresh_at]
    · rw [stacked_kept (at' m c k) ⟨k, by omega⟩ (counter m c k) b h n (fun H => he (congrArg Fin.val H)) i e]
      exact ih (by omega) (by omega)

/-! ## The results -/

/-- The gain of a head's lane. -/
abbrev gain (h d : ℕ) : EReal := (m ((c : Thread nD τ).loc main_arg4) : FVec Ideal S4x128 .f32) (ix2 (Fin.ofNat 4 h) (Fin.ofNat 128 d))

theorem out_at (X : Valuation τ sig (Elt Ideal)) (b : Fin 4) (r : Fin 4096) (j : Fin 512) (f : Fin 128 → EReal)
    (hs : ∀ e, stacked X (ix5 ⟨r.val / 128, by omega⟩ b ⟨r.val % 128, by omega⟩ ⟨j.val / 128, by omega⟩ e) = f e) :
    (show FVec Ideal S4x4096x512 .bf16 from out_main_v72 X) (ix3 b r j)
      = f ⟨j.val % 128, by omega⟩
        * Ideal.rsqrt (Ideal.div (∑ x : Fin 128, f x * f x) (Ideal.ofBits .f32 1124073472#32) + Ideal.ofBits .f32 897988541#32)
        * (show FVec Ideal S4x128 .f32 from X (Proc.devRef .tc main_arg4)) (ix2 ⟨j.val / 128, by omega⟩ ⟨j.val % 128, by omega⟩)
        * (show FVec Ideal S16384x512 .bf16 from X (Proc.devRef .tc main_arg3)) (ix2 ⟨b.val * 4096 + r.val, by omega⟩ j) := by
  simp only [← hs]
  unfold out_main_v72
  pointwise

theorem result (b : Fin 4) (r : Fin 4096) (j : Fin 512) :
    (show FVec Ideal S4x4096x512 .bf16 from out_main_v72 (at' m c 32)) (ix3 b r j)
      = Chunks.gated (Q m c) (K m c) (V m c) (G m c) (gain m c) b (j.val / 128) (r.val / 128) ⟨r.val % 128, by omega⟩ ⟨j.val % 128, by omega⟩ := by
  have hs := stacked_at m c 32 (le_refl _) ⟨r.val / 128, by omega⟩ (by show r.val / 128 < 32; omega) b ⟨j.val / 128, by omega⟩ ⟨r.val % 128, by omega⟩
  have hg := Chunks.ent_of (G m c) b (j.val / 128) (r.val / 128) (r.val % 128) (j.val % 128) ⟨b.val * 4096 + r.val, by omega⟩ j
    (by show b.val * 4096 + r.val = _; omega) (by omega)
  have h4 : at' m c 32 (Proc.devRef .tc main_arg4) = _ := iter_main_arg4 m c 32
  have h3 : at' m c 32 (Proc.devRef .tc main_arg3) = _ := iter_main_arg3 m c 32
  generalize at' m c 32 = X at hs h4 h3 ⊢
  rw [out_at X b r j _ hs, h4, h3]
  unfold Chunks.gated
  refine congrArg₂ (· * ·) (congrArg₂ (· * ·) rfl ?_) hg
  refine congrArg (m ((c : Thread nD τ).loc main_arg4) : FVec Ideal S4x128 .f32) ?_
  congr 1
  · exact Fin.ext (Nat.mod_eq_of_lt (by omega : j.val / 128 < 4)).symm
  · exact Fin.ext (Nat.mod_eq_of_lt (by omega : j.val % 128 < 128)).symm

end Cert.RetRefIdeal.Fold

end
-- ==== Proof.RetEq.lean ====
/-
  The retention and its reference leave the same results and the same state.
-/
module

public import proofs.«01_k».proof.Defs
public import proofs.«01_k».proof.Proof.RetLeft
public import proofs.«01_k».proof.Proof.RetRef
public import Idealize.ShloMosaic.Adequacy
public import Idealize.ShloMosaic.Init

@[expose] public section

set_option maxRecDepth 16384

noncomputable section

namespace Cert.Retention

open Idealize.ShloMosaic Idealize.ShloMosaic.TcCoe Idealize.SL.Sem

/-- The gated results as an array … -/
def results (Q K W G : Fin 16384 → Fin 512 → EReal) (g : ℕ → ℕ → EReal) : FVec Ideal Cert.RetIdeal.S4x4096x512 .bf16 := fun y =>
  Chunks.gated Q K W G g (y 0).val ((y 2).val / 128) ((y 1).val / 128) ⟨(y 1).val % 128, Nat.mod_lt _ (by decide)⟩ ⟨(y 2).val % 128, Nat.mod_lt _ (by decide)⟩

/-- … and the last state. -/
def final (K W : Fin 16384 → Fin 512 → EReal) : FVec Ideal Cert.RetIdeal.S4x4x128x128 .f32 := fun y =>
  Chunks.state K W (y 0).val (y 1).val 32 (y 2) (y 3)

/-- The reference leaves its arguments and its counters alone. -/
theorem reference_frame : Cert.quiescent_RetRefIdeal := by
  intro m g _
  exact (θ_run _ _ _).mono (fun r h => ⟨fun c => (h c).2.2, sem_eq_zero_of_no_sems (by decide) r.2⟩) (Cert.RetRefIdeal.Value.run m g)

theorem algebraic : Cert.algebraic_RetIdeal_RetRefIdeal := by
  intro m g m' g' _ hagree
  refine ⟨fun c => results (RetIdeal.In.Q m c) (RetIdeal.In.K m c) (RetIdeal.In.W m c) (RetIdeal.In.G m c) (RetIdeal.In.gain m c),
    fun c => final (RetIdeal.In.K m c) (RetIdeal.In.W m c), ?_, ?_⟩
  · refine (θ_run _ _ _).mono (fun r h c => ?_) (Cert.RetIdeal.Value.run m g)
    obtain ⟨h0, h1, rest⟩ := h c
    refine ⟨h0.trans (funext fun y => ?_), h1.trans (funext fun y => ?_), rest⟩
    · idx_vars y
      exact Cert.RetIdeal.Left.G10_at m c y0 y1 y2
    · idx_vars y
      exact Cert.RetIdeal.Left.G11_at m c y0 y1 y2 y3
  · refine (θ_run _ _ _).mono (fun r h c => ?_) (Cert.RetRefIdeal.Value.run m' g')
    obtain ⟨e0, e1, e2, e3, e4⟩ := hagree c
    have hQ : RetRefIdeal.Fold.Q m' c = RetIdeal.In.Q m c := funext fun i => funext fun j => congrFun e0 _
    have hK : RetRefIdeal.Fold.K m' c = RetIdeal.In.K m c := funext fun i => funext fun j => congrFun e1 _
    have hW : RetRefIdeal.Fold.V m' c = RetIdeal.In.W m c := funext fun i => funext fun j => congrFun e2 _
    have hG : RetRefIdeal.Fold.G m' c = RetIdeal.In.G m c := funext fun i => funext fun j => congrFun e3 _
    have hg : RetRefIdeal.Fold.gain m' c = RetIdeal.In.gain m c := funext fun i => funext fun j => congrFun e4 _
    obtain ⟨h0, h1, rest⟩ := h c
    refine ⟨h0.trans (funext fun y => ?_), h1.trans (funext fun y => ?_), rest⟩
    · idx_vars y
      refine (Cert.RetRefIdeal.Fold.result m' c y0 y1 y2).trans ?_
      rw [hQ, hK, hW, hG, hg]
      rfl
    · idx_vars y
      refine (Cert.RetRefIdeal.Fold.held_at m' c 32 (le_refl _) y0 y1 y2 y3).trans ?_
      rw [hK, hW]
      rfl

end Cert.Retention

end
-- ==== Proof.NewSpec.lean ====
/-
  The retention of the sample: four new rows a sequence, from the state the sequence comes with. The decays that differ from
  the prompt's, the results with their norm and gate, and the state after the four rows.
-/
module

public import proofs.«01_k».proof.Proof.RetSpec
public import Idealize.ShloMosaic.Lib.KernelVsHost

@[expose] public section

noncomputable section

namespace Cert.NewRows

open Idealize.ShloMosaic Cert.Chunks

def kd (h i : ℕ) : EReal := Ideal.exp ((Ideal.ofBits .f32 1077936128#32 - num i) * lg h)

def sd (h : ℕ) : EReal := Ideal.exp (Ideal.ofBits .f32 1082130432#32 * lg h)

/-- An array's entry for sequence `b`, head `h`, new row `i` and lane `d` of the head … -/
abbrev ent (X : Fin 128 → Fin 512 → EReal) (b : Fin 32) (h i : Fin 4) (d : Fin 128) : EReal :=
  X ⟨b.val * 4 + i.val, by omega⟩ ⟨h.val * 128 + d.val, by omega⟩

/-- … and with twelve rows of zeros below the four. -/
def pent (X : Fin 128 → Fin 512 → EReal) (b : Fin 32) (h : Fin 4) (i : Fin 16) (d : Fin 128) : EReal :=
  if hi : i.val < 4 then ent X b h ⟨i.val, hi⟩ d else 0

variable (Q K V G : Fin 128 → Fin 512 → EReal) (S : Fin 32 → Fin 4 → Fin 128 → Fin 128 → EReal) (g : Fin 4 → Fin 128 → EReal)
  (b : Fin 32) (h : Fin 4)

/-- The state after the new rows. -/
def after (d e : Fin 128) : EReal := sd h * S b h d e + ∑ j : Fin 4, (ent K b h j d * kd h j) * ent V b h j e

/-- The results of the new rows … -/
def raw (i : Fin 4) (e : Fin 128) : EReal :=
  (∑ j : Fin 4, ((∑ d : Fin 128, ent Q b h i d * ent K b h j d) * dec h i j) * ent V b h j e)
    + (∑ d : Fin 128, ent Q b h i d * S b h d e) * qd h i

/-- … normed over the head and gated. -/
def gated (i : Fin 4) (e : Fin 128) : EReal :=
  raw Q K V S b h i e
    * Ideal.rsqrt (Ideal.div (∑ x : Fin 128, raw Q K V S b h i x * raw Q K V S b h i x) (Ideal.ofBits .f32 1124073472#32)
        + Ideal.ofBits .f32 897988541#32)
    * g h e * ent G b h i e

/-- The results with the rows of zeros. -/
def padded (i : Fin 16) (j : Fin 512) : EReal :=
  if hi : i.val < 4 then gated Q K V G S g b ⟨j.val / 128, by omega⟩ ⟨i.val, hi⟩ ⟨j.val % 128, Nat.mod_lt _ (by decide)⟩ else 0

/-- The value of the rows below, as a program makes it. -/
theorem zero_fill (u : Shape) (i : u.Idx) : (sitofp (F := Ideal) .bf16 (constantI u 32 0#32)) i = 0 := by
  show (((0#32 : BitVec 32).toInt : ℝ) : EReal) = 0
  simp

/-- Rows of zeros add nothing. -/
theorem sum_rows (f : Fin 16 → EReal) (h : ∀ j : Fin 16, ¬j.val < 4 → f j = 0) :
    ∑ j : Fin 16, f j = ∑ j : Fin 4, f ⟨j.val, by omega⟩ := by
  refine (Fin.sum_univ_add (a := 4) (b := 12) f).trans ?_
  rw [Finset.sum_eq_zero (f := fun i : Fin 12 => f (Fin.natAdd 4 i)) fun i _ => h _ (by show ¬4 + i.val < 4; omega), add_zero]
  rfl

/-- Four rows with twelve rows of a value below. -/
theorem pad_at (x : FVec Ideal ⟨3, ![32, 4, 512]⟩ .bf16) {u : Shape} (v : FVec Ideal u .bf16)
    (H : (⟨3, ![32, 4, 512]⟩ : Shape).Pads (![0, 0, 0] : Fin 3 → ℕ) ![0, 12, 0] ![0, 0, 0] ⟨3, ![32, 16, 512]⟩) (hu : 0 < u.numel)
    (b : Fin 32) (i : Fin 16) (j : Fin 512) :
    pad ⟨3, ![32, 16, 512]⟩ (![0, 0, 0] : Fin 3 → ℕ) ![0, 12, 0] ![0, 0, 0] x v H hu (ix3 b i j)
      = if hi : i.val < 4 then x (ix3 b ⟨i.val, hi⟩ j) else v (Shape.Idx.first hu) := by
  split
  next hi =>
    refine pad_apply_of_inside _ _ _ x v H hu _ _ fun a => ?_
    fin_cases a
    · show b.val = 0 + b.val * 1
      omega
    · show i.val = 0 + i.val * 1
      omega
    · show j.val = 0 + j.val * 1
      omega
  next hi =>
    refine pad_apply_of_not_inside _ _ _ x v H hu _ 1 ?_
    rintro ⟨-, -, h⟩
    have h' : (i.val - 0) / 1 < 4 := h
    omega

end Cert.NewRows

end
-- ==== Proof.NewList.lean ====
/-
  The body of the sample's retention as its four units in order, one a head: what a unit makes of what it loads, and what the
  units have written.
-/
module

public import proofs.«01_k».proof.Proof.Gen.RetNewIdeal.Frame.RunA
public import proofs.«01_k».proof.Proof.NewSpec
public import Idealize.ShloMosaic.Lib.Pipeline.ValueKit
public import Idealize.ShloMosaic.Lib.WritesUnit
public import Idealize.ShloMosaic.Lib.VecWindow
public import Idealize.ShloMosaic.Lib.Claim

@[expose] public section

set_option maxRecDepth 16384

noncomputable section

namespace Cert.RetNewIdeal.Units

open Cert Cert.RetNewIdeal Cert.RetNewIdeal.Gen Idealize.ShloMosaic Idealize.ShloMosaic.TcCoe Idealize.SL.Sem

/-- The state after the rows … -/
def next (kb vb : FVec Ideal S1x16x128 .bf16) (s : FVec Ideal S1x128x128 .f32) (kd : FVec Ideal S1x16x128 .f32) (sd : FVec Ideal S1x1x128 .f32) :
    FVec Ideal S1x128x128 .f32 :=
  k0_pay7 (F := Ideal) (k0_pay3 vb) (k0_pay4 s) (k0_pay6 kb kd) sd

/-- … the results before their norm … -/
def raw (qb kb vb : FVec Ideal S1x16x128 .bf16) (s : FVec Ideal S1x128x128 .f32) (dec : FVec Ideal S1x16x16 .f32) (qd : FVec Ideal S1x16x128 .f32) :
    FVec Ideal S16x128 .f32 :=
  k0_pay5 (F := Ideal) qb kb vb s dec qd

/-- … and after the norm and the gate. -/
def out (qb kb vb gb : FVec Ideal S1x16x128 .bf16) (s : FVec Ideal S1x128x128 .f32) (dec : FVec Ideal S1x16x16 .f32) (qd : FVec Ideal S1x16x128 .f32)
    (rg : FVec Ideal S1x128 .f32) : FVec Ideal S1x16x128 .bf16 :=
  k0_pay8 (F := Ideal) (raw qb kb vb s dec qd) rg gb

section entries

variable (qb kb vb gb : FVec Ideal S1x16x128 .bf16) (s : FVec Ideal S1x128x128 .f32) (dec : FVec Ideal S1x16x16 .f32) (qd kd : FVec Ideal S1x16x128 .f32)
  (sd : FVec Ideal S1x1x128 .f32) (rg : FVec Ideal S1x128 .f32)

theorem next_at (d e : Fin 128) : next kb vb s kd sd (ix3 0 d e)
    = sd (ix3 0 0 e) * s (ix3 0 d e) + ∑ j : Fin 16, (kb (ix3 0 j d) * kd (ix3 0 j d)) * vb (ix3 0 j e) := by
  pointwise [next, k0_pay7, k0_pay6, k0_pay4, k0_pay3, k0_pay2]

theorem raw_at (i : Fin 16) (e : Fin 128) : raw qb kb vb s dec qd (ix2 i e)
    = (∑ j : Fin 16, ((∑ d : Fin 128, qb (ix3 0 i d) * kb (ix3 0 j d)) * dec (ix3 0 i j)) * vb (ix3 0 j e))
      + (∑ d : Fin 128, qb (ix3 0 i d) * s (ix3 0 d e)) * qd (ix3 0 i e) := by
  pointwise [raw, k0_pay5, k0_pay4, k0_pay3, k0_pay2]

theorem out_at (i : Fin 16) (e : Fin 128) : out qb kb vb gb s dec qd rg (ix3 0 i e)
    = raw qb kb vb s dec qd (ix2 i e)
      * Ideal.rsqrt (Ideal.div (∑ x : Fin 128, raw qb kb vb s dec qd (ix2 i x) * raw qb kb vb s dec qd (ix2 i x)) (Ideal.ofBits .f32 1124073472#32)
        + Ideal.ofBits .f32 897988541#32)
      * rg (ix2 0 e) * gb (ix3 0 i e) := by
  pointwise [out, k0_pay8]

end entries

/-- A unit's head. -/
abbrev head (k : ℕ) : Fin 4 := ⟨k % 4, Nat.mod_lt _ (by decide)⟩

theorem tile_inb (k : ℕ) : ∀ a, (![0, 0, 128 * (k % 4)] : Fin 3 → ℕ) a + S1x16x128.size a ≤ S1x16x512.size a := by
  intro a
  fin_cases a
  · exact le_refl 1
  · exact le_refl 16
  · show 128 * (k % 4) + 128 ≤ 512
    omega

theorem plane_inb (k n p : ℕ) : ∀ a, (![k % 4, 0, 0] : Fin 3 → ℕ) a + (⟨3, ![1, n, p]⟩ : Shape).size a ≤ (⟨3, ![4, n, p]⟩ : Shape).size a := by
  intro a
  fin_cases a
  · show k % 4 + 1 ≤ 4
    omega
  · exact (Nat.zero_add n).le
  · exact (Nat.zero_add p).le

theorem lane_inb (k : ℕ) : ∀ a, (![0, 128 * (k % 4)] : Fin 2 → ℕ) a + S1x128.size a ≤ S1x512.size a := by
  intro a
  fin_cases a
  · exact le_refl 1
  · show 128 * (k % 4) + 128 ≤ 512
    omega

/-- A unit's lanes of the rows … -/
abbrev tileAt (k : ℕ) : Rect S1x16x512 := Rect.unit (s := S1x16x512) ![0, 0, 128 * (k % 4)] S1x16x128.size (tile_inb k)

/-- … and its plane of a table. -/
abbrev planeAt (n p k : ℕ) : Rect ⟨3, ![4, n, p]⟩ := Rect.unit (s := ⟨3, ![4, n, p]⟩) ![k % 4, 0, 0] (⟨3, ![1, n, p]⟩ : Shape).size (plane_inb k n p)

/-- What the units load. -/
def blk (w : Memref sig .tc .vmem S1x16x512 .bf16) (X : BufTy.Contents (Elt Ideal) w.view.ty) (k : ℕ) : FVec Ideal S1x16x128 .bf16 :=
  w.view.readAt (Elt Ideal) (tileAt k).toLoadRect X

@[inherit_doc blk] def plane {n p : ℕ} (w : Memref sig .tc .vmem ⟨3, ![4, n, p]⟩ .f32) (X : BufTy.Contents (Elt Ideal) w.view.ty) (k : ℕ) :
    FVec Ideal ⟨3, ![1, n, p]⟩ .f32 :=
  w.view.readAt (Elt Ideal) (planeAt n p k).toLoadRect X

@[inherit_doc blk] def lane (w : Memref sig .tc .vmem S1x512 .f32) (X : BufTy.Contents (Elt Ideal) w.view.ty) (k : ℕ) : FVec Ideal S1x128 .f32 :=
  w.view.readAt (Elt Ideal) (Rect.unit (s := S1x512) ![0, 128 * (k % 4)] S1x128.size (lane_inb k)).toLoadRect X

theorem blk_at (w : Memref sig .tc .vmem S1x16x512 .bf16) (hw : w.IsWhole) (x : FVec Ideal S1x16x512 .bf16) (k : ℕ) (i : Fin 16) (d : Fin 128) :
    blk w (hw.unread x) k (ix3 0 i d) = x (ix3 0 i ⟨(head k).val * 128 + d.val, by omega⟩) := by
  show w.view.read (Elt Ideal) (hw.unread x) ((tileAt k).toLoadRect.idx (ix3 0 i d)) = _
  rw [hw.read_unread]
  refine congrArg x (funext fun a => Fin.ext ?_)
  fin_cases a
  · rfl
  · show 0 + 1 * i.val = i.val
    omega
  · show 128 * (k % 4) + 1 * d.val = k % 4 * 128 + d.val
    omega

theorem planeAt_idx (n p k : ℕ) (i : Fin n) (d : Fin p) : (planeAt n p k).toLoadRect.idx (ix3 0 i d) = (ix3 (head k) i d : (⟨3, ![4, n, p]⟩ : Shape).Idx) := by
  refine funext fun a => Fin.ext ?_
  fin_cases a
  · show k % 4 + 1 * 0 = k % 4
    omega
  · show 0 + 1 * i.val = i.val
    omega
  · show 0 + 1 * d.val = d.val
    omega

theorem plane_at {n p : ℕ} (w : Memref sig .tc .vmem ⟨3, ![4, n, p]⟩ .f32) (hw : w.IsWhole) (x : FVec Ideal ⟨3, ![4, n, p]⟩ .f32) (k : ℕ) (i : Fin n) (d : Fin p) :
    plane w (hw.unread x) k (ix3 0 i d) = x (ix3 (head k) i d) := by
  show w.view.read (Elt Ideal) (hw.unread x) ((planeAt n p k).toLoadRect.idx (ix3 0 i d)) = _
  rw [hw.read_unread]
  exact congrArg x (planeAt_idx n p k i d)

theorem lane_at (w : Memref sig .tc .vmem S1x512 .f32) (hw : w.IsWhole) (x : FVec Ideal S1x512 .f32) (k : ℕ) (d : Fin 128) :
    lane w (hw.unread x) k (ix2 0 d) = x (ix2 0 ⟨(head k).val * 128 + d.val, by omega⟩) := by
  show w.view.read (Elt Ideal) (hw.unread x) ((Rect.unit (s := S1x512) ![0, 128 * (k % 4)] S1x128.size (lane_inb k)).toLoadRect.idx (ix2 0 d)) = _
  rw [hw.read_unread]
  refine congrArg x (funext fun a => Fin.ext ?_)
  fin_cases a
  · rfl
  · show 128 * (k % 4) + 1 * d.val = k % 4 * 128 + d.val
    omega

/-- A list of states written. -/
abbrev States := List (View.Piece (Elt Ideal) S4x128x128 .f32)

/-- The state a unit finds. -/
def found (w : Memref sig .tc .vmem S4x128x128 .f32) (k : ℕ) (L : States) : FVec Ideal S1x128x128 .f32 :=
  w.view.readCov L (planeAt 128 128 k).toLoadRect

theorem found_at (w : Memref sig .tc .vmem S4x128x128 .f32) (k : ℕ) (L : States) (d e : Fin 128) :
    found w k L (ix3 0 d e) = w.view.read (Elt Ideal) (w.view.writes (Elt Ideal) w.view.junk L) (ix3 (head k) d e) := by
  show w.view.read (Elt Ideal) (w.view.writes (Elt Ideal) w.view.junk L) ((planeAt 128 128 k).toLoadRect.idx (ix3 0 d e)) = _
  exact congrArg _ (planeAt_idx 128 128 k d e)

section kept

variable (kb vb : ℕ → FVec Ideal S1x16x128 .bf16) (kd : ℕ → FVec Ideal S1x16x128 .f32) (sd : ℕ → FVec Ideal S1x1x128 .f32)
  (w : Memref sig .tc .vmem S4x128x128 .f32) (base : States)

/-- The states written by the first `k` units, newest first, over the states the body sets first … -/
def kept : ℕ → States
  | 0 => base
  | k + 1 => ⟨planeAt 128 128 k, next (kb k) (vb k) (found w k (kept k)) (kd k) (sd k)⟩ :: kept k

theorem kept_next (k : ℕ) (L : States) (P : View.Piece (Elt Ideal) S4x128x128 .f32)
    (hL : L = kept kb vb kd sd w base k) (hP : P = ⟨planeAt 128 128 k, next (kb k) (vb k) (found w k L) (kd k) (sd k)⟩) :
    P :: L = kept kb vb kd sd w base (k + 1) := by
  subst hL hP
  rfl

variable (qb gb : ℕ → FVec Ideal S1x16x128 .bf16) (dec : ℕ → FVec Ideal S1x16x16 .f32) (qd : ℕ → FVec Ideal S1x16x128 .f32)
  (rg : ℕ → FVec Ideal S1x128 .f32)

/-- … and the results. -/
def stored : ℕ → List (View.Piece (Elt Ideal) S1x16x512 .bf16)
  | 0 => []
  | k + 1 => ⟨tileAt k, out (qb k) (kb k) (vb k) (gb k) (found w k (kept kb vb kd sd w base k)) (dec k) (qd k) (rg k)⟩ :: stored k

theorem stored_next (k : ℕ) (M : List (View.Piece (Elt Ideal) S1x16x512 .bf16)) (P : View.Piece (Elt Ideal) S1x16x512 .bf16)
    (hM : M = stored kb vb kd sd w base qb gb dec qd rg k) (s : FVec Ideal S1x128x128 .f32)
    (hP : P = ⟨tileAt k, out (qb k) (kb k) (vb k) (gb k) s (dec k) (qd k) (rg k)⟩) (hs : s = found w k (kept kb vb kd sd w base k)) :
    P :: M = stored kb vb kd sd w base qb gb dec qd rg (k + 1) := by
  subst hs hM hP
  rfl

/-- A head whose unit is still to come reads what was there … -/
theorem kept_before (v : View sig .tc .vmem S4x128x128 .f32) (f : v.ty.Contents (Elt Ideal)) (h : Fin 4) (d e : Fin 128) (k : ℕ) (hk : k ≤ h.val) :
    v.read (Elt Ideal) (v.writes (Elt Ideal) f (kept kb vb kd sd w base k)) (ix3 h d e) = v.read (Elt Ideal) (v.writes (Elt Ideal) f base) (ix3 h d e) := by
  induction k with
  | zero => rfl
  | succ k ih =>
    refine (View.read_writes_cons_unit_of_not_mem v f (plane_inb k 128 128) _ _ (ix3 h d e) rfl 0 ?_).trans (ih (by omega))
    show h.val < k % 4 ∨ k % 4 + 1 ≤ h.val
    omega

/-- … and one whose unit is done, the state that the unit has left. -/
theorem kept_read (v : View sig .tc .vmem S4x128x128 .f32) (f : v.ty.Contents (Elt Ideal)) (h : Fin 4) (d e : Fin 128) (k : ℕ) (hk : k ≤ 4) (hh : h.val < k) :
    v.read (Elt Ideal) (v.writes (Elt Ideal) f (kept kb vb kd sd w base k)) (ix3 h d e)
      = next (kb h) (vb h) (found w h (kept kb vb kd sd w base h)) (kd h) (sd h) (ix3 0 d e) := by
  induction k with
  | zero => omega
  | succ k ih =>
    by_cases hn : h.val = k
    · subst hn
      refine View.read_writes_cons_unit_of_mem v f (plane_inb h 128 128) _ _ (ix3 h d e) (ix3 0 d e) rfl fun a => ?_
      fin_cases a
      · show h.val = h.val % 4 + 0
        omega
      · exact (Nat.zero_add _).symm
      · exact (Nat.zero_add _).symm
    · refine (View.read_writes_cons_unit_of_not_mem v f (plane_inb k 128 128) _ _ (ix3 h d e) rfl 0 ?_).trans (ih (by omega) (by omega))
      show h.val < k % 4 ∨ k % 4 + 1 ≤ h.val
      omega

/-- The state a unit finds is the one set first. -/
theorem found_kept (h : Fin 4) (d e : Fin 128) : found w h (kept kb vb kd sd w base h) (ix3 0 d e)
    = w.view.read (Elt Ideal) (w.view.writes (Elt Ideal) w.view.junk base) (ix3 h d e) := by
  rw [found_at, show head h.val = h from Fin.ext (Nat.mod_eq_of_lt h.isLt)]
  exact kept_before kb vb kd sd w base w.view w.view.junk h d e h (le_refl _)

/-- A unit's results, once it is done. -/
theorem stored_read (v : View sig .tc .vmem S1x16x512 .bf16) (f : v.ty.Contents (Elt Ideal)) (h : Fin 4) (i : Fin 16) (e : Fin 128) (k : ℕ) (hk : k ≤ 4) (hh : h.val < k) :
    v.read (Elt Ideal) (v.writes (Elt Ideal) f (stored kb vb kd sd w base qb gb dec qd rg k)) (ix3 0 i ⟨h.val * 128 + e.val, by omega⟩)
      = out (qb h) (kb h) (vb h) (gb h) (found w h (kept kb vb kd sd w base h)) (dec h) (qd h) (rg h) (ix3 0 i e) := by
  induction k with
  | zero => omega
  | succ k ih =>
    by_cases hn : h.val = k
    · subst hn
      refine View.read_writes_cons_unit_of_mem v f (tile_inb h) _ _ _ (ix3 0 i e) rfl fun a => ?_
      fin_cases a
      · rfl
      · exact (Nat.zero_add _).symm
      · show h.val * 128 + e.val = 128 * (h.val % 4) + e.val
        omega
    · refine (View.read_writes_cons_unit_of_not_mem v f (tile_inb k) _ _ _ rfl 2 ?_).trans (ih (by omega) (by omega))
      show h.val * 128 + e.val < 128 * (k % 4) ∨ 128 * (k % 4) + 128 ≤ h.val * 128 + e.val
      omega

end kept

variable (c : Dev nD) (i : grid0.Coords) (arg2 : Memref sig .tc .vmem S1x16x512 .bf16) (harg2 : arg2.IsWhole) (arg3 : Memref sig .tc .vmem S1x16x512 .bf16) (harg3 : arg3.IsWhole) (arg4 : Memref sig .tc .vmem S1x16x512 .bf16) (harg4 : arg4.IsWhole) (arg5 : Memref sig .tc .vmem S1x16x512 .bf16) (harg5 : arg5.IsWhole) (arg6 : Memref sig .tc .vmem S1x4x128x128 .f32) (harg6 : arg6.IsWhole) (arg7 : Memref sig .tc .vmem S4x16x16 .f32) (harg7 : arg7.IsWhole) (arg8 : Memref sig .tc .vmem S4x16x128 .f32) (harg8 : arg8.IsWhole) (arg9 : Memref sig .tc .vmem S4x16x128 .f32) (harg9 : arg9.IsWhole) (arg10 : Memref sig .tc .vmem S4x1x128 .f32) (harg10 : arg10.IsWhole) (arg11 : Memref sig .tc .vmem S1x512 .f32) (harg11 : arg11.IsWhole) (arg12 : Memref sig .tc .vmem S1x16x512 .bf16) (harg12 : arg12.IsWhole) (arg13 : Memref sig .tc .vmem S1x4x128x128 .f32) (harg13 : arg13.IsWhole) (arg14 : Memref sig .tc .vmem S4x128x128 .f32) (harg14 : arg14.IsWhole)
  (x0 x1 x2 x3 : FVec Ideal S1x16x512 .bf16) (x4 : FVec Ideal S1x4x128x128 .f32) (x5 : FVec Ideal S4x16x16 .f32) (x6 x7 : FVec Ideal S4x16x128 .f32) (x8 : FVec Ideal S4x1x128 .f32) (x9 : FVec Ideal S1x512 .f32)

/-- The state as the body sets it first. -/
abbrev init : States :=
  [⟨Rect.unit (s := S4x128x128) ![0, 0, 0] S4x128x128.size inb_S4x128x128_S4x128x128_0_0_0,
    k0_pay1 (F := Ideal) (arg6.view.readAt (Elt Ideal) (Rect.unit (s := S1x4x128x128) ![0, 0, 0, 0] S1x4x128x128.size inb_S1x4x128x128_S1x4x128x128_0_0_0_0).toLoadRect (harg6.unread x4))⟩]

theorem init_at (v : View sig .tc .vmem S4x128x128 .f32) (f : v.ty.Contents (Elt Ideal)) (h : Fin 4) (d e : Fin 128) :
    v.read (Elt Ideal) (v.writes (Elt Ideal) f (init arg6 harg6 x4)) (ix3 h d e) = x4 (ix4 0 h d e) := by
  unfold init
  rw [View.read_writes_full, View.readAt_full, harg6.read_unread]
  pointwise [k0_pay1]

/-- The states kept by the first `k` units of a point's blocks … -/
abbrev keptFrom (k : ℕ) : States :=
  kept (blk arg3 (harg3.unread x1)) (blk arg4 (harg4.unread x2)) (plane arg9 (harg9.unread x7)) (plane arg10 (harg10.unread x8)) arg14 (init arg6 harg6 x4) k

/-- … and the results stored. -/
abbrev storedFrom (k : ℕ) : List (View.Piece (Elt Ideal) S1x16x512 .bf16) :=
  stored (blk arg3 (harg3.unread x1)) (blk arg4 (harg4.unread x2)) (plane arg9 (harg9.unread x7)) (plane arg10 (harg10.unread x8)) arg14 (init arg6 harg6 x4)
    (blk arg2 (harg2.unread x0)) (blk arg5 (harg5.unread x3)) (plane arg7 (harg7.unread x5)) (plane arg8 (harg8.unread x6)) (lane arg11 (harg11.unread x9)) k

theorem stored_A (hc0 : cond0_0 i) (hc1 : cond0_1 i) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).1
      = storedFrom arg2 harg2 arg3 harg3 arg4 harg4 arg5 harg5 arg6 harg6 arg7 harg7 arg8 harg8 arg9 harg9 arg10 harg10 arg11 harg11 arg14 x0 x1 x2 x3 x4 x5 x6 x7 x8 x9 4 := by
  unfold kernelRun0_A
  dsimp only
  iterate 4 refine stored_next _ _ _ _ _ _ _ _ _ _ _ _ _ _ ?_ _ rfl ?_
  rfl
  all_goals
    show arg14.view.readCov _ _ = arg14.view.readCov _ _
    refine congrArg (fun L => arg14.view.readCov L _) ?_
    repeat refine kept_next _ _ _ _ _ _ _ _ _ ?_ rfl
    rfl

/-- The point also writes the state out. -/
theorem last_A (hc0 : cond0_0 i) (hc1 : cond0_1 i) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.1
      = [⟨Rect.unit (s := S1x4x128x128) ![0, 0, 0, 0] S1x4x128x128.size inb_S1x4x128x128_S1x4x128x128_0_0_0_0,
          k0_pay34 (F := Ideal) (arg14.view.readCov (keptFrom arg3 harg3 arg4 harg4 arg6 harg6 arg9 harg9 arg10 harg10 arg14 x1 x2 x4 x7 x8 4)
            (Rect.unit (s := S4x128x128) ![0, 0, 0] S4x128x128.size inb_S4x128x128_S4x128x128_0_0_0).toLoadRect)⟩] := by
  unfold kernelRun0_A
  dsimp only
  refine congrArg (fun L : States => ([⟨Rect.unit (s := S1x4x128x128) ![0, 0, 0, 0] S1x4x128x128.size inb_S1x4x128x128_S1x4x128x128_0_0_0_0,
    k0_pay34 (F := Ideal) (arg14.view.readCov L (Rect.unit (s := S4x128x128) ![0, 0, 0] S4x128x128.size inb_S4x128x128_S4x128x128_0_0_0).toLoadRect)⟩] :
      List (View.Piece (Elt Ideal) S1x4x128x128 .f32))) ?_
  iterate 4 refine kept_next _ _ _ _ _ _ _ _ _ ?_ rfl
  rfl

end Cert.RetNewIdeal.Units

end
-- ==== Proof.NewIn.lean ====
/-
  The blocks of the sample's retention at a grid point: a sequence's new rows over rows of zeros, its state, the decay tables
  and the gain.
-/
module

public import proofs.«01_k».proof.Proof.Gen.RetNewIdeal.Frame.Runs
public import proofs.«01_k».proof.Proof.NewSpec
public import Idealize.ShloMosaic.Lib.Pipeline.ValueKit
public import Idealize.ShloMosaic.Lib.Claim

@[expose] public section

set_option maxRecDepth 16384

noncomputable section

namespace Cert.RetNewIdeal.In

open Cert Cert.RetNewIdeal Cert.RetNewIdeal.Gen Idealize.ShloMosaic Idealize.ShloMosaic.TcCoe Idealize.SL.Sem

theorem idx : ∀ t : Fin cfg0.N,
    win0_0.index t = ![t.val, 0, 0] ∧ win0_1.index t = ![t.val, 0, 0] ∧ win0_2.index t = ![t.val, 0, 0]
    ∧ win0_3.index t = ![t.val, 0, 0] ∧ win0_4.index t = ![t.val, 0, 0, 0] ∧ win0_5.index t = ![0, 0, 0]
    ∧ win0_6.index t = ![0, 0, 0] ∧ win0_7.index t = ![0, 0, 0] ∧ win0_8.index t = ![0, 0, 0] ∧ win0_9.index t = ![0, 0]
    ∧ win0_10.index t = ![t.val, 0, 0] ∧ win0_11.index t = ![t.val, 0, 0, 0] ∧ t.val < 32 :=
  (by decide +kernel : ∀ t : Fin grid0.N, _)

variable (m : (ℓ : Loc nD τ sig) → Buf (Elt Ideal) ℓ) (c : Dev nD) (t : Fin cfg0.N)

abbrev Q (r : Fin 128) (j : Fin 512) : EReal := (m ((c : Thread nD τ).loc main_arg0) : FVec Ideal S128x512 .bf16) (ix2 r j)
abbrev K (r : Fin 128) (j : Fin 512) : EReal := (m ((c : Thread nD τ).loc main_arg1) : FVec Ideal S128x512 .bf16) (ix2 r j)
abbrev W (r : Fin 128) (j : Fin 512) : EReal := (m ((c : Thread nD τ).loc main_arg2) : FVec Ideal S128x512 .bf16) (ix2 r j)
abbrev G (r : Fin 128) (j : Fin 512) : EReal := (m ((c : Thread nD τ).loc main_arg3) : FVec Ideal S128x512 .bf16) (ix2 r j)

/-- The state a sequence comes with. -/
abbrev S (b : Fin 32) (h : Fin 4) (d e : Fin 128) : EReal := (m ((c : Thread nD τ).loc main_arg4) : FVec Ideal S32x4x128x128 .f32) (ix4 b h d e)

/-- The gain of a head's lane. -/
abbrev gain (h : Fin 4) (d : Fin 128) : EReal := (m ((c : Thread nD τ).loc main_arg5) : FVec Ideal S4x128 .f32) (ix2 h d)

/-- The sequence of a point. -/
abbrev seq : Fin 32 := ⟨t.val, by have := (idx t).2.2.2.2.2.2.2.2.2.2.2.2; omega⟩

/-- The rows of an array over rows of zeros. -/
abbrev rows (X : Fin 128 → Fin 512 → EReal) (b : Fin 32) (i : Fin 16) (j : Fin 512) : EReal :=
  if hi : i.val < 4 then X ⟨b.val * 4 + i.val, by omega⟩ j else 0

/-! The prepared operands, as the region finds them. -/

theorem v2 (b : Fin 32) (i : Fin 16) (j : Fin 512) : (show FVec Ideal S32x16x512 .bf16 from V m c main_v2) (ix3 b i j) = rows (Q m c) b i j := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  simp only [StableHlo.TRef.toBuf, StableHlo.TRef.ofBuf, id_eq, cast_eq]
  refine (NewRows.pad_at _ _ _ _ b i j).trans ?_
  refine dite_congr rfl (fun hi => ?_) fun _ => NewRows.zero_fill _ _
  pointwise

theorem v4 (b : Fin 32) (i : Fin 16) (j : Fin 512) : (show FVec Ideal S32x16x512 .bf16 from V m c main_v4) (ix3 b i j) = rows (K m c) b i j := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  simp only [StableHlo.TRef.toBuf, StableHlo.TRef.ofBuf, id_eq, cast_eq]
  refine (NewRows.pad_at _ _ _ _ b i j).trans ?_
  refine dite_congr rfl (fun hi => ?_) fun _ => NewRows.zero_fill _ _
  pointwise

theorem v6 (b : Fin 32) (i : Fin 16) (j : Fin 512) : (show FVec Ideal S32x16x512 .bf16 from V m c main_v6) (ix3 b i j) = rows (W m c) b i j := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  simp only [StableHlo.TRef.toBuf, StableHlo.TRef.ofBuf, id_eq, cast_eq]
  refine (NewRows.pad_at _ _ _ _ b i j).trans ?_
  refine dite_congr rfl (fun hi => ?_) fun _ => NewRows.zero_fill _ _
  pointwise

theorem v8 (b : Fin 32) (i : Fin 16) (j : Fin 512) : (show FVec Ideal S32x16x512 .bf16 from V m c main_v8) (ix3 b i j) = rows (G m c) b i j := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  simp only [StableHlo.TRef.toBuf, StableHlo.TRef.ofBuf, id_eq, cast_eq]
  refine (NewRows.pad_at _ _ _ _ b i j).trans ?_
  refine dite_congr rfl (fun hi => ?_) fun _ => NewRows.zero_fill _ _
  pointwise

theorem v33 (h : Fin 4) (i : Fin 16) (j : Fin 16) : (show FVec Ideal S4x16x16 .f32 from V m c main_v33) (ix3 h i j) = Chunks.dec h i j := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  simp only [StableHlo.TRef.toBuf, StableHlo.TRef.ofBuf, id_eq, cast_eq]
  pointwise
  rfl

theorem v54 (h : Fin 4) (i : Fin 16) (j : Fin 128) : (show FVec Ideal S4x16x128 .f32 from V m c main_v54) (ix3 h i j) = Chunks.qd h i := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  pointwise
  rfl

theorem v56 (h : Fin 4) (i : Fin 16) (j : Fin 128) : (show FVec Ideal S4x16x128 .f32 from V m c main_v56) (ix3 h i j) = NewRows.kd h i := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  pointwise
  rfl

theorem v58 (h : Fin 4) (j : Fin 128) : (show FVec Ideal S4x1x128 .f32 from V m c main_v58) (ix3 h 0 j) = NewRows.sd h := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  pointwise
  rfl

theorem v0 (j : Fin 512) : (show FVec Ideal S1x512 .f32 from V m c main_v0) (ix2 0 j) = gain m c ⟨j.val / 128, by omega⟩ ⟨j.val % 128, Nat.mod_lt _ (by decide)⟩ := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  pointwise

/-! The blocks. -/

theorem blk0 (i : Fin 16) (j : Fin 512) : (show FVec Ideal S1x16x512 .bf16 from iblk m c 0 t) (ix3 0 i j) = rows (Q m c) (seq t) i j := by
  refine Eq.trans ?_ (v2 m c (seq t) i j)
  blk_ext [iblk, idx t]

theorem blk1 (i : Fin 16) (j : Fin 512) : (show FVec Ideal S1x16x512 .bf16 from iblk m c 1 t) (ix3 0 i j) = rows (K m c) (seq t) i j := by
  refine Eq.trans ?_ (v4 m c (seq t) i j)
  blk_ext [iblk, idx t]

theorem blk2 (i : Fin 16) (j : Fin 512) : (show FVec Ideal S1x16x512 .bf16 from iblk m c 2 t) (ix3 0 i j) = rows (W m c) (seq t) i j := by
  refine Eq.trans ?_ (v6 m c (seq t) i j)
  blk_ext [iblk, idx t]

theorem blk3 (i : Fin 16) (j : Fin 512) : (show FVec Ideal S1x16x512 .bf16 from iblk m c 3 t) (ix3 0 i j) = rows (G m c) (seq t) i j := by
  refine Eq.trans ?_ (v8 m c (seq t) i j)
  blk_ext [iblk, idx t]

theorem blk4 (h : Fin 4) (d e : Fin 128) : (show FVec Ideal S1x4x128x128 .f32 from iblk m c 4 t) (ix4 0 h d e) = S m c (seq t) h d e := by
  refine Eq.trans (b := (show FVec Ideal S32x4x128x128 .f32 from V m c main_arg4) (ix4 (seq t) h d e)) ?_ (congrFun (V_main_arg4 m c) _)
  blk_ext [iblk, idx t]

theorem blk5 (h : Fin 4) (i : Fin 16) (j : Fin 16) : (show FVec Ideal S4x16x16 .f32 from iblk m c 5 t) (ix3 h i j) = Chunks.dec h i j := by
  refine Eq.trans ?_ (v33 m c h i j)
  blk_ext [iblk, idx t]

theorem blk6 (h : Fin 4) (i : Fin 16) (j : Fin 128) : (show FVec Ideal S4x16x128 .f32 from iblk m c 6 t) (ix3 h i j) = Chunks.qd h i := by
  refine Eq.trans ?_ (v54 m c h i j)
  blk_ext [iblk, idx t]

theorem blk7 (h : Fin 4) (i : Fin 16) (j : Fin 128) : (show FVec Ideal S4x16x128 .f32 from iblk m c 7 t) (ix3 h i j) = NewRows.kd h i := by
  refine Eq.trans ?_ (v56 m c h i j)
  blk_ext [iblk, idx t]

theorem blk8 (h : Fin 4) (j : Fin 128) : (show FVec Ideal S4x1x128 .f32 from iblk m c 8 t) (ix3 h 0 j) = NewRows.sd h := by
  refine Eq.trans ?_ (v58 m c h j)
  blk_ext [iblk, idx t]

theorem blk9 (j : Fin 512) : (show FVec Ideal S1x512 .f32 from iblk m c 9 t) (ix2 0 j) = gain m c ⟨j.val / 128, by omega⟩ ⟨j.val % 128, Nat.mod_lt _ (by decide)⟩ := by
  refine Eq.trans ?_ (v0 m c j)
  blk_ext [iblk, idx t]

end Cert.RetNewIdeal.In

end
-- ==== Proof.NewOut.lean ====
/-
  What each point of the sample's retention leaves, and the two arrays at the end.
-/
module

public import proofs.«01_k».proof.Proof.NewList
public import proofs.«01_k».proof.Proof.NewIn
public import proofs.«01_k».proof.Proof.Gen.RetNewIdeal.Value

@[expose] public section

set_option maxRecDepth 16384

noncomputable section

namespace Cert.RetNewIdeal.Out

open Cert Cert.RetNewIdeal Cert.RetNewIdeal.Gen Cert.RetNewIdeal.In Cert.RetNewIdeal.Units Idealize.ShloMosaic Idealize.ShloMosaic.TcCoe Idealize.SL.Sem

/-- What the unit of head `h` loads and finds. -/
structure Loads (Q K W G : Fin 128 → Fin 512 → EReal) (S : Fin 32 → Fin 4 → Fin 128 → Fin 128 → EReal) (g : Fin 4 → Fin 128 → EReal)
    (b : Fin 32) (h : Fin 4) (qb kb vb gb : FVec Ideal S1x16x128 .bf16) (s : FVec Ideal S1x128x128 .f32) (dec : FVec Ideal S1x16x16 .f32)
    (qd kd : FVec Ideal S1x16x128 .f32) (sd : FVec Ideal S1x1x128 .f32) (rg : FVec Ideal S1x128 .f32) : Prop where
  q_at : ∀ i d, qb (ix3 0 i d) = NewRows.pent Q b h i d
  k_at : ∀ i d, kb (ix3 0 i d) = NewRows.pent K b h i d
  v_at : ∀ i d, vb (ix3 0 i d) = NewRows.pent W b h i d
  g_at : ∀ i d, gb (ix3 0 i d) = NewRows.pent G b h i d
  s_at : ∀ d e, s (ix3 0 d e) = S b h d e
  dec_at : ∀ i j, dec (ix3 0 i j) = Chunks.dec h i j
  qd_at : ∀ i d, qd (ix3 0 i d) = Chunks.qd h i
  kd_at : ∀ i d, kd (ix3 0 i d) = NewRows.kd h i
  sd_at : ∀ d, sd (ix3 0 0 d) = NewRows.sd h
  rg_at : ∀ d, rg (ix2 0 d) = g h d

section units

variable {Q K W G : Fin 128 → Fin 512 → EReal} {S : Fin 32 → Fin 4 → Fin 128 → Fin 128 → EReal} {g : Fin 4 → Fin 128 → EReal}
  {b : Fin 32} {h : Fin 4} {qb kb vb gb : FVec Ideal S1x16x128 .bf16} {s : FVec Ideal S1x128x128 .f32} {dec : FVec Ideal S1x16x16 .f32}
  {qd kd : FVec Ideal S1x16x128 .f32} {sd : FVec Ideal S1x1x128 .f32} {rg : FVec Ideal S1x128 .f32}
  (H : Loads Q K W G S g b h qb kb vb gb s dec qd kd sd rg)

theorem pent_row (X : Fin 128 → Fin 512 → EReal) (b : Fin 32) (h : Fin 4) (i : Fin 16) (d : Fin 128) (hi : i.val < 4) :
    NewRows.pent X b h i d = NewRows.ent X b h ⟨i.val, hi⟩ d := dif_pos hi

theorem pent_below (X : Fin 128 → Fin 512 → EReal) (b : Fin 32) (h : Fin 4) (i : Fin 16) (d : Fin 128) (hi : ¬i.val < 4) :
    NewRows.pent X b h i d = 0 := dif_neg hi

include H

/-- The state after a unit. -/
theorem next_of (d e : Fin 128) : next kb vb s kd sd (ix3 0 d e) = NewRows.after K W S b h d e := by
  rw [next_at, H.sd_at, H.s_at, NewRows.sum_rows _ fun j hj => by rw [H.v_at, pent_below _ _ _ _ _ hj, mul_zero]]
  refine congrArg _ (Finset.sum_congr rfl fun j _ => ?_)
  rw [H.k_at, H.v_at, H.kd_at, pent_row _ _ _ _ _ j.isLt, pent_row _ _ _ _ _ j.isLt]

/-- A unit's results before their norm … -/
theorem raw_of (i : Fin 16) (hi : i.val < 4) (e : Fin 128) : raw qb kb vb s dec qd (ix2 i e) = NewRows.raw Q K W S b h ⟨i.val, hi⟩ e := by
  rw [raw_at, H.qd_at, NewRows.sum_rows _ fun j hj => by rw [H.v_at, pent_below _ _ _ _ _ hj, mul_zero]]
  refine congrArg₂ (· + ·) (Finset.sum_congr rfl fun j _ => ?_) (congrArg (· * _) (Finset.sum_congr rfl fun d _ => ?_))
  · rw [H.v_at, H.dec_at, pent_row _ _ _ _ _ j.isLt]
    refine congrArg (· * _) (congrArg (· * _) (Finset.sum_congr rfl fun d _ => ?_))
    rw [H.q_at, H.k_at, pent_row _ _ _ _ _ hi, pent_row _ _ _ _ _ j.isLt]
  · rw [H.q_at, H.s_at, pent_row _ _ _ _ _ hi]

/-- … and after the gate, which is zero below the new rows. -/
theorem out_of (i : Fin 16) (e : Fin 128) : out qb kb vb gb s dec qd rg (ix3 0 i e)
    = if hi : i.val < 4 then NewRows.gated Q K W G S g b h ⟨i.val, hi⟩ e else 0 := by
  rw [out_at, H.rg_at, H.g_at]
  split
  next hi =>
    simp only [raw_of H i hi, pent_row _ _ _ _ _ hi]
    rfl
  next hi => rw [pent_below _ _ _ _ _ hi, mul_zero]

end units

variable (m : (ℓ : Loc nD τ sig) → Buf (Elt Ideal) ℓ) (c : Dev nD) (t : Fin cfg0.N)

section loads

variable (arg2 : Memref sig .tc .vmem S1x16x512 .bf16) (harg2 : arg2.IsWhole) (arg3 : Memref sig .tc .vmem S1x16x512 .bf16) (harg3 : arg3.IsWhole) (arg4 : Memref sig .tc .vmem S1x16x512 .bf16) (harg4 : arg4.IsWhole) (arg5 : Memref sig .tc .vmem S1x16x512 .bf16) (harg5 : arg5.IsWhole) (arg6 : Memref sig .tc .vmem S1x4x128x128 .f32) (harg6 : arg6.IsWhole) (arg7 : Memref sig .tc .vmem S4x16x16 .f32) (harg7 : arg7.IsWhole) (arg8 : Memref sig .tc .vmem S4x16x128 .f32) (harg8 : arg8.IsWhole) (arg9 : Memref sig .tc .vmem S4x16x128 .f32) (harg9 : arg9.IsWhole) (arg10 : Memref sig .tc .vmem S4x1x128 .f32) (harg10 : arg10.IsWhole) (arg11 : Memref sig .tc .vmem S1x512 .f32) (harg11 : arg11.IsWhole) (arg14 : Memref sig .tc .vmem S4x128x128 .f32)

theorem loads (h : Fin 4) : Loads (Q m c) (K m c) (W m c) (G m c) (S m c) (gain m c) (seq t) h
    (blk arg2 (harg2.unread (iblk m c 0 t)) h) (blk arg3 (harg3.unread (iblk m c 1 t)) h) (blk arg4 (harg4.unread (iblk m c 2 t)) h) (blk arg5 (harg5.unread (iblk m c 3 t)) h)
    (found arg14 h (keptFrom arg3 harg3 arg4 harg4 arg6 harg6 arg9 harg9 arg10 harg10 arg14 (iblk m c 1 t) (iblk m c 2 t) (iblk m c 4 t) (iblk m c 7 t) (iblk m c 8 t) h))
    (plane arg7 (harg7.unread (iblk m c 5 t)) h) (plane arg8 (harg8.unread (iblk m c 6 t)) h) (plane arg9 (harg9.unread (iblk m c 7 t)) h)
    (plane arg10 (harg10.unread (iblk m c 8 t)) h) (lane arg11 (harg11.unread (iblk m c 9 t)) h) := by
  have hh : head h.val = h := Fin.ext (Nat.mod_eq_of_lt h.isLt)
  have hc : ∀ d : Fin 128, (⟨(head h.val).val * 128 + d.val, by omega⟩ : Fin 512) = ⟨h.val * 128 + d.val, by omega⟩ := fun d =>
    Fin.ext (by show h.val % 4 * 128 + d.val = h.val * 128 + d.val; omega)
  constructor
  · intro i d
    rw [blk_at, hc d]
    exact blk0 m c t i _
  · intro i d
    rw [blk_at, hc d]
    exact blk1 m c t i _
  · intro i d
    rw [blk_at, hc d]
    exact blk2 m c t i _
  · intro i d
    rw [blk_at, hc d]
    exact blk3 m c t i _
  · intro d e
    rw [found_kept, init_at]
    exact blk4 m c t h d e
  · intro i j
    rw [plane_at]
    simp only [hh]
    exact blk5 m c t h i j
  · intro i j
    rw [plane_at]
    simp only [hh]
    exact blk6 m c t h i j
  · intro i j
    rw [plane_at]
    simp only [hh]
    exact blk7 m c t h i j
  · intro j
    rw [plane_at]
    simp only [hh]
    exact blk8 m c t h j
  · intro d
    rw [lane_at, hc d]
    refine (blk9 m c t _).trans ?_
    refine congrArg₂ (gain m c) (Fin.ext ?_) (Fin.ext ?_)
    · show (h.val * 128 + d.val) / 128 = h.val
      omega
    · show (h.val * 128 + d.val) % 128 = d.val
      omega

end loads

/-- A point's results … -/
theorem rows_left (i : Fin 16) (j : Fin 512) : (outsAt0 m c t).1 (ix3 0 i j)
    = NewRows.padded (Q m c) (K m c) (W m c) (G m c) (S m c) (gain m c) (seq t) i j := by
  unfold outsAt0
  dsimp only
  unfold out0_A_10
  rw [stored_A]
  have hj : j = ⟨(⟨j.val / 128, by omega⟩ : Fin 4).val * 128 + (⟨j.val % 128, Nat.mod_lt _ (by decide)⟩ : Fin 128).val, by show j.val / 128 * 128 + j.val % 128 < 512; omega⟩ :=
    Fin.ext (by show j.val = j.val / 128 * 128 + j.val % 128; omega)
  refine (congrArg (fun z => VO0_10.read (Elt Ideal) _ (ix3 0 i z)) hj).trans ?_
  refine (stored_read _ _ _ _ _ _ _ _ _ _ _ VO0_10 VO0_10.junk ⟨j.val / 128, by omega⟩ i ⟨j.val % 128, Nat.mod_lt _ (by decide)⟩ 4 (le_refl _) (by show j.val / 128 < 4; omega)).trans ?_
  exact out_of (loads m c t _ _ _ _ _ _ _ _ _ _ _ _ _ _ _ _ _ _ _ _ _ ⟨j.val / 128, by omega⟩) i _

/-- … and its state. -/
theorem state_left (h : Fin 4) (d e : Fin 128) : (outsAt0 m c t).2 (ix4 0 h d e) = NewRows.after (K m c) (W m c) (S m c) (seq t) h d e := by
  unfold outsAt0
  dsimp only
  unfold out0_A_11
  rw [last_A, View.read_writes_full]
  refine Eq.trans ?_ (next_of (loads m c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 h) d e)
  refine Eq.trans ?_ (kept_read _ _ _ _ scM0_0 _ scM0_0.view scM0_0.view.junk h d e 4 (le_refl _) h.isLt)
  unfold View.readCov
  rw [View.readAt_full]
  pointwise [k0_pay34]

/-- The results at the end … -/
def results : FVec Ideal S32x16x512 .bf16 := fun y => NewRows.padded (Q m c) (K m c) (W m c) (G m c) (S m c) (gain m c) (y 0) (y 1) (y 2)

/-- … and the state. -/
def state : FVec Ideal S32x4x128x128 .f32 := fun y => NewRows.after (K m c) (W m c) (S m c) (y 0) (y 1) (y 2) (y 3)

theorem final10 : (dats m 0 c).arrAt 10 (cfgs 0).N = results m c := by
  refine (dats m 0 c).arrAt_eq_of_covers 10 _ (by decide +kernel) fun t _ y => ?_
  blk_simp
  rw [after0_10]
  idx_vars y
  have e : (((cfg0.win 10).blk t).view.emb (ix3 y0 y1 y2) : S32x16x512.Idx) = ix3 (seq t) y1 y2 := by
    blk_ext [idx t]
  rw [e, show y0 = 0 from Subsingleton.elim _ _]
  exact rows_left m c t y1 y2

theorem final11 : (dats m 0 c).arrAt 11 (cfgs 0).N = state m c := by
  refine (dats m 0 c).arrAt_eq_of_covers 11 _ (by decide +kernel) fun t _ y => ?_
  blk_simp
  rw [after0_11]
  idx_vars y
  have e : (((cfg0.win 11).blk t).view.emb (ix4 y0 y1 y2 y3) : S32x4x128x128.Idx) = ix4 (seq t) y1 y2 y3 := by
    blk_ext [idx t]
  rw [e, show y0 = 0 from Subsingleton.elim _ _]
  exact state_left m c t y1 y2 y3

end Cert.RetNewIdeal.Out

end
-- ==== Proof.NewRef.lean ====
/-
  The reference's retention of the sample: its state and its results, an entry each.
-/
module

public import proofs.«01_k».proof.Proof.Gen.RetNewRefIdeal.Run
public import proofs.«01_k».proof.Proof.NewSpec
public import Idealize.ShloMosaic.Lib.Pipeline.ValueKit
public import Idealize.ShloMosaic.Lib.Claim

@[expose] public section

set_option maxRecDepth 16384

noncomputable section

namespace Cert.RetNewRefIdeal.Rows

open Cert Cert.RetNewRefIdeal Cert.RetNewRefIdeal.Gen Cert.RetNewRefIdeal.Value Idealize.ShloMosaic Idealize.ShloMosaic.TcCoe
  Idealize.SL.Sem Idealize.ShloMosaic.StableHlo

variable (m : (ℓ : Loc nD τ sig) → Buf (Elt Ideal) ℓ) (c : Dev nD)

abbrev Q (r : Fin 128) (j : Fin 512) : EReal := (m ((c : Thread nD τ).loc main_arg0) : FVec Ideal S128x512 .bf16) (ix2 r j)
abbrev K (r : Fin 128) (j : Fin 512) : EReal := (m ((c : Thread nD τ).loc main_arg1) : FVec Ideal S128x512 .bf16) (ix2 r j)
abbrev W (r : Fin 128) (j : Fin 512) : EReal := (m ((c : Thread nD τ).loc main_arg2) : FVec Ideal S128x512 .bf16) (ix2 r j)
abbrev G (r : Fin 128) (j : Fin 512) : EReal := (m ((c : Thread nD τ).loc main_arg3) : FVec Ideal S128x512 .bf16) (ix2 r j)

/-- The state a sequence comes with. -/
abbrev S (b : Fin 32) (h : Fin 4) (d e : Fin 128) : EReal := (m ((c : Thread nD τ).loc main_arg4) : FVec Ideal S32x4x128x128 .f32) (ix4 b h d e)

/-- The gain of a head's lane. -/
abbrev gain (h : Fin 4) (d : Fin 128) : EReal := (m ((c : Thread nD τ).loc main_arg5) : FVec Ideal S4x128 .f32) (ix2 h d)

section entries

variable (q k v y : FVec Ideal S32x4x4x128 .f32) (s n : FVec Ideal S32x4x128x128 .f32) (D : FVec Ideal S32x4x4x4 .f32) (w : FVec Ideal S128x512 .bf16)
  (b : Fin 32) (i h : Fin 4) (d e : Fin 128)

/-- The rows of an array, by sequence and head. -/
theorem rows_at : (shapeCast S32x4x4x128 (extf .f32 w bitsLt_bf16_f32) shapeCasts_S128x512_S32x4x4x128 : FVec Ideal S32x4x4x128 .f32) (ix4 b i h d)
    = w (ix2 ⟨b.val * 4 + i.val, by omega⟩ ⟨h.val * 128 + d.val, by omega⟩) := by
  pointwise

/-- What the rows make of one another … -/
theorem within_at : (transpose S32x4x4x128 [0, 3, 1, 2] (Host.dotGeneral dot_S32x4x4x128_S32x4x4x4_S32x4x128x4_1_3_3_2_02_01 none v
      (mulf (Host.dotGeneral dot_S32x4x4x128_S32x4x4x128_S32x4x4x4_3_3_1_1_02_02 none q k) D)) transposes_S32x4x128x4_S32x4x4x128_0_3_1_2 : FVec Ideal S32x4x4x128 .f32) (ix4 b i h e)
    = ∑ j : Fin 4, ((∑ x : Fin 128, q (ix4 b i h x) * k (ix4 b j h x)) * D (ix4 b h i j)) * v (ix4 b j h e) := by
  pointwise
  exact Finset.sum_congr rfl fun j _ => mul_comm _ _

/-- … and of the state. -/
theorem across_at : (mulf (transpose S32x4x4x128 [0, 3, 1, 2] (Host.dotGeneral dot_S32x4x128x128_S32x4x4x128_S32x4x128x4_2_3_3_1_01_02 none s q)
      transposes_S32x4x128x4_S32x4x4x128_0_3_1_2) y : FVec Ideal S32x4x4x128 .f32) (ix4 b i h e)
    = (∑ x : Fin 128, q (ix4 b i h x) * s (ix4 b h x e)) * y (ix4 b i h e) := by
  pointwise
  exact congrArg (· * _) (Finset.sum_congr rfl fun x _ => mul_comm _ _)

/-- The state's update. -/
theorem update_at : (addf (mulf n s) (Host.dotGeneral dot_S32x4x4x128_S32x4x4x128_S32x4x128x128_1_1_3_3_02_02 none (mulf k y) v) : FVec Ideal S32x4x128x128 .f32) (ix4 b h d e)
    = n (ix4 b h d e) * s (ix4 b h d e) + ∑ j : Fin 4, (k (ix4 b j h d) * y (ix4 b j h d)) * v (ix4 b j h e) := by
  pointwise

/-- The norm over a head's lanes. -/
theorem normed_at (f : Fin 128 → EReal) (hf : ∀ x, y (ix4 b i h x) = f x) : (mulf y (broadcastInDim S32x4x4x128 ![0, 1, 2, 3] bcast_S32x4x4x1_S32x4x4x128_0_1_2_3
      (Host.rsqrt (addf (Host.divf (broadcastInDim S32x4x4x1 ![0, 1, 2] bcast_S32x4x4_S32x4x4x1_0_1_2 (Host.reduceAdd (mulf y y)
        (constant S_ .f32 0x00000000#32) reducesTo_S32x4x4x128_S32x4x4_d3 h_S_)) (broadcastInDim S32x4x4x1 ![] bcast_S_S32x4x4x1 (constant S_ .f32 0x43000000#32)))
        (broadcastInDim S32x4x4x1 ![] bcast_S_S32x4x4x1 (constant S_ .f32 0x358637BD#32))))) : FVec Ideal S32x4x4x128 .f32) (ix4 b i h d)
    = f d * Ideal.rsqrt (Ideal.div (∑ x : Fin 128, f x * f x) (Ideal.ofBits .f32 1124073472#32) + Ideal.ofBits .f32 897988541#32) := by
  simp only [← hf]
  pointwise

/-- The gain and the gate. -/
theorem gated_at (g : FVec Ideal S4x128 .f32) (j : Fin 512) : (truncf .bf16 (mulf (shapeCast S32x4x512 (mulf y
      (broadcastInDim S32x4x4x128 ![0, 1, 2, 3] bcast_S1x1x4x128_S32x4x4x128_0_1_2_3 (broadcastInDim S1x1x4x128 ![2, 3] bcast_S4x128_S1x1x4x128_2_3 g)))
      shapeCasts_S32x4x4x128_S32x4x512) (shapeCast S32x4x512 (extf .f32 w bitsLt_bf16_f32) shapeCasts_S128x512_S32x4x512))
      bitsLt_bf16_f32 : FVec Ideal S32x4x512 .bf16) (ix3 b i j)
    = y (ix4 b i ⟨j.val / 128, by omega⟩ ⟨j.val % 128, Nat.mod_lt _ (by decide)⟩)
      * g (ix2 ⟨j.val / 128, by omega⟩ ⟨j.val % 128, Nat.mod_lt _ (by decide)⟩) * w (ix2 ⟨b.val * 4 + i.val, by omega⟩ j) := by
  pointwise

end entries

/-- A lane is its head's lane. -/
theorem lane (X : Fin 128 → Fin 512 → EReal) (r : Fin 128) (j : Fin 512) :
    X r j = X r ⟨j.val / 128 * 128 + j.val % 128, by omega⟩ :=
  congrArg (X r) (Fin.ext (by show j.val = j.val / 128 * 128 + j.val % 128; omega))

theorem results_at (b : Fin 32) (i : Fin 16) (j : Fin 512) : (show FVec Ideal S32x16x512 .bf16 from res_main_v88 m c) (ix3 b i j)
    = NewRows.padded (Q m c) (K m c) (W m c) (G m c) (S m c) (gain m c) b i j := by
  unfold res_main_v88
  dsimp only
  refine Eq.trans (NewRows.pad_at _ _ _ _ b i j) ?_
  unfold NewRows.padded
  split
  next hi =>
    refine (gated_at _ _ b ⟨i.val, hi⟩ _ j).trans ?_
    refine congrArg₂ (· * ·) (congrArg (· * _) ?_) (lane (G m c) _ j)
    refine normed_at _ b ⟨i.val, hi⟩ _ _ (fun e => NewRows.raw (Q m c) (K m c) (W m c) (S m c) b ⟨j.val / 128, by omega⟩ ⟨i.val, hi⟩ e) fun e => ?_
    refine congrArg₂ (· + ·) ?_ ?_
    · refine (within_at _ _ _ _ b ⟨i.val, hi⟩ _ e).trans (Finset.sum_congr rfl fun j _ => ?_)
      refine congrArg₂ (· * ·) (congrArg₂ (· * ·) (Finset.sum_congr rfl fun x _ => congrArg₂ (· * ·) (rows_at _ b _ _ x) (rows_at _ b j _ x)) ?_) (rows_at _ b j _ e)
      simp only [id_eq]
      pointwise
      rfl
    · refine (across_at _ _ _ b ⟨i.val, hi⟩ _ e).trans ?_
      refine congrArg₂ (· * ·) (Finset.sum_congr rfl fun x _ => congrArg (· * _) (rows_at _ b _ _ x)) ?_
      pointwise
      rfl
  next hi => exact NewRows.zero_fill _ _

/-- The run, with the state an entry at a time. -/
theorem run (ρ : Dev nD → PrngReg) : θ_run defs (onTc (τ := τ) (main (F := Ideal))) ⟨m, fun _ => 0, ρ⟩ fun r => ∀ c : Dev nD,
    r.2.mem ((c : Thread nD τ).loc main_v88) = res_main_v88 m c
    ∧ (∀ (b : Fin 32) (h : Fin 4) (d e : Fin 128), (r.2.mem ((c : Thread nD τ).loc main_v68) : FVec Ideal S32x4x128x128 .f32) (ix4 b h d e)
        = NewRows.after (K m c) (W m c) (S m c) b h d e)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) := by
  refine (θ_run _ _ _).mono (fun r H c => ?_) (Cert.RetNewRefIdeal.Value.run m ρ)
  obtain ⟨h0, h1, rest⟩ := H c
  refine ⟨h0, fun b h d e => (congrFun h1 _).trans ?_, rest⟩
  refine (update_at _ _ _ _ _ b h d e).trans ?_
  refine congrArg₂ (· + ·) (congrArg (· * _) ?_) (Finset.sum_congr rfl fun j _ => congrArg₂ (· * ·) (congrArg₂ (· * ·) (rows_at _ b j h d) ?_) (rows_at _ b j h e))
  · pointwise
    rfl
  · pointwise
    rfl

end Cert.RetNewRefIdeal.Rows

end
-- ==== Proof.NewEq.lean ====
/-
  The sample's retention and its reference leave the same results and the same state.
-/
module

public import proofs.«01_k».proof.Defs
public import proofs.«01_k».proof.Proof.NewOut
public import proofs.«01_k».proof.Proof.NewRef
public import Idealize.ShloMosaic.Adequacy
public import Idealize.ShloMosaic.Init

@[expose] public section

set_option maxRecDepth 16384

noncomputable section

namespace Cert.SampleRetention

open Idealize.ShloMosaic Idealize.ShloMosaic.TcCoe Idealize.SL.Sem

/-- The reference leaves its arguments and its counters alone. -/
theorem reference_frame : Cert.quiescent_RetNewRefIdeal := by
  intro m g _
  exact (θ_run _ _ _).mono (fun r h => ⟨fun c => (h c).2.2, sem_eq_zero_of_no_sems (by decide) r.2⟩) (Cert.RetNewRefIdeal.Value.run m g)

theorem algebraic : Cert.algebraic_RetNewIdeal_RetNewRefIdeal := by
  intro m g m' g' _ hagree
  refine ⟨fun c => RetNewIdeal.Out.results m c, fun c => RetNewIdeal.Out.state m c, ?_, ?_⟩
  · refine (θ_run _ _ _).mono (fun r h c => ?_) (Cert.RetNewIdeal.Value.run_blocks m g)
    obtain ⟨h0, h1, rest⟩ := h c
    exact ⟨h0.trans (RetNewIdeal.Out.final10 m c), h1.trans (RetNewIdeal.Out.final11 m c), rest⟩
  · refine (θ_run _ _ _).mono (fun r h c => ?_) (Cert.RetNewRefIdeal.Rows.run m' g')
    obtain ⟨e0, e1, e2, e3, e4, e5⟩ := hagree c
    have hQ : RetNewRefIdeal.Rows.Q m' c = RetNewIdeal.In.Q m c := funext fun i => funext fun j => congrFun e0 _
    have hK : RetNewRefIdeal.Rows.K m' c = RetNewIdeal.In.K m c := funext fun i => funext fun j => congrFun e1 _
    have hW : RetNewRefIdeal.Rows.W m' c = RetNewIdeal.In.W m c := funext fun i => funext fun j => congrFun e2 _
    have hG : RetNewRefIdeal.Rows.G m' c = RetNewIdeal.In.G m c := funext fun i => funext fun j => congrFun e3 _
    have hS : RetNewRefIdeal.Rows.S m' c = RetNewIdeal.In.S m c := funext fun b => funext fun h => funext fun d => funext fun e => congrFun e4 _
    have hg : RetNewRefIdeal.Rows.gain m' c = RetNewIdeal.In.gain m c := funext fun i => funext fun j => congrFun e5 _
    obtain ⟨h0, h1, rest⟩ := h c
    refine ⟨h0.trans (funext fun y => ?_), funext fun y => ?_, rest⟩
    · idx_vars y
      refine (Cert.RetNewRefIdeal.Rows.results_at m' c y0 y1 y2).trans ?_
      rw [hQ, hK, hW, hG, hS, hg]
      rfl
    · idx_vars y
      refine (h1 y0 y1 y2 y3).trans ?_
      rw [hK, hW, hS]
      rfl

end Cert.SampleRetention

end
-- ==== Proof.lean ====
/-
  The proof of `Cert.Claim`: the frames, the named mask, and the equations of the attention, the projection, the
  merge and the two retentions with their references.
-/
module

public import proofs.«01_k».proof.Defs
public import proofs.«01_k».proof.Proof.Gen.Attn.Frame
public import proofs.«01_k».proof.Proof.Attention
public import proofs.«01_k».proof.Proof.Gen.Merge.Frame
public import proofs.«01_k».proof.Proof.MergeOut
public import proofs.«01_k».proof.Proof.ProjSame
public import proofs.«01_k».proof.Proof.ProjEq
public import proofs.«01_k».proof.Proof.Gen.Ret.Frame
public import proofs.«01_k».proof.Proof.RetEq
public import proofs.«01_k».proof.Proof.Gen.RetNew.Frame
public import proofs.«01_k».proof.Proof.NewEq
public import Idealize.ShloMosaic.Adequacy
public import Idealize.ShloMosaic.Init

@[expose] public section

noncomputable section

namespace Cert.Proof

open Idealize.ShloMosaic Idealize.SL.Sem

theorem claim : Cert.Claim :=
  ⟨Cert.Attn.Gen.facts, Cert.AttnIdeal.Gen.facts, Cert.AttnRefIdeal.Gen.facts,
    Cert.Merge.Gen.facts, Cert.MergeIdeal.Gen.facts, Cert.MergeRefIdeal.Gen.facts,
    Cert.Proj.Gen.facts, Cert.ProjIdeal.Gen.facts, Cert.ProjRefIdeal.Gen.facts,
    Cert.Ret.Gen.facts, Cert.RetIdeal.Gen.facts, Cert.RetRefIdeal.Gen.facts,
    Cert.RetNew.Gen.facts, Cert.RetNewIdeal.Gen.facts, Cert.RetNewRefIdeal.Gen.facts, Cert.Finite.facts, Cert.Proj.facts,
    fun m g _ => Cert.Attn.Gen.frame m g,
    fun m g _ => Cert.AttnIdeal.Gen.frame m g,
    fun m g _ => Cert.AttnIdeal.Gen.frame m g,
    fun m g _ => Cert.Attention.reference_frame m g trivial,
    fun m g _ => Cert.Attention.reference_frame m g trivial,
    fun m g _ => Cert.Merge.Gen.frame m g,
    fun m g _ => Cert.MergeIdeal.Gen.frame m g,
    Cert.Merge.reference_frame,
    fun m g _ => (Eq.mpr (Cert.Proj.frame_same Bits) fun m g => Cert.ProjIdeal.Gen.frame m g) m g,
    fun m g _ => Cert.ProjIdeal.Gen.frame m g,
    fun m g _ => Cert.ProjIdeal.Gen.frame m g,
    fun m g _ => Cert.Proj.reference_frame m g trivial,
    fun m g _ => Cert.Proj.reference_frame m g trivial,
    fun m g _ => Cert.Ret.Gen.frame m g,
    fun m g _ => Cert.RetIdeal.Gen.frame m g,
    Cert.Retention.reference_frame,
    fun m g _ => Cert.RetNew.Gen.frame m g,
    fun m g _ => Cert.RetNewIdeal.Gen.frame m g,
    Cert.SampleRetention.reference_frame,
    IdealRules.named_const.statement Cert.AttnIdeal.κ "mask" .f32 0xF149F2CA#32 ⊥ rfl,
    Cert.Attention.algebraic,
    trivial,
    Cert.Merge.algebraic,
    trivial,
    Cert.Proj.algebraic,
    trivial,
    Cert.Retention.algebraic,
    trivial,
    Cert.SampleRetention.algebraic⟩

end Cert.Proof

end
